-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)) (v4 : (c : Dev Cert.KernelIdeal.nD) → Buf (Elt Ideal) ((c.tc : Thread Cert.KernelIdeal.nD Cert.KernelIdeal.τ).loc Cert.KernelIdeal.main_v8_4)) (v5 : (c : Dev Cert.KernelIdeal.nD) → Buf (Elt Ideal) ((c.tc : Thread Cert.KernelIdeal.nD Cert.KernelIdeal.τ).loc Cert.KernelIdeal.main_v8_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_v8_4) = v4 c
          ∧ r.2.mem ((c.tc : Thread Cert.KernelIdeal.nD Cert.KernelIdeal.τ).loc Cert.KernelIdeal.main_v8_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v227) = v0 c
          ∧ r.2.mem ((c.tc : Thread Cert.ReferenceIdeal.nD Cert.ReferenceIdeal.τ).loc Cert.ReferenceIdeal.main_v231) = v1 c
          ∧ r.2.mem ((c.tc : Thread Cert.ReferenceIdeal.nD Cert.ReferenceIdeal.τ).loc Cert.ReferenceIdeal.main_v138) = v2 c
          ∧ r.2.mem ((c.tc : Thread Cert.ReferenceIdeal.nD Cert.ReferenceIdeal.τ).loc Cert.ReferenceIdeal.main_v129) = v3 c
          ∧ r.2.mem ((c.tc : Thread Cert.ReferenceIdeal.nD Cert.ReferenceIdeal.τ).loc Cert.ReferenceIdeal.main_v123) = v4 c
          ∧ r.2.mem ((c.tc : Thread Cert.ReferenceIdeal.nD Cert.ReferenceIdeal.τ).loc Cert.ReferenceIdeal.main_v128) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_inputs_ok : Cert.Pre_inputs_ok.Facts),
    quiescent_Kernel (hKernel := hKernel)
    ∧ quiescent_KernelIdeal (hKernelIdeal := hKernelIdeal)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S2 : Shape := ⟨1, ![2]⟩
abbrev S2x4096x2 : Shape := ⟨3, ![2, 4096, 2]⟩
abbrev S4096x128 : Shape := ⟨2, ![4096, 128]⟩
abbrev S4096x4096 : Shape := ⟨2, ![4096, 4096]⟩
abbrev S_ : Shape := ⟨0, ![]⟩
abbrev S1 : Shape := ⟨1, ![1]⟩

class Facts : Prop where
  slices_S2_S1_0 : S2.Slices ![0] S1
  shapeCasts_S1_S_ : S1.ShapeCasts S_
  slices_S2_S1_1 : S2.Slices ![1] S1
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S2x4096x2 : S_.BroadcastsInDim S2x4096x2 (![] : Fin 0 → Fin S2x4096x2.rank)
  reducesTo_S2x4096x2_S_d0_1_2 : S2x4096x2.ReducesTo [0, 1, 2] S_

variable [Facts]

def fn_part1 {F : FTy → Type} [FloatOps F] (main_arg4 : FVec F S2x4096x2 .f32) (main_arg6 : FVec F S4096x4096 .f32) (main_arg7 : FVec F S4096x4096 .f32) (main_v22 : IVec S_ 1) (main_cst : FVec F S_ .f32) : IVec S_ 1 :=
  let main_v23 : FVec F S4096x4096 .f32 := broadcastInDim S4096x4096 ![] bcast_S_S4096x4096 main_cst
  let main_v24 : IVec S4096x4096 1 := cmpf .oeq main_arg6 main_v23
  let main_cst_0 : FVec F S_ .f32 := constant S_ .f32 0x3F800000#32
  let main_v25 : FVec F S4096x4096 .f32 := broadcastInDim S4096x4096 ![] bcast_S_S4096x4096 main_cst_0
  let main_v26 : IVec S4096x4096 1 := cmpf .oeq main_arg6 main_v25
  let main_cst_1 : FVec F S_ .f32 := constant S_ .f32 0xBF800000#32
  let main_v27 : FVec F S4096x4096 .f32 := broadcastInDim S4096x4096 ![] bcast_S_S4096x4096 main_cst_1
  let main_v28 : IVec S4096x4096 1 := cmpf .une main_arg7 main_v27
  let main_v29 : IVec S4096x4096 1 := andi main_v26 main_v28
  let main_v30 : IVec S4096x4096 1 := ori main_v24 main_v29
  let main_c : IVec S_ 1 := constantI S_ 1 1#1
  let main_v31 : IVec S_ 1 := (fun x v => Host.reduce IntOp.andi x v reducesTo_S4096x4096_S_d0_1 h_S_) main_v30 main_c
  let main_v32 : IVec S_ 1 := andi main_v22 main_v31
  let main_v33 : FVec F S2x4096x2 .f32 := Host.absf main_arg4
  let main_cst_2 : FVec F S_ .f32 := constant S_ .f32 0x7F800000#32
  let main_v34 : FVec F S2x4096x2 .f32 := broadcastInDim S2x4096x2 ![] bcast_S_S2x4096x2 main_cst_2
  let main_v35 : IVec S2x4096x2 1 := cmpf .olt main_v33 main_v34
  let main_c_3 : IVec S_ 1 := constantI S_ 1 1#1
  let main_v36 : IVec S_ 1 := (fun x v => Host.reduce IntOp.andi x v reducesTo_S2x4096x2_S_d0_1_2 h_S_) main_v35 main_c_3
  let main_v37 : IVec S_ 1 := andi main_v32 main_v36
  main_v37

def fn {F : FTy → Type} [FloatOps F] (main_arg0 : FVec F S2 .f32) (main_arg1 : FVec F S2 .f32) (main_arg2 : FVec F S2 .f32) (main_arg3 : FVec F S2 .f32) (main_arg4 : FVec F S2x4096x2 .f32) (main_arg5 : FVec F S4096x128 .f32) (main_arg6 : FVec F S4096x4096 .f32) (main_arg7 : FVec F S4096x4096 .f32) (main_arg8 : IVec S_ 32) (main_arg9 : IVec S_ 32) (main_arg10 : IVec S_ 32) : IVec S_ 1 :=
  let main_v0 : FVec F S1 .f32 := (extractStridedSlice S1 ![0] · slices_S2_S1_0) main_arg0
  let main_v1 : FVec F S_ .f32 := shapeCast S_ main_v0 shapeCasts_S1_S_
  let main_v2 : FVec F S1 .f32 := (extractStridedSlice S1 ![1] · slices_S2_S1_1) main_arg0
  let main_v3 : FVec F S_ .f32 := shapeCast S_ main_v2 shapeCasts_S1_S_
  let main_v4 : IVec S_ 1 := cmpf .oeq main_v1 main_v3
  let main_v5 : FVec F S1 .f32 := (extractStridedSlice S1 ![0] · slices_S2_S1_0) main_arg1
  let main_v6 : FVec F S_ .f32 := shapeCast S_ main_v5 shapeCasts_S1_S_
  let main_v7 : FVec F S1 .f32 := (extractStridedSlice S1 ![1] · slices_S2_S1_1) main_arg1
  let main_v8 : FVec F S_ .f32 := shapeCast S_ main_v7 shapeCasts_S1_S_
  let main_v9 : IVec S_ 1 := cmpf .oeq main_v6 main_v8
  let main_v10 : IVec S_ 1 := andi main_v4 main_v9
  let main_v11 : FVec F S1 .f32 := (extractStridedSlice S1 ![0] · slices_S2_S1_0) main_arg2
  let main_v12 : FVec F S_ .f32 := shapeCast S_ main_v11 shapeCasts_S1_S_
  let main_v13 : FVec F S1 .f32 := (extractStridedSlice S1 ![1] · slices_S2_S1_1) main_arg2
  let main_v14 : FVec F S_ .f32 := shapeCast S_ main_v13 shapeCasts_S1_S_
  let main_v15 : IVec S_ 1 := cmpf .oeq main_v12 main_v14
  let main_v16 : IVec S_ 1 := andi main_v10 main_v15
  let main_v17 : FVec F S1 .f32 := (extractStridedSlice S1 ![0] · slices_S2_S1_0) main_arg3
  let main_v18 : FVec F S_ .f32 := shapeCast S_ main_v17 shapeCasts_S1_S_
  let main_v19 : FVec F S1 .f32 := (extractStridedSlice S1 ![1] · slices_S2_S1_1) main_arg3
  let main_v20 : FVec F S_ .f32 := shapeCast S_ main_v19 shapeCasts_S1_S_
  let main_v21 : IVec S_ 1 := cmpf .oeq main_v18 main_v20
  let main_v22 : IVec S_ 1 := andi main_v16 main_v21
  let main_cst : FVec F S_ .f32 := constant S_ .f32 0x00000000#32
  fn_part1 (F := F) main_arg4 main_arg6 main_arg7 main_v22 main_cst
-- ==== Kernel.lean ====
abbrev S2 : Shape := ⟨1, ![2]⟩
abbrev S2x4096x2 : Shape := ⟨3, ![2, 4096, 2]⟩
abbrev S4096x128 : Shape := ⟨2, ![4096, 128]⟩
abbrev S4096x4096 : Shape := ⟨2, ![4096, 4096]⟩
abbrev S_ : Shape := ⟨0, ![]⟩
abbrev S1x2 : Shape := ⟨2, ![1, 2]⟩
abbrev S4x2 : Shape := ⟨2, ![4, 2]⟩
abbrev S1x4096x2 : Shape := ⟨3, ![1, 4096, 2]⟩
abbrev S4096x2 : Shape := ⟨2, ![4096, 2]⟩
abbrev S4096 : Shape := ⟨1, ![4096]⟩
abbrev S1x4096 : Shape := ⟨2, ![1, 4096]⟩
abbrev S1x1 : Shape := ⟨2, ![1, 1]⟩
abbrev S2x512x4096 : Shape := ⟨3, ![2, 512, 4096]⟩
abbrev S2x512x128 : Shape := ⟨3, ![2, 512, 128]⟩
abbrev S1 : Shape := ⟨1, ![1]⟩
abbrev S1x512x4096 : Shape := ⟨3, ![1, 512, 4096]⟩
abbrev S512x4096 : Shape := ⟨2, ![512, 4096]⟩
abbrev S512x128 : Shape := ⟨2, ![512, 128]⟩
abbrev S512 : Shape := ⟨1, ![512]⟩
abbrev S512x1 : Shape := ⟨2, ![512, 1]⟩
abbrev S1x512 : Shape := ⟨2, ![1, 512]⟩
abbrev S1x512x128 : Shape := ⟨3, ![1, 512, 128]⟩

abbrev nBuf : Space → Nat
  | .hbm => 34
  | .vmem => 12
  | .smem => 1
  | _ => 0

abbrev bufTy : (tb : Table) → Fin (tcTables nBuf tb) → BufTy
  | .hbm, ⟨0, _⟩ => ⟨S2, .f32⟩
  | .hbm, ⟨1, _⟩ => ⟨S2, .f32⟩
  | .hbm, ⟨2, _⟩ => ⟨S2, .f32⟩
  | .hbm, ⟨3, _⟩ => ⟨S2, .f32⟩
  | .hbm, ⟨4, _⟩ => ⟨S2x4096x2, .f32⟩
  | .hbm, ⟨5, _⟩ => ⟨S4096x128, .f32⟩
  | .hbm, ⟨6, _⟩ => ⟨S4096x4096, .f32⟩
  | .hbm, ⟨7, _⟩ => ⟨S4096x4096, .f32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S1x2, .f32⟩
  | .hbm, ⟨12, _⟩ => ⟨S1x2, .f32⟩
  | .hbm, ⟨13, _⟩ => ⟨S1x2, .f32⟩
  | .hbm, ⟨14, _⟩ => ⟨S1x2, .f32⟩
  | .hbm, ⟨15, _⟩ => ⟨S4x2, .f32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S1x4096x2, .f32⟩
  | .hbm, ⟨24, _⟩ => ⟨S4096x2, .f32⟩
  | .hbm, ⟨25, _⟩ => ⟨S_, .f32⟩
  | .hbm, ⟨26, _⟩ => ⟨S4096, .f32⟩
  | .hbm, ⟨27, _⟩ => ⟨S1x4096, .f32⟩
  | .hbm, ⟨28, _⟩ => ⟨S4096x4096, .f32⟩
  | .hbm, ⟨29, _⟩ => ⟨S4096x128, .f32⟩
  | .hbm, ⟨30, _⟩ => ⟨S4096x128, .f32⟩
  | .hbm, ⟨31, _⟩ => ⟨S4096x128, .f32⟩
  | .hbm, ⟨32, _⟩ => ⟨S4096x128, .f32⟩
  | .hbm, ⟨33, _⟩ => ⟨S4096x128, .f32⟩
  | .local _ .vmem, ⟨0, _⟩ => ⟨S4096x128, .f32⟩
  | .local _ .vmem, ⟨1, _⟩ => ⟨S1x4096, .f32⟩
  | .local _ .vmem, ⟨2, _⟩ => ⟨S4096x4096, .i8⟩
  | .local _ .vmem, ⟨3, _⟩ => ⟨S4096x128, .f32⟩
  | .local _ .vmem, ⟨4, _⟩ => ⟨S2x512x4096, .f32⟩
  | .local _ .vmem, ⟨5, _⟩ => ⟨S2x512x128, .f32⟩
  | .local _ .vmem, ⟨6, _⟩ => ⟨S2x512x128, .f32⟩
  | .local _ .vmem, ⟨7, _⟩ => ⟨S2x512x128, .f32⟩
  | .local _ .vmem, ⟨8, _⟩ => ⟨S2x512x128, .f32⟩
  | .local _ .vmem, ⟨9, _⟩ => ⟨S2x512x128, .f32⟩
  | .local _ .vmem, ⟨10, _⟩ => ⟨S2x512x4096, .f32⟩
  | .local _ .vmem, ⟨11, _⟩ => ⟨S2x512x4096, .f32⟩
  | .local _ .smem, ⟨0, _⟩ => ⟨S4x2, .f32⟩
  | _, _ => ⟨S2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call0_c : Ref sig .tc := ⟨.hbm, 16, rfl⟩
abbrev main_call0_v0 : Ref sig .tc := ⟨.hbm, 17, rfl⟩
abbrev main_call0_c_0 : Ref sig .tc := ⟨.hbm, 18, rfl⟩
abbrev main_call0_v1 : Ref sig .tc := ⟨.hbm, 19, rfl⟩
abbrev main_call0_v2 : Ref sig .tc := ⟨.hbm, 20, rfl⟩
abbrev main_call0_c_1 : Ref sig .tc := ⟨.hbm, 21, rfl⟩
abbrev main_call0_c_2 : Ref sig .tc := ⟨.hbm, 22, rfl⟩
abbrev main_call0_v3 : Ref sig .tc := ⟨.hbm, 23, rfl⟩
abbrev main_v5 : Ref sig .tc := ⟨.hbm, 24, rfl⟩
abbrev main_cst : Ref sig .tc := ⟨.hbm, 25, rfl⟩
abbrev main_v6 : Ref sig .tc := ⟨.hbm, 26, rfl⟩
abbrev main_v7 : Ref sig .tc := ⟨.hbm, 27, rfl⟩
abbrev main_v8_0 : Ref sig .tc := ⟨.hbm, 28, rfl⟩
abbrev main_v8_1 : Ref sig .tc := ⟨.hbm, 29, rfl⟩
abbrev main_v8_2 : Ref sig .tc := ⟨.hbm, 30, rfl⟩
abbrev main_v8_3 : Ref sig .tc := ⟨.hbm, 31, rfl⟩
abbrev main_v8_4 : Ref sig .tc := ⟨.hbm, 32, rfl⟩
abbrev main_v8_5 : Ref sig .tc := ⟨.hbm, 33, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scoped0 : Ref sig .tc := ⟨.vmem, 4, rfl⟩
abbrev cc0_scoped2 : Ref sig .tc := ⟨.vmem, 5, rfl⟩
abbrev cc0_scoped4 : Ref sig .tc := ⟨.vmem, 6, rfl⟩
abbrev cc0_scoped6 : Ref sig .tc := ⟨.vmem, 7, rfl⟩
abbrev cc0_scoped8 : Ref sig .tc := ⟨.vmem, 8, rfl⟩
abbrev cc0_scoped10 : Ref sig .tc := ⟨.vmem, 9, rfl⟩
abbrev cc0_scoped12 : Ref sig .tc := ⟨.vmem, 10, rfl⟩
abbrev cc0_scoped14 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

def k0_off1 : Fin 1 → Nat :=
  let c0_i32_22_r0 : BitVec 32 := 0#32
  let c2_i32_r0 : BitVec 32 := 2#32
  let v26_r0 : BitVec 32 := Scalar.remui c0_i32_22_r0 c2_i32_r0
  ![v26_r0.toNat]
def k0_off2 : Fin 3 → Nat :=
  let c0_i32_22_r0 : BitVec 32 := 0#32
  let c2_i32_r0 : BitVec 32 := 2#32
  let v26_r0 : BitVec 32 := Scalar.remui c0_i32_22_r0 c2_i32_r0
  let c0_i32_23_r0 : BitVec 32 := 0#32
  let c0_i32_24_r0 : BitVec 32 := 0#32
  ![v26_r0.toNat, 0, 0]
@[reducible] def k0_t1_loop : Scf.Loop 32 :=
  let c0_i32_41_r0 : BitVec 32 := 0#32
  let c8_i32_42_r0 : BitVec 32 := 8#32
  let v33_r0 : BitVec 32 := Scalar.addi c0_i32_41_r0 c8_i32_42_r0
  let c1_i32_43_r0 : BitVec 32 := 1#32
  ⟨c0_i32_41_r0, v33_r0, c1_i32_43_r0⟩
def k0_off3 (arg14_r0 : BitVec 32) : Fin 1 → Nat :=
  let c2_i32_214_r0 : BitVec 32 := 2#32
  let v342_r0 : BitVec 32 := Scalar.remui arg14_r0 c2_i32_214_r0
  ![v342_r0.toNat]
def k0_cond1 (k0_t1 : Fin k0_t1_loop.trips) (arg26_r0 : BitVec 32) : BitVec 1 :=
  let c0_i32_91_r0 : BitVec 32 := 0#32
  let v92_r0 : BitVec 32 := Scalar.addi arg26_r0 c0_i32_91_r0
  let true_98_r0 : BitVec 1 := 1#1
  let c1_i32_97_r0 : BitVec 32 := 1#32
  let v98_r0 : BitVec 32 := Scalar.addi arg26_r0 c1_i32_97_r0
  let v99_r0 : BitVec 32 := Scalar.select true_98_r0 v98_r0 arg26_r0
  let c8_i32_99_r0 : BitVec 32 := 8#32
  let v100_r0 : BitVec 1 := Scalar.cmpi .eq v99_r0 c8_i32_99_r0
  let c0_i32_100_r0 : BitVec 32 := 0#32
  let v101_r0 : BitVec 32 := Scalar.select v100_r0 c0_i32_100_r0 v99_r0
  let c0_i32_101_r0 : BitVec 32 := 0#32
  let v102_r0 : BitVec 32 := Scalar.addi v101_r0 c0_i32_101_r0
  let v108_r0 : BitVec 1 := Scalar.cmpi .ne v92_r0 v102_r0
  let c0_i32_41_r0 : BitVec 32 := 0#32
  let c1_i32_43_r0 : BitVec 32 := 1#32
  let arg13_r0 : BitVec 32 := Scf.iv c0_i32_41_r0 c1_i32_43_r0 k0_t1
  let c7_i32_107_r0 : BitVec 32 := 7#32
  let v109_r0 : BitVec 1 := Scalar.cmpi .sge arg13_r0 c7_i32_107_r0
  let true_108_r0 : BitVec 1 := 1#1
  let v110_r0 : BitVec 1 := Scalar.xori v109_r0 true_108_r0
  let v111_r0 : BitVec 1 := Scalar.andi v108_r0 v110_r0
  let true_109_r0 : BitVec 1 := 1#1
  let v112_r0 : BitVec 1 := Scalar.andi v111_r0 true_109_r0
  let v113_r0 : BitVec 32 := Scalar.extui v112_r0
  let c0_i32_110_r0 : BitVec 32 := 0#32
  let v114_r0 : BitVec 1 := Scalar.cmpi .ne v113_r0 c0_i32_110_r0
  v114_r0

def k0_off4 (arg14_r0 : BitVec 32) : Fin 3 → Nat :=
  let c2_i32_214_r0 : BitVec 32 := 2#32
  let v342_r0 : BitVec 32 := Scalar.remui arg14_r0 c2_i32_214_r0
  let c0_i32_216_r0 : BitVec 32 := 0#32
  let c0_i32_217_r0 : BitVec 32 := 0#32
  ![v342_r0.toNat, 0, 0]
def k0_off5 (arg26_r0 : BitVec 32) : Fin 2 → Nat :=
  let c512_i32_215_r0 : BitVec 32 := 512#32
  let true_98_r0 : BitVec 1 := 1#1
  let c1_i32_97_r0 : BitVec 32 := 1#32
  let v98_r0 : BitVec 32 := Scalar.addi arg26_r0 c1_i32_97_r0
  let v99_r0 : BitVec 32 := Scalar.select true_98_r0 v98_r0 arg26_r0
  let c8_i32_99_r0 : BitVec 32 := 8#32
  let v100_r0 : BitVec 1 := Scalar.cmpi .eq v99_r0 c8_i32_99_r0
  let c0_i32_100_r0 : BitVec 32 := 0#32
  let v101_r0 : BitVec 32 := Scalar.select v100_r0 c0_i32_100_r0 v99_r0
  let c0_i32_101_r0 : BitVec 32 := 0#32
  let v102_r0 : BitVec 32 := Scalar.addi v101_r0 c0_i32_101_r0
  let v343_r0 : BitVec 32 := Scalar.muli c512_i32_215_r0 v102_r0
  let c0_i32_218_r0 : BitVec 32 := 0#32
  ![v343_r0.toNat, 0]
def k0_off6 (arg15_r0 : BitVec 32) : Fin 1 → Nat :=
  let c2_i32_215_r0 : BitVec 32 := 2#32
  let v343_r0 : BitVec 32 := Scalar.remui arg15_r0 c2_i32_215_r0
  ![v343_r0.toNat]
def k0_cond2 (k0_t1 : Fin k0_t1_loop.trips) (arg26_r0 : BitVec 32) : BitVec 1 :=
  let c0_i32_91_r0 : BitVec 32 := 0#32
  let v92_r0 : BitVec 32 := Scalar.addi arg26_r0 c0_i32_91_r0
  let true_93_r0 : BitVec 1 := 1#1
  let c1_i32_92_r0 : BitVec 32 := 1#32
  let v93_r0 : BitVec 32 := Scalar.subi arg26_r0 c1_i32_92_r0
  let v94_r0 : BitVec 32 := Scalar.select true_93_r0 v93_r0 arg26_r0
  let c_m1_i32_94_r0 : BitVec 32 := 4294967295#32
  let v95_r0 : BitVec 1 := Scalar.cmpi .eq v94_r0 c_m1_i32_94_r0
  let c7_i32_95_r0 : BitVec 32 := 7#32
  let v96_r0 : BitVec 32 := Scalar.select v95_r0 c7_i32_95_r0 v94_r0
  let c0_i32_96_r0 : BitVec 32 := 0#32
  let v97_r0 : BitVec 32 := Scalar.addi v96_r0 c0_i32_96_r0
  let v138_r0 : BitVec 1 := Scalar.cmpi .ne v92_r0 v97_r0
  let c0_i32_41_r0 : BitVec 32 := 0#32
  let c1_i32_43_r0 : BitVec 32 := 1#32
  let arg13_r0 : BitVec 32 := Scf.iv c0_i32_41_r0 c1_i32_43_r0 k0_t1
  let c0_i32_89_r0 : BitVec 32 := 0#32
  let v90_r0 : BitVec 1 := Scalar.cmpi .eq arg13_r0 c0_i32_89_r0
  let v139_r0 : BitVec 1 := Scalar.ori v138_r0 v90_r0
  let c0_i32_123_r0 : BitVec 32 := 0#32
  let v140_r0 : BitVec 1 := Scalar.cmpi .sge arg13_r0 c0_i32_123_r0
  let v141_r0 : BitVec 1 := Scalar.andi v139_r0 v140_r0
  let v142_r0 : BitVec 32 := Scalar.extui v141_r0
  let c0_i32_124_r0 : BitVec 32 := 0#32
  let v143_r0 : BitVec 1 := Scalar.cmpi .ne v142_r0 c0_i32_124_r0
  v143_r0

def k0_off7 (arg15_r0 : BitVec 32) : Fin 3 → Nat :=
  let c2_i32_215_r0 : BitVec 32 := 2#32
  let v343_r0 : BitVec 32 := Scalar.remui arg15_r0 c2_i32_215_r0
  let c0_i32_216_r0 : BitVec 32 := 0#32
  let c0_i32_217_r0 : BitVec 32 := 0#32
  ![v343_r0.toNat, 0, 0]
def k0_off8 (arg26_r0 : BitVec 32) : Fin 2 → Nat :=
  let c512_i32_214_r0 : BitVec 32 := 512#32
  let c0_i32_91_r0 : BitVec 32 := 0#32
  let v92_r0 : BitVec 32 := Scalar.addi arg26_r0 c0_i32_91_r0
  let v342_r0 : BitVec 32 := Scalar.muli c512_i32_214_r0 v92_r0
  let c0_i32_218_r0 : BitVec 32 := 0#32
  ![v342_r0.toNat, 0]
def k0_off9 (arg15_r0 : BitVec 32) : Fin 3 → Nat :=
  let c2_i32_135_r0 : BitVec 32 := 2#32
  let v174_r0 : BitVec 32 := Scalar.remui arg15_r0 c2_i32_135_r0
  let v180_r0 : Index := Scalar.indexCast v174_r0
  let c0_141_r0 : Index := 0#32
  let c0_142_r0 : Index := 0#32
  ![v180_r0.toNat, 0, 0]

def k0_chk2 (arg15_r0 : BitVec 32) : Prop :=
  (∀ a, (k0_off9 arg15_r0) a + S1x512x4096.size a ≤ S2x512x4096.size a)
theorem k0_off9_inb : ∀ (arg15_r0 : BitVec 32) (k0_hw2 : k0_chk2 arg15_r0), ∀ a, (k0_off9 arg15_r0) a + S1x512x4096.size a ≤ S2x512x4096.size a := fun arg15_r0 k0_hw2 => k0_hw2

def k0_off10 (arg26_r0 : BitVec 32) : Fin 2 → Nat :=
  let c0_i32_91_r0 : BitVec 32 := 0#32
  let v92_r0 : BitVec 32 := Scalar.addi arg26_r0 c0_i32_91_r0
  let c512_i32_144_r0 : BitVec 32 := 512#32
  let v186_r0 : BitVec 32 := Scalar.muli v92_r0 c512_i32_144_r0
  let v187_r0 : Index := Scalar.indexCast v186_r0
  let c0_145_r0 : Index := 0#32
  ![v187_r0.toNat, 0]
def k0_off11 (arg26_r0 : BitVec 32) : Fin 2 → Nat :=
  let c0_i32_91_r0 : BitVec 32 := 0#32
  let v92_r0 : BitVec 32 := Scalar.addi arg26_r0 c0_i32_91_r0
  let c512_i32_149_r0 : BitVec 32 := 512#32
  let v193_r0 : BitVec 32 := Scalar.muli v92_r0 c512_i32_149_r0
  let v194_r0 : Index := Scalar.indexCast v193_r0
  let c0_150_r0 : Index := 0#32
  ![v194_r0.toNat, 0]
def k0_off12 (arg26_r0 : BitVec 32) : Fin 2 → Nat :=
  let c0_157_r0 : Index := 0#32
  let c0_i32_91_r0 : BitVec 32 := 0#32
  let v92_r0 : BitVec 32 := Scalar.addi arg26_r0 c0_i32_91_r0
  let c512_i32_156_r0 : BitVec 32 := 512#32
  let v216_r0 : BitVec 32 := Scalar.muli v92_r0 c512_i32_156_r0
  let v217_r0 : Index := Scalar.indexCast v216_r0
  ![0, v217_r0.toNat]
def k0_off13 (arg16_r0 : BitVec 32) : Fin 3 → Nat :=
  let c2_i32_136_r0 : BitVec 32 := 2#32
  let v175_r0 : BitVec 32 := Scalar.remui arg16_r0 c2_i32_136_r0
  let v223_r0 : Index := Scalar.indexCast v175_r0
  let c0_158_r0 : Index := 0#32
  let c0_159_r0 : Index := 0#32
  ![v223_r0.toNat, 0, 0]

def k0_chk3 (arg16_r0 : BitVec 32) : Prop :=
  (∀ a, (k0_off13 arg16_r0) a + S1x512x128.size a ≤ S2x512x128.size a)
theorem k0_off13_inb : ∀ (arg16_r0 : BitVec 32) (k0_hw3 : k0_chk3 arg16_r0), ∀ a, (k0_off13 arg16_r0) a + S1x512x128.size a ≤ S2x512x128.size a := fun arg16_r0 k0_hw3 => k0_hw3

def k0_off14 (arg18_r0 : BitVec 32) : Fin 3 → Nat :=
  let c2_i32_137_r0 : BitVec 32 := 2#32
  let v176_r0 : BitVec 32 := Scalar.remui arg18_r0 c2_i32_137_r0
  let v227_r0 : Index := Scalar.indexCast v176_r0
  let c0_160_r0 : Index := 0#32
  let c0_161_r0 : Index := 0#32
  ![v227_r0.toNat, 0, 0]

def k0_chk4 (arg18_r0 : BitVec 32) : Prop :=
  (∀ a, (k0_off14 arg18_r0) a + S1x512x128.size a ≤ S2x512x128.size a)
theorem k0_off14_inb : ∀ (arg18_r0 : BitVec 32) (k0_hw4 : k0_chk4 arg18_r0), ∀ a, (k0_off14 arg18_r0) a + S1x512x128.size a ≤ S2x512x128.size a := fun arg18_r0 k0_hw4 => k0_hw4

def k0_off15 (arg20_r0 : BitVec 32) : Fin 3 → Nat :=
  let c2_i32_138_r0 : BitVec 32 := 2#32
  let v177_r0 : BitVec 32 := Scalar.remui arg20_r0 c2_i32_138_r0
  let v231_r0 : Index := Scalar.indexCast v177_r0
  let c0_162_r0 : Index := 0#32
  let c0_163_r0 : Index := 0#32
  ![v231_r0.toNat, 0, 0]

def k0_chk5 (arg20_r0 : BitVec 32) : Prop :=
  (∀ a, (k0_off15 arg20_r0) a + S1x512x128.size a ≤ S2x512x128.size a)
theorem k0_off15_inb : ∀ (arg20_r0 : BitVec 32) (k0_hw5 : k0_chk5 arg20_r0), ∀ a, (k0_off15 arg20_r0) a + S1x512x128.size a ≤ S2x512x128.size a := fun arg20_r0 k0_hw5 => k0_hw5

def k0_off16 (arg22_r0 : BitVec 32) : Fin 3 → Nat :=
  let c2_i32_139_r0 : BitVec 32 := 2#32
  let v178_r0 : BitVec 32 := Scalar.remui arg22_r0 c2_i32_139_r0
  let v235_r0 : Index := Scalar.indexCast v178_r0
  let c0_164_r0 : Index := 0#32
  let c0_165_r0 : Index := 0#32
  ![v235_r0.toNat, 0, 0]

def k0_chk6 (arg22_r0 : BitVec 32) : Prop :=
  (∀ a, (k0_off16 arg22_r0) a + S1x512x128.size a ≤ S2x512x128.size a)
theorem k0_off16_inb : ∀ (arg22_r0 : BitVec 32) (k0_hw6 : k0_chk6 arg22_r0), ∀ a, (k0_off16 arg22_r0) a + S1x512x128.size a ≤ S2x512x128.size a := fun arg22_r0 k0_hw6 => k0_hw6

def k0_off17 (arg24_r0 : BitVec 32) : Fin 3 → Nat :=
  let c2_i32_140_r0 : BitVec 32 := 2#32
  let v179_r0 : BitVec 32 := Scalar.remui arg24_r0 c2_i32_140_r0
  let v239_r0 : Index := Scalar.indexCast v179_r0
  let c0_166_r0 : Index := 0#32
  let c0_167_r0 : Index := 0#32
  ![v239_r0.toNat, 0, 0]

def k0_chk7 (arg24_r0 : BitVec 32) : Prop :=
  (∀ a, (k0_off17 arg24_r0) a + S1x512x128.size a ≤ S2x512x128.size a)
theorem k0_off17_inb : ∀ (arg24_r0 : BitVec 32) (k0_hw7 : k0_chk7 arg24_r0), ∀ a, (k0_off17 arg24_r0) a + S1x512x128.size a ≤ S2x512x128.size a := fun arg24_r0 k0_hw7 => k0_hw7

def k0_off18 (arg26_r0 : BitVec 32) : Fin 2 → Nat :=
  let c0_i32_91_r0 : BitVec 32 := 0#32
  let v92_r0 : BitVec 32 := Scalar.addi arg26_r0 c0_i32_91_r0
  let c512_i32_168_r0 : BitVec 32 := 512#32
  let v243_r0 : BitVec 32 := Scalar.muli v92_r0 c512_i32_168_r0
  let v244_r0 : Index := Scalar.indexCast v243_r0
  let c0_169_r0 : Index := 0#32
  ![v244_r0.toNat, 0]
def k0_off19 (arg16_r0 : BitVec 32) : Fin 1 → Nat :=
  let c2_i32_214_r0 : BitVec 32 := 2#32
  let v342_r0 : BitVec 32 := Scalar.remui arg16_r0 c2_i32_214_r0
  ![v342_r0.toNat]
def k0_cond9 (k0_t1 : Fin k0_t1_loop.trips) (arg26_r0 : BitVec 32) : BitVec 1 :=
  let c0_i32_91_r0 : BitVec 32 := 0#32
  let v92_r0 : BitVec 32 := Scalar.addi arg26_r0 c0_i32_91_r0
  let true_98_r0 : BitVec 1 := 1#1
  let c1_i32_97_r0 : BitVec 32 := 1#32
  let v98_r0 : BitVec 32 := Scalar.addi arg26_r0 c1_i32_97_r0
  let v99_r0 : BitVec 32 := Scalar.select true_98_r0 v98_r0 arg26_r0
  let c8_i32_99_r0 : BitVec 32 := 8#32
  let v100_r0 : BitVec 1 := Scalar.cmpi .eq v99_r0 c8_i32_99_r0
  let c0_i32_100_r0 : BitVec 32 := 0#32
  let v101_r0 : BitVec 32 := Scalar.select v100_r0 c0_i32_100_r0 v99_r0
  let c0_i32_101_r0 : BitVec 32 := 0#32
  let v102_r0 : BitVec 32 := Scalar.addi v101_r0 c0_i32_101_r0
  let v253_r0 : BitVec 1 := Scalar.cmpi .ne v92_r0 v102_r0
  let c0_i32_41_r0 : BitVec 32 := 0#32
  let c1_i32_43_r0 : BitVec 32 := 1#32
  let arg13_r0 : BitVec 32 := Scf.iv c0_i32_41_r0 c1_i32_43_r0 k0_t1
  let c7_i32_90_r0 : BitVec 32 := 7#32
  let v91_r0 : BitVec 1 := Scalar.cmpi .eq arg13_r0 c7_i32_90_r0
  let v254_r0 : BitVec 1 := Scalar.ori v253_r0 v91_r0
  let v255_r0 : BitVec 32 := Scalar.extui v254_r0
  let c0_i32_171_r0 : BitVec 32 := 0#32
  let v256_r0 : BitVec 1 := Scalar.cmpi .ne v255_r0 c0_i32_171_r0
  v256_r0

def k0_off20 (arg26_r0 : BitVec 32) : Fin 2 → Nat :=
  let c512_i32_215_r0 : BitVec 32 := 512#32
  let c0_i32_91_r0 : BitVec 32 := 0#32
  let v92_r0 : BitVec 32 := Scalar.addi arg26_r0 c0_i32_91_r0
  let v343_r0 : BitVec 32 := Scalar.muli c512_i32_215_r0 v92_r0
  let c0_i32_216_r0 : BitVec 32 := 0#32
  ![v343_r0.toNat, 0]
def k0_off21 (arg16_r0 : BitVec 32) : Fin 3 → Nat :=
  let c2_i32_214_r0 : BitVec 32 := 2#32
  let v342_r0 : BitVec 32 := Scalar.remui arg16_r0 c2_i32_214_r0
  let c0_i32_217_r0 : BitVec 32 := 0#32
  let c0_i32_218_r0 : BitVec 32 := 0#32
  ![v342_r0.toNat, 0, 0]
def k0_off22 (arg18_r0 : BitVec 32) : Fin 1 → Nat :=
  let c2_i32_214_r0 : BitVec 32 := 2#32
  let v342_r0 : BitVec 32 := Scalar.remui arg18_r0 c2_i32_214_r0
  ![v342_r0.toNat]
def k0_cond10 (k0_t1 : Fin k0_t1_loop.trips) (arg26_r0 : BitVec 32) : BitVec 1 :=
  let c0_i32_91_r0 : BitVec 32 := 0#32
  let v92_r0 : BitVec 32 := Scalar.addi arg26_r0 c0_i32_91_r0
  let true_98_r0 : BitVec 1 := 1#1
  let c1_i32_97_r0 : BitVec 32 := 1#32
  let v98_r0 : BitVec 32 := Scalar.addi arg26_r0 c1_i32_97_r0
  let v99_r0 : BitVec 32 := Scalar.select true_98_r0 v98_r0 arg26_r0
  let c8_i32_99_r0 : BitVec 32 := 8#32
  let v100_r0 : BitVec 1 := Scalar.cmpi .eq v99_r0 c8_i32_99_r0
  let c0_i32_100_r0 : BitVec 32 := 0#32
  let v101_r0 : BitVec 32 := Scalar.select v100_r0 c0_i32_100_r0 v99_r0
  let c0_i32_101_r0 : BitVec 32 := 0#32
  let v102_r0 : BitVec 32 := Scalar.addi v101_r0 c0_i32_101_r0
  let v260_r0 : BitVec 1 := Scalar.cmpi .ne v92_r0 v102_r0
  let c0_i32_41_r0 : BitVec 32 := 0#32
  let c1_i32_43_r0 : BitVec 32 := 1#32
  let arg13_r0 : BitVec 32 := Scf.iv c0_i32_41_r0 c1_i32_43_r0 k0_t1
  let c7_i32_90_r0 : BitVec 32 := 7#32
  let v91_r0 : BitVec 1 := Scalar.cmpi .eq arg13_r0 c7_i32_90_r0
  let v261_r0 : BitVec 1 := Scalar.ori v260_r0 v91_r0
  let v262_r0 : BitVec 32 := Scalar.extui v261_r0
  let c0_i32_174_r0 : BitVec 32 := 0#32
  let v263_r0 : BitVec 1 := Scalar.cmpi .ne v262_r0 c0_i32_174_r0
  v263_r0

def k0_off23 (arg26_r0 : BitVec 32) : Fin 2 → Nat :=
  let c512_i32_215_r0 : BitVec 32 := 512#32
  let c0_i32_91_r0 : BitVec 32 := 0#32
  let v92_r0 : BitVec 32 := Scalar.addi arg26_r0 c0_i32_91_r0
  let v343_r0 : BitVec 32 := Scalar.muli c512_i32_215_r0 v92_r0
  let c0_i32_216_r0 : BitVec 32 := 0#32
  ![v343_r0.toNat, 0]
def k0_off24 (arg18_r0 : BitVec 32) : Fin 3 → Nat :=
  let c2_i32_214_r0 : BitVec 32 := 2#32
  let v342_r0 : BitVec 32 := Scalar.remui arg18_r0 c2_i32_214_r0
  let c0_i32_217_r0 : BitVec 32 := 0#32
  let c0_i32_218_r0 : BitVec 32 := 0#32
  ![v342_r0.toNat, 0, 0]
def k0_off25 (arg20_r0 : BitVec 32) : Fin 1 → Nat :=
  let c2_i32_214_r0 : BitVec 32 := 2#32
  let v342_r0 : BitVec 32 := Scalar.remui arg20_r0 c2_i32_214_r0
  ![v342_r0.toNat]
def k0_cond11 (k0_t1 : Fin k0_t1_loop.trips) (arg26_r0 : BitVec 32) : BitVec 1 :=
  let c0_i32_91_r0 : BitVec 32 := 0#32
  let v92_r0 : BitVec 32 := Scalar.addi arg26_r0 c0_i32_91_r0
  let true_98_r0 : BitVec 1 := 1#1
  let c1_i32_97_r0 : BitVec 32 := 1#32
  let v98_r0 : BitVec 32 := Scalar.addi arg26_r0 c1_i32_97_r0
  let v99_r0 : BitVec 32 := Scalar.select true_98_r0 v98_r0 arg26_r0
  let c8_i32_99_r0 : BitVec 32 := 8#32
  let v100_r0 : BitVec 1 := Scalar.cmpi .eq v99_r0 c8_i32_99_r0
  let c0_i32_100_r0 : BitVec 32 := 0#32
  let v101_r0 : BitVec 32 := Scalar.select v100_r0 c0_i32_100_r0 v99_r0
  let c0_i32_101_r0 : BitVec 32 := 0#32
  let v102_r0 : BitVec 32 := Scalar.addi v101_r0 c0_i32_101_r0
  let v267_r0 : BitVec 1 := Scalar.cmpi .ne v92_r0 v102_r0
  let c0_i32_41_r0 : BitVec 32 := 0#32
  let c1_i32_43_r0 : BitVec 32 := 1#32
  let arg13_r0 : BitVec 32 := Scf.iv c0_i32_41_r0 c1_i32_43_r0 k0_t1
  let c7_i32_90_r0 : BitVec 32 := 7#32
  let v91_r0 : BitVec 1 := Scalar.cmpi .eq arg13_r0 c7_i32_90_r0
  let v268_r0 : BitVec 1 := Scalar.ori v267_r0 v91_r0
  let v269_r0 : BitVec 32 := Scalar.extui v268_r0
  let c0_i32_177_r0 : BitVec 32 := 0#32
  let v270_r0 : BitVec 1 := Scalar.cmpi .ne v269_r0 c0_i32_177_r0
  v270_r0

def k0_off26 (arg26_r0 : BitVec 32) : Fin 2 → Nat :=
  let c512_i32_215_r0 : BitVec 32 := 512#32
  let c0_i32_91_r0 : BitVec 32 := 0#32
  let v92_r0 : BitVec 32 := Scalar.addi arg26_r0 c0_i32_91_r0
  let v343_r0 : BitVec 32 := Scalar.muli c512_i32_215_r0 v92_r0
  let c0_i32_216_r0 : BitVec 32 := 0#32
  ![v343_r0.toNat, 0]
def k0_off27 (arg20_r0 : BitVec 32) : Fin 3 → Nat :=
  let c2_i32_214_r0 : BitVec 32 := 2#32
  let v342_r0 : BitVec 32 := Scalar.remui arg20_r0 c2_i32_214_r0
  let c0_i32_217_r0 : BitVec 32 := 0#32
  let c0_i32_218_r0 : BitVec 32 := 0#32
  ![v342_r0.toNat, 0, 0]
def k0_off28 (arg22_r0 : BitVec 32) : Fin 1 → Nat :=
  let c2_i32_214_r0 : BitVec 32 := 2#32
  let v342_r0 : BitVec 32 := Scalar.remui arg22_r0 c2_i32_214_r0
  ![v342_r0.toNat]
def k0_cond12 (k0_t1 : Fin k0_t1_loop.trips) (arg26_r0 : BitVec 32) : BitVec 1 :=
  let c0_i32_91_r0 : BitVec 32 := 0#32
  let v92_r0 : BitVec 32 := Scalar.addi arg26_r0 c0_i32_91_r0
  let true_98_r0 : BitVec 1 := 1#1
  let c1_i32_97_r0 : BitVec 32 := 1#32
  let v98_r0 : BitVec 32 := Scalar.addi arg26_r0 c1_i32_97_r0
  let v99_r0 : BitVec 32 := Scalar.select true_98_r0 v98_r0 arg26_r0
  let c8_i32_99_r0 : BitVec 32 := 8#32
  let v100_r0 : BitVec 1 := Scalar.cmpi .eq v99_r0 c8_i32_99_r0
  let c0_i32_100_r0 : BitVec 32 := 0#32
  let v101_r0 : BitVec 32 := Scalar.select v100_r0 c0_i32_100_r0 v99_r0
  let c0_i32_101_r0 : BitVec 32 := 0#32
  let v102_r0 : BitVec 32 := Scalar.addi v101_r0 c0_i32_101_r0
  let v274_r0 : BitVec 1 := Scalar.cmpi .ne v92_r0 v102_r0
  let c0_i32_41_r0 : BitVec 32 := 0#32
  let c1_i32_43_r0 : BitVec 32 := 1#32
  let arg13_r0 : BitVec 32 := Scf.iv c0_i32_41_r0 c1_i32_43_r0 k0_t1
  let c7_i32_90_r0 : BitVec 32 := 7#32
  let v91_r0 : BitVec 1 := Scalar.cmpi .eq arg13_r0 c7_i32_90_r0
  let v275_r0 : BitVec 1 := Scalar.ori v274_r0 v91_r0
  let v276_r0 : BitVec 32 := Scalar.extui v275_r0
  let c0_i32_180_r0 : BitVec 32 := 0#32
  let v277_r0 : BitVec 1 := Scalar.cmpi .ne v276_r0 c0_i32_180_r0
  v277_r0

def k0_off29 (arg26_r0 : BitVec 32) : Fin 2 → Nat :=
  let c512_i32_215_r0 : BitVec 32 := 512#32
  let c0_i32_91_r0 : BitVec 32 := 0#32
  let v92_r0 : BitVec 32 := Scalar.addi arg26_r0 c0_i32_91_r0
  let v343_r0 : BitVec 32 := Scalar.muli c512_i32_215_r0 v92_r0
  let c0_i32_216_r0 : BitVec 32 := 0#32
  ![v343_r0.toNat, 0]
def k0_off30 (arg22_r0 : BitVec 32) : Fin 3 → Nat :=
  let c2_i32_214_r0 : BitVec 32 := 2#32
  let v342_r0 : BitVec 32 := Scalar.remui arg22_r0 c2_i32_214_r0
  let c0_i32_217_r0 : BitVec 32 := 0#32
  let c0_i32_218_r0 : BitVec 32 := 0#32
  ![v342_r0.toNat, 0, 0]
def k0_off31 (arg24_r0 : BitVec 32) : Fin 1 → Nat :=
  let c2_i32_214_r0 : BitVec 32 := 2#32
  let v342_r0 : BitVec 32 := Scalar.remui arg24_r0 c2_i32_214_r0
  ![v342_r0.toNat]
def k0_cond13 (k0_t1 : Fin k0_t1_loop.trips) (arg26_r0 : BitVec 32) : BitVec 1 :=
  let c0_i32_91_r0 : BitVec 32 := 0#32
  let v92_r0 : BitVec 32 := Scalar.addi arg26_r0 c0_i32_91_r0
  let true_98_r0 : BitVec 1 := 1#1
  let c1_i32_97_r0 : BitVec 32 := 1#32
  let v98_r0 : BitVec 32 := Scalar.addi arg26_r0 c1_i32_97_r0
  let v99_r0 : BitVec 32 := Scalar.select true_98_r0 v98_r0 arg26_r0
  let c8_i32_99_r0 : BitVec 32 := 8#32
  let v100_r0 : BitVec 1 := Scalar.cmpi .eq v99_r0 c8_i32_99_r0
  let c0_i32_100_r0 : BitVec 32 := 0#32
  let v101_r0 : BitVec 32 := Scalar.select v100_r0 c0_i32_100_r0 v99_r0
  let c0_i32_101_r0 : BitVec 32 := 0#32
  let v102_r0 : BitVec 32 := Scalar.addi v101_r0 c0_i32_101_r0
  let v281_r0 : BitVec 1 := Scalar.cmpi .ne v92_r0 v102_r0
  let c0_i32_41_r0 : BitVec 32 := 0#32
  let c1_i32_43_r0 : BitVec 32 := 1#32
  let arg13_r0 : BitVec 32 := Scf.iv c0_i32_41_r0 c1_i32_43_r0 k0_t1
  let c7_i32_90_r0 : BitVec 32 := 7#32
  let v91_r0 : BitVec 1 := Scalar.cmpi .eq arg13_r0 c7_i32_90_r0
  let v282_r0 : BitVec 1 := Scalar.ori v281_r0 v91_r0
  let v283_r0 : BitVec 32 := Scalar.extui v282_r0
  let c0_i32_183_r0 : BitVec 32 := 0#32
  let v284_r0 : BitVec 1 := Scalar.cmpi .ne v283_r0 c0_i32_183_r0
  v284_r0

def k0_off32 (arg26_r0 : BitVec 32) : Fin 2 → Nat :=
  let c512_i32_215_r0 : BitVec 32 := 512#32
  let c0_i32_91_r0 : BitVec 32 := 0#32
  let v92_r0 : BitVec 32 := Scalar.addi arg26_r0 c0_i32_91_r0
  let v343_r0 : BitVec 32 := Scalar.muli c512_i32_215_r0 v92_r0
  let c0_i32_216_r0 : BitVec 32 := 0#32
  ![v343_r0.toNat, 0]
def k0_off33 (arg24_r0 : BitVec 32) : Fin 3 → Nat :=
  let c2_i32_214_r0 : BitVec 32 := 2#32
  let v342_r0 : BitVec 32 := Scalar.remui arg24_r0 c2_i32_214_r0
  let c0_i32_217_r0 : BitVec 32 := 0#32
  let c0_i32_218_r0 : BitVec 32 := 0#32
  ![v342_r0.toNat, 0, 0]
def k0_off34 (arg17_r0 : BitVec 32) : Fin 1 → Nat :=
  let c2_i32_214_r0 : BitVec 32 := 2#32
  let v342_r0 : BitVec 32 := Scalar.remui arg17_r0 c2_i32_214_r0
  ![v342_r0.toNat]
def k0_cond15 (k0_t1 : Fin k0_t1_loop.trips) (arg26_r0 : BitVec 32) : BitVec 1 :=
  let c0_i32_91_r0 : BitVec 32 := 0#32
  let v92_r0 : BitVec 32 := Scalar.addi arg26_r0 c0_i32_91_r0
  let true_93_r0 : BitVec 1 := 1#1
  let c1_i32_92_r0 : BitVec 32 := 1#32
  let v93_r0 : BitVec 32 := Scalar.subi arg26_r0 c1_i32_92_r0
  let v94_r0 : BitVec 32 := Scalar.select true_93_r0 v93_r0 arg26_r0
  let c_m1_i32_94_r0 : BitVec 32 := 4294967295#32
  let v95_r0 : BitVec 1 := Scalar.cmpi .eq v94_r0 c_m1_i32_94_r0
  let c7_i32_95_r0 : BitVec 32 := 7#32
  let v96_r0 : BitVec 32 := Scalar.select v95_r0 c7_i32_95_r0 v94_r0
  let c0_i32_96_r0 : BitVec 32 := 0#32
  let v97_r0 : BitVec 32 := Scalar.addi v96_r0 c0_i32_96_r0
  let v294_r0 : BitVec 1 := Scalar.cmpi .ne v92_r0 v97_r0
  let c0_i32_41_r0 : BitVec 32 := 0#32
  let c1_i32_43_r0 : BitVec 32 := 1#32
  let arg13_r0 : BitVec 32 := Scf.iv c0_i32_41_r0 c1_i32_43_r0 k0_t1
  let c0_i32_89_r0 : BitVec 32 := 0#32
  let v90_r0 : BitVec 1 := Scalar.cmpi .eq arg13_r0 c0_i32_89_r0
  let true_189_r0 : BitVec 1 := 1#1
  let v295_r0 : BitVec 1 := Scalar.xori v90_r0 true_189_r0
  let v296_r0 : BitVec 1 := Scalar.andi v294_r0 v295_r0
  let v297_r0 : BitVec 32 := Scalar.extui v296_r0
  let c0_i32_190_r0 : BitVec 32 := 0#32
  let v298_r0 : BitVec 1 := Scalar.cmpi .ne v297_r0 c0_i32_190_r0
  v298_r0

def k0_off35 (arg26_r0 : BitVec 32) : Fin 2 → Nat :=
  let c512_i32_215_r0 : BitVec 32 := 512#32
  let true_93_r0 : BitVec 1 := 1#1
  let c1_i32_92_r0 : BitVec 32 := 1#32
  let v93_r0 : BitVec 32 := Scalar.subi arg26_r0 c1_i32_92_r0
  let v94_r0 : BitVec 32 := Scalar.select true_93_r0 v93_r0 arg26_r0
  let c_m1_i32_94_r0 : BitVec 32 := 4294967295#32
  let v95_r0 : BitVec 1 := Scalar.cmpi .eq v94_r0 c_m1_i32_94_r0
  let c7_i32_95_r0 : BitVec 32 := 7#32
  let v96_r0 : BitVec 32 := Scalar.select v95_r0 c7_i32_95_r0 v94_r0
  let c0_i32_96_r0 : BitVec 32 := 0#32
  let v97_r0 : BitVec 32 := Scalar.addi v96_r0 c0_i32_96_r0
  let v343_r0 : BitVec 32 := Scalar.muli c512_i32_215_r0 v97_r0
  let c0_i32_216_r0 : BitVec 32 := 0#32
  ![v343_r0.toNat, 0]
def k0_off36 (arg17_r0 : BitVec 32) : Fin 3 → Nat :=
  let c2_i32_214_r0 : BitVec 32 := 2#32
  let v342_r0 : BitVec 32 := Scalar.remui arg17_r0 c2_i32_214_r0
  let c0_i32_217_r0 : BitVec 32 := 0#32
  let c0_i32_218_r0 : BitVec 32 := 0#32
  ![v342_r0.toNat, 0, 0]
def k0_off37 (arg19_r0 : BitVec 32) : Fin 1 → Nat :=
  let c2_i32_214_r0 : BitVec 32 := 2#32
  let v342_r0 : BitVec 32 := Scalar.remui arg19_r0 c2_i32_214_r0
  ![v342_r0.toNat]
def k0_cond16 (k0_t1 : Fin k0_t1_loop.trips) (arg26_r0 : BitVec 32) : BitVec 1 :=
  let c0_i32_91_r0 : BitVec 32 := 0#32
  let v92_r0 : BitVec 32 := Scalar.addi arg26_r0 c0_i32_91_r0
  let true_93_r0 : BitVec 1 := 1#1
  let c1_i32_92_r0 : BitVec 32 := 1#32
  let v93_r0 : BitVec 32 := Scalar.subi arg26_r0 c1_i32_92_r0
  let v94_r0 : BitVec 32 := Scalar.select true_93_r0 v93_r0 arg26_r0
  let c_m1_i32_94_r0 : BitVec 32 := 4294967295#32
  let v95_r0 : BitVec 1 := Scalar.cmpi .eq v94_r0 c_m1_i32_94_r0
  let c7_i32_95_r0 : BitVec 32 := 7#32
  let v96_r0 : BitVec 32 := Scalar.select v95_r0 c7_i32_95_r0 v94_r0
  let c0_i32_96_r0 : BitVec 32 := 0#32
  let v97_r0 : BitVec 32 := Scalar.addi v96_r0 c0_i32_96_r0
  let v302_r0 : BitVec 1 := Scalar.cmpi .ne v92_r0 v97_r0
  let c0_i32_41_r0 : BitVec 32 := 0#32
  let c1_i32_43_r0 : BitVec 32 := 1#32
  let arg13_r0 : BitVec 32 := Scf.iv c0_i32_41_r0 c1_i32_43_r0 k0_t1
  let c0_i32_89_r0 : BitVec 32 := 0#32
  let v90_r0 : BitVec 1 := Scalar.cmpi .eq arg13_r0 c0_i32_89_r0
  let true_193_r0 : BitVec 1 := 1#1
  let v303_r0 : BitVec 1 := Scalar.xori v90_r0 true_193_r0
  let v304_r0 : BitVec 1 := Scalar.andi v302_r0 v303_r0
  let v305_r0 : BitVec 32 := Scalar.extui v304_r0
  let c0_i32_194_r0 : BitVec 32 := 0#32
  let v306_r0 : BitVec 1 := Scalar.cmpi .ne v305_r0 c0_i32_194_r0
  v306_r0

def k0_off38 (arg26_r0 : BitVec 32) : Fin 2 → Nat :=
  let c512_i32_215_r0 : BitVec 32 := 512#32
  let true_93_r0 : BitVec 1 := 1#1
  let c1_i32_92_r0 : BitVec 32 := 1#32
  let v93_r0 : BitVec 32 := Scalar.subi arg26_r0 c1_i32_92_r0
  let v94_r0 : BitVec 32 := Scalar.select true_93_r0 v93_r0 arg26_r0
  let c_m1_i32_94_r0 : BitVec 32 := 4294967295#32
  let v95_r0 : BitVec 1 := Scalar.cmpi .eq v94_r0 c_m1_i32_94_r0
  let c7_i32_95_r0 : BitVec 32 := 7#32
  let v96_r0 : BitVec 32 := Scalar.select v95_r0 c7_i32_95_r0 v94_r0
  let c0_i32_96_r0 : BitVec 32 := 0#32
  let v97_r0 : BitVec 32 := Scalar.addi v96_r0 c0_i32_96_r0
  let v343_r0 : BitVec 32 := Scalar.muli c512_i32_215_r0 v97_r0
  let c0_i32_216_r0 : BitVec 32 := 0#32
  ![v343_r0.toNat, 0]
def k0_off39 (arg19_r0 : BitVec 32) : Fin 3 → Nat :=
  let c2_i32_214_r0 : BitVec 32 := 2#32
  let v342_r0 : BitVec 32 := Scalar.remui arg19_r0 c2_i32_214_r0
  let c0_i32_217_r0 : BitVec 32 := 0#32
  let c0_i32_218_r0 : BitVec 32 := 0#32
  ![v342_r0.toNat, 0, 0]
def k0_off40 (arg21_r0 : BitVec 32) : Fin 1 → Nat :=
  let c2_i32_214_r0 : BitVec 32 := 2#32
  let v342_r0 : BitVec 32 := Scalar.remui arg21_r0 c2_i32_214_r0
  ![v342_r0.toNat]
def k0_cond17 (k0_t1 : Fin k0_t1_loop.trips) (arg26_r0 : BitVec 32) : BitVec 1 :=
  let c0_i32_91_r0 : BitVec 32 := 0#32
  let v92_r0 : BitVec 32 := Scalar.addi arg26_r0 c0_i32_91_r0
  let true_93_r0 : BitVec 1 := 1#1
  let c1_i32_92_r0 : BitVec 32 := 1#32
  let v93_r0 : BitVec 32 := Scalar.subi arg26_r0 c1_i32_92_r0
  let v94_r0 : BitVec 32 := Scalar.select true_93_r0 v93_r0 arg26_r0
  let c_m1_i32_94_r0 : BitVec 32 := 4294967295#32
  let v95_r0 : BitVec 1 := Scalar.cmpi .eq v94_r0 c_m1_i32_94_r0
  let c7_i32_95_r0 : BitVec 32 := 7#32
  let v96_r0 : BitVec 32 := Scalar.select v95_r0 c7_i32_95_r0 v94_r0
  let c0_i32_96_r0 : BitVec 32 := 0#32
  let v97_r0 : BitVec 32 := Scalar.addi v96_r0 c0_i32_96_r0
  let v310_r0 : BitVec 1 := Scalar.cmpi .ne v92_r0 v97_r0
  let c0_i32_41_r0 : BitVec 32 := 0#32
  let c1_i32_43_r0 : BitVec 32 := 1#32
  let arg13_r0 : BitVec 32 := Scf.iv c0_i32_41_r0 c1_i32_43_r0 k0_t1
  let c0_i32_89_r0 : BitVec 32 := 0#32
  let v90_r0 : BitVec 1 := Scalar.cmpi .eq arg13_r0 c0_i32_89_r0
  let true_197_r0 : BitVec 1 := 1#1
  let v311_r0 : BitVec 1 := Scalar.xori v90_r0 true_197_r0
  let v312_r0 : BitVec 1 := Scalar.andi v310_r0 v311_r0
  let v313_r0 : BitVec 32 := Scalar.extui v312_r0
  let c0_i32_198_r0 : BitVec 32 := 0#32
  let v314_r0 : BitVec 1 := Scalar.cmpi .ne v313_r0 c0_i32_198_r0
  v314_r0

def k0_off41 (arg26_r0 : BitVec 32) : Fin 2 → Nat :=
  let c512_i32_215_r0 : BitVec 32 := 512#32
  let true_93_r0 : BitVec 1 := 1#1
  let c1_i32_92_r0 : BitVec 32 := 1#32
  let v93_r0 : BitVec 32 := Scalar.subi arg26_r0 c1_i32_92_r0
  let v94_r0 : BitVec 32 := Scalar.select true_93_r0 v93_r0 arg26_r0
  let c_m1_i32_94_r0 : BitVec 32 := 4294967295#32
  let v95_r0 : BitVec 1 := Scalar.cmpi .eq v94_r0 c_m1_i32_94_r0
  let c7_i32_95_r0 : BitVec 32 := 7#32
  let v96_r0 : BitVec 32 := Scalar.select v95_r0 c7_i32_95_r0 v94_r0
  let c0_i32_96_r0 : BitVec 32 := 0#32
  let v97_r0 : BitVec 32 := Scalar.addi v96_r0 c0_i32_96_r0
  let v343_r0 : BitVec 32 := Scalar.muli c512_i32_215_r0 v97_r0
  let c0_i32_216_r0 : BitVec 32 := 0#32
  ![v343_r0.toNat, 0]
def k0_off42 (arg21_r0 : BitVec 32) : Fin 3 → Nat :=
  let c2_i32_214_r0 : BitVec 32 := 2#32
  let v342_r0 : BitVec 32 := Scalar.remui arg21_r0 c2_i32_214_r0
  let c0_i32_217_r0 : BitVec 32 := 0#32
  let c0_i32_218_r0 : BitVec 32 := 0#32
  ![v342_r0.toNat, 0, 0]
def k0_off43 (arg23_r0 : BitVec 32) : Fin 1 → Nat :=
  let c2_i32_214_r0 : BitVec 32 := 2#32
  let v342_r0 : BitVec 32 := Scalar.remui arg23_r0 c2_i32_214_r0
  ![v342_r0.toNat]
def k0_cond18 (k0_t1 : Fin k0_t1_loop.trips) (arg26_r0 : BitVec 32) : BitVec 1 :=
  let c0_i32_91_r0 : BitVec 32 := 0#32
  let v92_r0 : BitVec 32 := Scalar.addi arg26_r0 c0_i32_91_r0
  let true_93_r0 : BitVec 1 := 1#1
  let c1_i32_92_r0 : BitVec 32 := 1#32
  let v93_r0 : BitVec 32 := Scalar.subi arg26_r0 c1_i32_92_r0
  let v94_r0 : BitVec 32 := Scalar.select true_93_r0 v93_r0 arg26_r0
  let c_m1_i32_94_r0 : BitVec 32 := 4294967295#32
  let v95_r0 : BitVec 1 := Scalar.cmpi .eq v94_r0 c_m1_i32_94_r0
  let c7_i32_95_r0 : BitVec 32 := 7#32
  let v96_r0 : BitVec 32 := Scalar.select v95_r0 c7_i32_95_r0 v94_r0
  let c0_i32_96_r0 : BitVec 32 := 0#32
  let v97_r0 : BitVec 32 := Scalar.addi v96_r0 c0_i32_96_r0
  let v318_r0 : BitVec 1 := Scalar.cmpi .ne v92_r0 v97_r0
  let c0_i32_41_r0 : BitVec 32 := 0#32
  let c1_i32_43_r0 : BitVec 32 := 1#32
  let arg13_r0 : BitVec 32 := Scf.iv c0_i32_41_r0 c1_i32_43_r0 k0_t1
  let c0_i32_89_r0 : BitVec 32 := 0#32
  let v90_r0 : BitVec 1 := Scalar.cmpi .eq arg13_r0 c0_i32_89_r0
  let true_201_r0 : BitVec 1 := 1#1
  let v319_r0 : BitVec 1 := Scalar.xori v90_r0 true_201_r0
  let v320_r0 : BitVec 1 := Scalar.andi v318_r0 v319_r0
  let v321_r0 : BitVec 32 := Scalar.extui v320_r0
  let c0_i32_202_r0 : BitVec 32 := 0#32
  let v322_r0 : BitVec 1 := Scalar.cmpi .ne v321_r0 c0_i32_202_r0
  v322_r0

def k0_off44 (arg26_r0 : BitVec 32) : Fin 2 → Nat :=
  let c512_i32_215_r0 : BitVec 32 := 512#32
  let true_93_r0 : BitVec 1 := 1#1
  let c1_i32_92_r0 : BitVec 32 := 1#32
  let v93_r0 : BitVec 32 := Scalar.subi arg26_r0 c1_i32_92_r0
  let v94_r0 : BitVec 32 := Scalar.select true_93_r0 v93_r0 arg26_r0
  let c_m1_i32_94_r0 : BitVec 32 := 4294967295#32
  let v95_r0 : BitVec 1 := Scalar.cmpi .eq v94_r0 c_m1_i32_94_r0
  let c7_i32_95_r0 : BitVec 32 := 7#32
  let v96_r0 : BitVec 32 := Scalar.select v95_r0 c7_i32_95_r0 v94_r0
  let c0_i32_96_r0 : BitVec 32 := 0#32
  let v97_r0 : BitVec 32 := Scalar.addi v96_r0 c0_i32_96_r0
  let v343_r0 : BitVec 32 := Scalar.muli c512_i32_215_r0 v97_r0
  let c0_i32_216_r0 : BitVec 32 := 0#32
  ![v343_r0.toNat, 0]
def k0_off45 (arg23_r0 : BitVec 32) : Fin 3 → Nat :=
  let c2_i32_214_r0 : BitVec 32 := 2#32
  let v342_r0 : BitVec 32 := Scalar.remui arg23_r0 c2_i32_214_r0
  let c0_i32_217_r0 : BitVec 32 := 0#32
  let c0_i32_218_r0 : BitVec 32 := 0#32
  ![v342_r0.toNat, 0, 0]
def k0_off46 (arg25_r0 : BitVec 32) : Fin 1 → Nat :=
  let c2_i32_214_r0 : BitVec 32 := 2#32
  let v342_r0 : BitVec 32 := Scalar.remui arg25_r0 c2_i32_214_r0
  ![v342_r0.toNat]
def k0_cond19 (k0_t1 : Fin k0_t1_loop.trips) (arg26_r0 : BitVec 32) : BitVec 1 :=
  let c0_i32_91_r0 : BitVec 32 := 0#32
  let v92_r0 : BitVec 32 := Scalar.addi arg26_r0 c0_i32_91_r0
  let true_93_r0 : BitVec 1 := 1#1
  let c1_i32_92_r0 : BitVec 32 := 1#32
  let v93_r0 : BitVec 32 := Scalar.subi arg26_r0 c1_i32_92_r0
  let v94_r0 : BitVec 32 := Scalar.select true_93_r0 v93_r0 arg26_r0
  let c_m1_i32_94_r0 : BitVec 32 := 4294967295#32
  let v95_r0 : BitVec 1 := Scalar.cmpi .eq v94_r0 c_m1_i32_94_r0
  let c7_i32_95_r0 : BitVec 32 := 7#32
  let v96_r0 : BitVec 32 := Scalar.select v95_r0 c7_i32_95_r0 v94_r0
  let c0_i32_96_r0 : BitVec 32 := 0#32
  let v97_r0 : BitVec 32 := Scalar.addi v96_r0 c0_i32_96_r0
  let v326_r0 : BitVec 1 := Scalar.cmpi .ne v92_r0 v97_r0
  let c0_i32_41_r0 : BitVec 32 := 0#32
  let c1_i32_43_r0 : BitVec 32 := 1#32
  let arg13_r0 : BitVec 32 := Scf.iv c0_i32_41_r0 c1_i32_43_r0 k0_t1
  let c0_i32_89_r0 : BitVec 32 := 0#32
  let v90_r0 : BitVec 1 := Scalar.cmpi .eq arg13_r0 c0_i32_89_r0
  let true_205_r0 : BitVec 1 := 1#1
  let v327_r0 : BitVec 1 := Scalar.xori v90_r0 true_205_r0
  let v328_r0 : BitVec 1 := Scalar.andi v326_r0 v327_r0
  let v329_r0 : BitVec 32 := Scalar.extui v328_r0
  let c0_i32_206_r0 : BitVec 32 := 0#32
  let v330_r0 : BitVec 1 := Scalar.cmpi .ne v329_r0 c0_i32_206_r0
  v330_r0

def k0_off47 (arg26_r0 : BitVec 32) : Fin 2 → Nat :=
  let c512_i32_215_r0 : BitVec 32 := 512#32
  let true_93_r0 : BitVec 1 := 1#1
  let c1_i32_92_r0 : BitVec 32 := 1#32
  let v93_r0 : BitVec 32 := Scalar.subi arg26_r0 c1_i32_92_r0
  let v94_r0 : BitVec 32 := Scalar.select true_93_r0 v93_r0 arg26_r0
  let c_m1_i32_94_r0 : BitVec 32 := 4294967295#32
  let v95_r0 : BitVec 1 := Scalar.cmpi .eq v94_r0 c_m1_i32_94_r0
  let c7_i32_95_r0 : BitVec 32 := 7#32
  let v96_r0 : BitVec 32 := Scalar.select v95_r0 c7_i32_95_r0 v94_r0
  let c0_i32_96_r0 : BitVec 32 := 0#32
  let v97_r0 : BitVec 32 := Scalar.addi v96_r0 c0_i32_96_r0
  let v343_r0 : BitVec 32 := Scalar.muli c512_i32_215_r0 v97_r0
  let c0_i32_216_r0 : BitVec 32 := 0#32
  ![v343_r0.toNat, 0]
def k0_off48 (arg25_r0 : BitVec 32) : Fin 3 → Nat :=
  let c2_i32_214_r0 : BitVec 32 := 2#32
  let v342_r0 : BitVec 32 := Scalar.remui arg25_r0 c2_i32_214_r0
  let c0_i32_217_r0 : BitVec 32 := 0#32
  let c0_i32_218_r0 : BitVec 32 := 0#32
  ![v342_r0.toNat, 0, 0]

def k0_chk1_0 (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) : Prop :=
  (∀ (k0_h1 : k0_cond1 k0_t1 arg26_r0 = 1#1), ∀ a, (k0_off3 arg14_r0) a + S1.size a ≤ S2.size a) ∧
  (∀ (k0_h1 : k0_cond1 k0_t1 arg26_r0 = 1#1), ∀ a, (k0_off4 arg14_r0) a + S1x512x4096.size a ≤ S2x512x4096.size a) ∧
  (∀ (k0_h1 : k0_cond1 k0_t1 arg26_r0 = 1#1), ∀ a, (k0_off5 arg26_r0) a + S512x4096.size a ≤ S4096x4096.size a) ∧
  (∀ (k0_h2 : k0_cond2 k0_t1 arg26_r0 = 1#1), ∀ a, (k0_off6 arg15_r0) a + S1.size a ≤ S2.size a) ∧
  (∀ (k0_h2 : k0_cond2 k0_t1 arg26_r0 = 1#1), ∀ a, (k0_off7 arg15_r0) a + S1x512x4096.size a ≤ S2x512x4096.size a) ∧
  (∀ (k0_h2 : k0_cond2 k0_t1 arg26_r0 = 1#1), ∀ a, (k0_off8 arg26_r0) a + S512x4096.size a ≤ S4096x4096.size a) ∧
  (∀ a, (k0_off10 arg26_r0) a + S512x4096.size a ≤ S4096x4096.size a) ∧
  (∀ (hinb : ∀ a, (k0_off10 arg26_r0) a + S512x4096.size a ≤ S4096x4096.size a), (Rect.unit (s := S4096x4096) (k0_off10 arg26_r0) S512x4096.size hinb).PackedRows (EltTy.packing .i8)) ∧
  (∀ a, (k0_off11 arg26_r0) a + S512x128.size a ≤ S4096x128.size a) ∧
  (∀ a, (k0_off12 arg26_r0) a + S1x512.size a ≤ S1x4096.size a) ∧
  (∀ a, (k0_off18 arg26_r0) a + S512x128.size a ≤ S4096x128.size a) ∧
  (∀ (k0_h9 : k0_cond9 k0_t1 arg26_r0 = 1#1), ∀ a, (k0_off19 arg16_r0) a + S1.size a ≤ S2.size a) ∧
  (∀ (k0_h9 : k0_cond9 k0_t1 arg26_r0 = 1#1), ∀ a, (k0_off20 arg26_r0) a + S512x128.size a ≤ S4096x128.size a) ∧
  (∀ (k0_h9 : k0_cond9 k0_t1 arg26_r0 = 1#1), ∀ a, (k0_off21 arg16_r0) a + S1x512x128.size a ≤ S2x512x128.size a) ∧
  (∀ (k0_h10 : k0_cond10 k0_t1 arg26_r0 = 1#1), ∀ a, (k0_off22 arg18_r0) a + S1.size a ≤ S2.size a) ∧
  (∀ (k0_h10 : k0_cond10 k0_t1 arg26_r0 = 1#1), ∀ a, (k0_off23 arg26_r0) a + S512x128.size a ≤ S4096x128.size a) ∧
  (∀ (k0_h10 : k0_cond10 k0_t1 arg26_r0 = 1#1), ∀ a, (k0_off24 arg18_r0) a + S1x512x128.size a ≤ S2x512x128.size a) ∧
  (∀ (k0_h11 : k0_cond11 k0_t1 arg26_r0 = 1#1), ∀ a, (k0_off25 arg20_r0) a + S1.size a ≤ S2.size a) ∧
  (∀ (k0_h11 : k0_cond11 k0_t1 arg26_r0 = 1#1), ∀ a, (k0_off26 arg26_r0) a + S512x128.size a ≤ S4096x128.size a) ∧
  (∀ (k0_h11 : k0_cond11 k0_t1 arg26_r0 = 1#1), ∀ a, (k0_off27 arg20_r0) a + S1x512x128.size a ≤ S2x512x128.size a) ∧
  (∀ (k0_h12 : k0_cond12 k0_t1 arg26_r0 = 1#1), ∀ a, (k0_off28 arg22_r0) a + S1.size a ≤ S2.size a) ∧
  (∀ (k0_h12 : k0_cond12 k0_t1 arg26_r0 = 1#1), ∀ a, (k0_off29 arg26_r0) a + S512x128.size a ≤ S4096x128.size a) ∧
  (∀ (k0_h12 : k0_cond12 k0_t1 arg26_r0 = 1#1), ∀ a, (k0_off30 arg22_r0) a + S1x512x128.size a ≤ S2x512x128.size a) ∧
  (∀ (k0_h13 : k0_cond13 k0_t1 arg26_r0 = 1#1), ∀ a, (k0_off31 arg24_r0) a + S1.size a ≤ S2.size a) ∧
  (∀ (k0_h13 : k0_cond13 k0_t1 arg26_r0 = 1#1), ∀ a, (k0_off32 arg26_r0) a + S512x128.size a ≤ S4096x128.size a) ∧
  (∀ (k0_h13 : k0_cond13 k0_t1 arg26_r0 = 1#1), ∀ a, (k0_off33 arg24_r0) a + S1x512x128.size a ≤ S2x512x128.size a) ∧
  (∀ (k0_h15 : k0_cond15 k0_t1 arg26_r0 = 1#1), ∀ a, (k0_off34 arg17_r0) a + S1.size a ≤ S2.size a) ∧
  (∀ (k0_h15 : k0_cond15 k0_t1 arg26_r0 = 1#1), ∀ a, (k0_off35 arg26_r0) a + S512x128.size a ≤ S4096x128.size a) ∧
  (∀ (k0_h15 : k0_cond15 k0_t1 arg26_r0 = 1#1), ∀ a, (k0_off36 arg17_r0) a + S1x512x128.size a ≤ S2x512x128.size a) ∧
  (∀ (k0_h16 : k0_cond16 k0_t1 arg26_r0 = 1#1), ∀ a, (k0_off37 arg19_r0) a + S1.size a ≤ S2.size a) ∧
  (∀ (k0_h16 : k0_cond16 k0_t1 arg26_r0 = 1#1), ∀ a, (k0_off38 arg26_r0) a + S512x128.size a ≤ S4096x128.size a) ∧
  (∀ (k0_h16 : k0_cond16 k0_t1 arg26_r0 = 1#1), ∀ a, (k0_off39 arg19_r0) a + S1x512x128.size a ≤ S2x512x128.size a)
def k0_chk1_1 (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) : Prop :=
  (∀ (k0_h17 : k0_cond17 k0_t1 arg26_r0 = 1#1), ∀ a, (k0_off40 arg21_r0) a + S1.size a ≤ S2.size a) ∧
  (∀ (k0_h17 : k0_cond17 k0_t1 arg26_r0 = 1#1), ∀ a, (k0_off41 arg26_r0) a + S512x128.size a ≤ S4096x128.size a) ∧
  (∀ (k0_h17 : k0_cond17 k0_t1 arg26_r0 = 1#1), ∀ a, (k0_off42 arg21_r0) a + S1x512x128.size a ≤ S2x512x128.size a) ∧
  (∀ (k0_h18 : k0_cond18 k0_t1 arg26_r0 = 1#1), ∀ a, (k0_off43 arg23_r0) a + S1.size a ≤ S2.size a) ∧
  (∀ (k0_h18 : k0_cond18 k0_t1 arg26_r0 = 1#1), ∀ a, (k0_off44 arg26_r0) a + S512x128.size a ≤ S4096x128.size a) ∧
  (∀ (k0_h18 : k0_cond18 k0_t1 arg26_r0 = 1#1), ∀ a, (k0_off45 arg23_r0) a + S1x512x128.size a ≤ S2x512x128.size a) ∧
  (∀ (k0_h19 : k0_cond19 k0_t1 arg26_r0 = 1#1), ∀ a, (k0_off46 arg25_r0) a + S1.size a ≤ S2.size a) ∧
  (∀ (k0_h19 : k0_cond19 k0_t1 arg26_r0 = 1#1), ∀ a, (k0_off47 arg26_r0) a + S512x128.size a ≤ S4096x128.size a) ∧
  (∀ (k0_h19 : k0_cond19 k0_t1 arg26_r0 = 1#1), ∀ a, (k0_off48 arg25_r0) a + S1x512x128.size a ≤ S2x512x128.size a)
def k0_chk1 (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) : Prop :=
  k0_chk1_0 k0_t1 arg14_r0 arg15_r0 arg16_r0 arg17_r0 arg18_r0 arg19_r0 arg20_r0 arg21_r0 arg22_r0 arg23_r0 arg24_r0 arg25_r0 arg26_r0 ∧
  k0_chk1_1 k0_t1 arg14_r0 arg15_r0 arg16_r0 arg17_r0 arg18_r0 arg19_r0 arg20_r0 arg21_r0 arg22_r0 arg23_r0 arg24_r0 arg25_r0 arg26_r0
theorem k0_off3_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg14_r0 arg15_r0 arg16_r0 arg17_r0 arg18_r0 arg19_r0 arg20_r0 arg21_r0 arg22_r0 arg23_r0 arg24_r0 arg25_r0 arg26_r0), ∀ (k0_h1 : k0_cond1 k0_t1 arg26_r0 = 1#1), ∀ a, (k0_off3 arg14_r0) a + S1.size a ≤ S2.size a := fun k0_t1 arg14_r0 arg15_r0 arg16_r0 arg17_r0 arg18_r0 arg19_r0 arg20_r0 arg21_r0 arg22_r0 arg23_r0 arg24_r0 arg25_r0 arg26_r0 k0_hw1 k0_h1 => k0_hw1.1.1 k0_h1
theorem k0_off4_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg14_r0 arg15_r0 arg16_r0 arg17_r0 arg18_r0 arg19_r0 arg20_r0 arg21_r0 arg22_r0 arg23_r0 arg24_r0 arg25_r0 arg26_r0), ∀ (k0_h1 : k0_cond1 k0_t1 arg26_r0 = 1#1), ∀ a, (k0_off4 arg14_r0) a + S1x512x4096.size a ≤ S2x512x4096.size a := fun k0_t1 arg14_r0 arg15_r0 arg16_r0 arg17_r0 arg18_r0 arg19_r0 arg20_r0 arg21_r0 arg22_r0 arg23_r0 arg24_r0 arg25_r0 arg26_r0 k0_hw1 k0_h1 => k0_hw1.1.2.1 k0_h1
theorem k0_off5_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg14_r0 arg15_r0 arg16_r0 arg17_r0 arg18_r0 arg19_r0 arg20_r0 arg21_r0 arg22_r0 arg23_r0 arg24_r0 arg25_r0 arg26_r0), ∀ (k0_h1 : k0_cond1 k0_t1 arg26_r0 = 1#1), ∀ a, (k0_off5 arg26_r0) a + S512x4096.size a ≤ S4096x4096.size a := fun k0_t1 arg14_r0 arg15_r0 arg16_r0 arg17_r0 arg18_r0 arg19_r0 arg20_r0 arg21_r0 arg22_r0 arg23_r0 arg24_r0 arg25_r0 arg26_r0 k0_hw1 k0_h1 => k0_hw1.1.2.2.1 k0_h1
theorem k0_off6_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg14_r0 arg15_r0 arg16_r0 arg17_r0 arg18_r0 arg19_r0 arg20_r0 arg21_r0 arg22_r0 arg23_r0 arg24_r0 arg25_r0 arg26_r0), ∀ (k0_h2 : k0_cond2 k0_t1 arg26_r0 = 1#1), ∀ a, (k0_off6 arg15_r0) a + S1.size a ≤ S2.size a := fun k0_t1 arg14_r0 arg15_r0 arg16_r0 arg17_r0 arg18_r0 arg19_r0 arg20_r0 arg21_r0 arg22_r0 arg23_r0 arg24_r0 arg25_r0 arg26_r0 k0_hw1 k0_h2 => k0_hw1.1.2.2.2.1 k0_h2
theorem k0_off7_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg14_r0 arg15_r0 arg16_r0 arg17_r0 arg18_r0 arg19_r0 arg20_r0 arg21_r0 arg22_r0 arg23_r0 arg24_r0 arg25_r0 arg26_r0), ∀ (k0_h2 : k0_cond2 k0_t1 arg26_r0 = 1#1), ∀ a, (k0_off7 arg15_r0) a + S1x512x4096.size a ≤ S2x512x4096.size a := fun k0_t1 arg14_r0 arg15_r0 arg16_r0 arg17_r0 arg18_r0 arg19_r0 arg20_r0 arg21_r0 arg22_r0 arg23_r0 arg24_r0 arg25_r0 arg26_r0 k0_hw1 k0_h2 => k0_hw1.1.2.2.2.2.1 k0_h2
theorem k0_off8_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg14_r0 arg15_r0 arg16_r0 arg17_r0 arg18_r0 arg19_r0 arg20_r0 arg21_r0 arg22_r0 arg23_r0 arg24_r0 arg25_r0 arg26_r0), ∀ (k0_h2 : k0_cond2 k0_t1 arg26_r0 = 1#1), ∀ a, (k0_off8 arg26_r0) a + S512x4096.size a ≤ S4096x4096.size a := fun k0_t1 arg14_r0 arg15_r0 arg16_r0 arg17_r0 arg18_r0 arg19_r0 arg20_r0 arg21_r0 arg22_r0 arg23_r0 arg24_r0 arg25_r0 arg26_r0 k0_hw1 k0_h2 => k0_hw1.1.2.2.2.2.2.1 k0_h2
theorem k0_off10_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg14_r0 arg15_r0 arg16_r0 arg17_r0 arg18_r0 arg19_r0 arg20_r0 arg21_r0 arg22_r0 arg23_r0 arg24_r0 arg25_r0 arg26_r0), ∀ a, (k0_off10 arg26_r0) a + S512x4096.size a ≤ S4096x4096.size a := fun k0_t1 arg14_r0 arg15_r0 arg16_r0 arg17_r0 arg18_r0 arg19_r0 arg20_r0 arg21_r0 arg22_r0 arg23_r0 arg24_r0 arg25_r0 arg26_r0 k0_hw1 => k0_hw1.1.2.2.2.2.2.2.1
theorem k0_off10_packedi8 : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg14_r0 arg15_r0 arg16_r0 arg17_r0 arg18_r0 arg19_r0 arg20_r0 arg21_r0 arg22_r0 arg23_r0 arg24_r0 arg25_r0 arg26_r0), (Rect.unit (s := S4096x4096) (k0_off10 arg26_r0) S512x4096.size (k0_off10_inb k0_t1 arg14_r0 arg15_r0 arg16_r0 arg17_r0 arg18_r0 arg19_r0 arg20_r0 arg21_r0 arg22_r0 arg23_r0 arg24_r0 arg25_r0 arg26_r0 k0_hw1)).PackedRows (EltTy.packing .i8) := fun k0_t1 arg14_r0 arg15_r0 arg16_r0 arg17_r0 arg18_r0 arg19_r0 arg20_r0 arg21_r0 arg22_r0 arg23_r0 arg24_r0 arg25_r0 arg26_r0 k0_hw1 => k0_hw1.1.2.2.2.2.2.2.2.1 (k0_off10_inb k0_t1 arg14_r0 arg15_r0 arg16_r0 arg17_r0 arg18_r0 arg19_r0 arg20_r0 arg21_r0 arg22_r0 arg23_r0 arg24_r0 arg25_r0 arg26_r0 k0_hw1)
theorem k0_off11_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg14_r0 arg15_r0 arg16_r0 arg17_r0 arg18_r0 arg19_r0 arg20_r0 arg21_r0 arg22_r0 arg23_r0 arg24_r0 arg25_r0 arg26_r0), ∀ a, (k0_off11 arg26_r0) a + S512x128.size a ≤ S4096x128.size a := fun k0_t1 arg14_r0 arg15_r0 arg16_r0 arg17_r0 arg18_r0 arg19_r0 arg20_r0 arg21_r0 arg22_r0 arg23_r0 arg24_r0 arg25_r0 arg26_r0 k0_hw1 => k0_hw1.1.2.2.2.2.2.2.2.2.1
theorem k0_off12_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg14_r0 arg15_r0 arg16_r0 arg17_r0 arg18_r0 arg19_r0 arg20_r0 arg21_r0 arg22_r0 arg23_r0 arg24_r0 arg25_r0 arg26_r0), ∀ a, (k0_off12 arg26_r0) a + S1x512.size a ≤ S1x4096.size a := fun k0_t1 arg14_r0 arg15_r0 arg16_r0 arg17_r0 arg18_r0 arg19_r0 arg20_r0 arg21_r0 arg22_r0 arg23_r0 arg24_r0 arg25_r0 arg26_r0 k0_hw1 => k0_hw1.1.2.2.2.2.2.2.2.2.2.1
theorem k0_off18_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg14_r0 arg15_r0 arg16_r0 arg17_r0 arg18_r0 arg19_r0 arg20_r0 arg21_r0 arg22_r0 arg23_r0 arg24_r0 arg25_r0 arg26_r0), ∀ a, (k0_off18 arg26_r0) a + S512x128.size a ≤ S4096x128.size a := fun k0_t1 arg14_r0 arg15_r0 arg16_r0 arg17_r0 arg18_r0 arg19_r0 arg20_r0 arg21_r0 arg22_r0 arg23_r0 arg24_r0 arg25_r0 arg26_r0 k0_hw1 => k0_hw1.1.2.2.2.2.2.2.2.2.2.2.1
theorem k0_off19_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg14_r0 arg15_r0 arg16_r0 arg17_r0 arg18_r0 arg19_r0 arg20_r0 arg21_r0 arg22_r0 arg23_r0 arg24_r0 arg25_r0 arg26_r0), ∀ (k0_h9 : k0_cond9 k0_t1 arg26_r0 = 1#1), ∀ a, (k0_off19 arg16_r0) a + S1.size a ≤ S2.size a := fun k0_t1 arg14_r0 arg15_r0 arg16_r0 arg17_r0 arg18_r0 arg19_r0 arg20_r0 arg21_r0 arg22_r0 arg23_r0 arg24_r0 arg25_r0 arg26_r0 k0_hw1 k0_h9 => k0_hw1.1.2.2.2.2.2.2.2.2.2.2.2.1 k0_h9
theorem k0_off20_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg14_r0 arg15_r0 arg16_r0 arg17_r0 arg18_r0 arg19_r0 arg20_r0 arg21_r0 arg22_r0 arg23_r0 arg24_r0 arg25_r0 arg26_r0), ∀ (k0_h9 : k0_cond9 k0_t1 arg26_r0 = 1#1), ∀ a, (k0_off20 arg26_r0) a + S512x128.size a ≤ S4096x128.size a := fun k0_t1 arg14_r0 arg15_r0 arg16_r0 arg17_r0 arg18_r0 arg19_r0 arg20_r0 arg21_r0 arg22_r0 arg23_r0 arg24_r0 arg25_r0 arg26_r0 k0_hw1 k0_h9 => k0_hw1.1.2.2.2.2.2.2.2.2.2.2.2.2.1 k0_h9
theorem k0_off21_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg14_r0 arg15_r0 arg16_r0 arg17_r0 arg18_r0 arg19_r0 arg20_r0 arg21_r0 arg22_r0 arg23_r0 arg24_r0 arg25_r0 arg26_r0), ∀ (k0_h9 : k0_cond9 k0_t1 arg26_r0 = 1#1), ∀ a, (k0_off21 arg16_r0) a + S1x512x128.size a ≤ S2x512x128.size a := fun k0_t1 arg14_r0 arg15_r0 arg16_r0 arg17_r0 arg18_r0 arg19_r0 arg20_r0 arg21_r0 arg22_r0 arg23_r0 arg24_r0 arg25_r0 arg26_r0 k0_hw1 k0_h9 => k0_hw1.1.2.2.2.2.2.2.2.2.2.2.2.2.2.1 k0_h9
theorem k0_off22_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg14_r0 arg15_r0 arg16_r0 arg17_r0 arg18_r0 arg19_r0 arg20_r0 arg21_r0 arg22_r0 arg23_r0 arg24_r0 arg25_r0 arg26_r0), ∀ (k0_h10 : k0_cond10 k0_t1 arg26_r0 = 1#1), ∀ a, (k0_off22 arg18_r0) a + S1.size a ≤ S2.size a := fun k0_t1 arg14_r0 arg15_r0 arg16_r0 arg17_r0 arg18_r0 arg19_r0 arg20_r0 arg21_r0 arg22_r0 arg23_r0 arg24_r0 arg25_r0 arg26_r0 k0_hw1 k0_h10 => k0_hw1.1.2.2.2.2.2.2.2.2.2.2.2.2.2.2.1 k0_h10
theorem k0_off23_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg14_r0 arg15_r0 arg16_r0 arg17_r0 arg18_r0 arg19_r0 arg20_r0 arg21_r0 arg22_r0 arg23_r0 arg24_r0 arg25_r0 arg26_r0), ∀ (k0_h10 : k0_cond10 k0_t1 arg26_r0 = 1#1), ∀ a, (k0_off23 arg26_r0) a + S512x128.size a ≤ S4096x128.size a := fun k0_t1 arg14_r0 arg15_r0 arg16_r0 arg17_r0 arg18_r0 arg19_r0 arg20_r0 arg21_r0 arg22_r0 arg23_r0 arg24_r0 arg25_r0 arg26_r0 k0_hw1 k0_h10 => k0_hw1.1.2.2.2.2.2.2.2.2.2.2.2.2.2.2.2.1 k0_h10
theorem k0_off24_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg14_r0 arg15_r0 arg16_r0 arg17_r0 arg18_r0 arg19_r0 arg20_r0 arg21_r0 arg22_r0 arg23_r0 arg24_r0 arg25_r0 arg26_r0), ∀ (k0_h10 : k0_cond10 k0_t1 arg26_r0 = 1#1), ∀ a, (k0_off24 arg18_r0) a + S1x512x128.size a ≤ S2x512x128.size a := fun k0_t1 arg14_r0 arg15_r0 arg16_r0 arg17_r0 arg18_r0 arg19_r0 arg20_r0 arg21_r0 arg22_r0 arg23_r0 arg24_r0 arg25_r0 arg26_r0 k0_hw1 k0_h10 => k0_hw1.1.2.2.2.2.2.2.2.2.2.2.2.2.2.2.2.2.1 k0_h10
theorem k0_off25_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg14_r0 arg15_r0 arg16_r0 arg17_r0 arg18_r0 arg19_r0 arg20_r0 arg21_r0 arg22_r0 arg23_r0 arg24_r0 arg25_r0 arg26_r0), ∀ (k0_h11 : k0_cond11 k0_t1 arg26_r0 = 1#1), ∀ a, (k0_off25 arg20_r0) a + S1.size a ≤ S2.size a := fun k0_t1 arg14_r0 arg15_r0 arg16_r0 arg17_r0 arg18_r0 arg19_r0 arg20_r0 arg21_r0 arg22_r0 arg23_r0 arg24_r0 arg25_r0 arg26_r0 k0_hw1 k0_h11 => k0_hw1.1.2.2.2.2.2.2.2.2.2.2.2.2.2.2.2.2.2.1 k0_h11
theorem k0_off26_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg14_r0 arg15_r0 arg16_r0 arg17_r0 arg18_r0 arg19_r0 arg20_r0 arg21_r0 arg22_r0 arg23_r0 arg24_r0 arg25_r0 arg26_r0), ∀ (k0_h11 : k0_cond11 k0_t1 arg26_r0 = 1#1), ∀ a, (k0_off26 arg26_r0) a + S512x128.size a ≤ S4096x128.size a := fun k0_t1 arg14_r0 arg15_r0 arg16_r0 arg17_r0 arg18_r0 arg19_r0 arg20_r0 arg21_r0 arg22_r0 arg23_r0 arg24_r0 arg25_r0 arg26_r0 k0_hw1 k0_h11 => k0_hw1.1.2.2.2.2.2.2.2.2.2.2.2.2.2.2.2.2.2.2.1 k0_h11
theorem k0_off27_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg14_r0 arg15_r0 arg16_r0 arg17_r0 arg18_r0 arg19_r0 arg20_r0 arg21_r0 arg22_r0 arg23_r0 arg24_r0 arg25_r0 arg26_r0), ∀ (k0_h11 : k0_cond11 k0_t1 arg26_r0 = 1#1), ∀ a, (k0_off27 arg20_r0) a + S1x512x128.size a ≤ S2x512x128.size a := fun k0_t1 arg14_r0 arg15_r0 arg16_r0 arg17_r0 arg18_r0 arg19_r0 arg20_r0 arg21_r0 arg22_r0 arg23_r0 arg24_r0 arg25_r0 arg26_r0 k0_hw1 k0_h11 => k0_hw1.1.2.2.2.2.2.2.2.2.2.2.2.2.2.2.2.2.2.2.2.1 k0_h11
theorem k0_off28_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg14_r0 arg15_r0 arg16_r0 arg17_r0 arg18_r0 arg19_r0 arg20_r0 arg21_r0 arg22_r0 arg23_r0 arg24_r0 arg25_r0 arg26_r0), ∀ (k0_h12 : k0_cond12 k0_t1 arg26_r0 = 1#1), ∀ a, (k0_off28 arg22_r0) a + S1.size a ≤ S2.size a := fun k0_t1 arg14_r0 arg15_r0 arg16_r0 arg17_r0 arg18_r0 arg19_r0 arg20_r0 arg21_r0 arg22_r0 arg23_r0 arg24_r0 arg25_r0 arg26_r0 k0_hw1 k0_h12 => k0_hw1.1.2.2.2.2.2.2.2.2.2.2.2.2.2.2.2.2.2.2.2.2.1 k0_h12
theorem k0_off29_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg14_r0 arg15_r0 arg16_r0 arg17_r0 arg18_r0 arg19_r0 arg20_r0 arg21_r0 arg22_r0 arg23_r0 arg24_r0 arg25_r0 arg26_r0), ∀ (k0_h12 : k0_cond12 k0_t1 arg26_r0 = 1#1), ∀ a, (k0_off29 arg26_r0) a + S512x128.size a ≤ S4096x128.size a := fun k0_t1 arg14_r0 arg15_r0 arg16_r0 arg17_r0 arg18_r0 arg19_r0 arg20_r0 arg21_r0 arg22_r0 arg23_r0 arg24_r0 arg25_r0 arg26_r0 k0_hw1 k0_h12 => k0_hw1.1.2.2.2.2.2.2.2.2.2.2.2.2.2.2.2.2.2.2.2.2.2.1 k0_h12
theorem k0_off30_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg14_r0 arg15_r0 arg16_r0 arg17_r0 arg18_r0 arg19_r0 arg20_r0 arg21_r0 arg22_r0 arg23_r0 arg24_r0 arg25_r0 arg26_r0), ∀ (k0_h12 : k0_cond12 k0_t1 arg26_r0 = 1#1), ∀ a, (k0_off30 arg22_r0) a + S1x512x128.size a ≤ S2x512x128.size a := fun k0_t1 arg14_r0 arg15_r0 arg16_r0 arg17_r0 arg18_r0 arg19_r0 arg20_r0 arg21_r0 arg22_r0 arg23_r0 arg24_r0 arg25_r0 arg26_r0 k0_hw1 k0_h12 => k0_hw1.1.2.2.2.2.2.2.2.2.2.2.2.2.2.2.2.2.2.2.2.2.2.2.1 k0_h12
theorem k0_off31_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg14_r0 arg15_r0 arg16_r0 arg17_r0 arg18_r0 arg19_r0 arg20_r0 arg21_r0 arg22_r0 arg23_r0 arg24_r0 arg25_r0 arg26_r0), ∀ (k0_h13 : k0_cond13 k0_t1 arg26_r0 = 1#1), ∀ a, (k0_off31 arg24_r0) a + S1.size a ≤ S2.size a := fun k0_t1 arg14_r0 arg15_r0 arg16_r0 arg17_r0 arg18_r0 arg19_r0 arg20_r0 arg21_r0 arg22_r0 arg23_r0 arg24_r0 arg25_r0 arg26_r0 k0_hw1 k0_h13 => k0_hw1.1.2.2.2.2.2.2.2.2.2.2.2.2.2.2.2.2.2.2.2.2.2.2.2.1 k0_h13
theorem k0_off32_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg14_r0 arg15_r0 arg16_r0 arg17_r0 arg18_r0 arg19_r0 arg20_r0 arg21_r0 arg22_r0 arg23_r0 arg24_r0 arg25_r0 arg26_r0), ∀ (k0_h13 : k0_cond13 k0_t1 arg26_r0 = 1#1), ∀ a, (k0_off32 arg26_r0) a + S512x128.size a ≤ S4096x128.size a := fun k0_t1 arg14_r0 arg15_r0 arg16_r0 arg17_r0 arg18_r0 arg19_r0 arg20_r0 arg21_r0 arg22_r0 arg23_r0 arg24_r0 arg25_r0 arg26_r0 k0_hw1 k0_h13 => k0_hw1.1.2.2.2.2.2.2.2.2.2.2.2.2.2.2.2.2.2.2.2.2.2.2.2.2.1 k0_h13
theorem k0_off33_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg14_r0 arg15_r0 arg16_r0 arg17_r0 arg18_r0 arg19_r0 arg20_r0 arg21_r0 arg22_r0 arg23_r0 arg24_r0 arg25_r0 arg26_r0), ∀ (k0_h13 : k0_cond13 k0_t1 arg26_r0 = 1#1), ∀ a, (k0_off33 arg24_r0) a + S1x512x128.size a ≤ S2x512x128.size a := fun k0_t1 arg14_r0 arg15_r0 arg16_r0 arg17_r0 arg18_r0 arg19_r0 arg20_r0 arg21_r0 arg22_r0 arg23_r0 arg24_r0 arg25_r0 arg26_r0 k0_hw1 k0_h13 => k0_hw1.1.2.2.2.2.2.2.2.2.2.2.2.2.2.2.2.2.2.2.2.2.2.2.2.2.2.1 k0_h13
theorem k0_off34_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg14_r0 arg15_r0 arg16_r0 arg17_r0 arg18_r0 arg19_r0 arg20_r0 arg21_r0 arg22_r0 arg23_r0 arg24_r0 arg25_r0 arg26_r0), ∀ (k0_h15 : k0_cond15 k0_t1 arg26_r0 = 1#1), ∀ a, (k0_off34 arg17_r0) a + S1.size a ≤ S2.size a := fun k0_t1 arg14_r0 arg15_r0 arg16_r0 arg17_r0 arg18_r0 arg19_r0 arg20_r0 arg21_r0 arg22_r0 arg23_r0 arg24_r0 arg25_r0 arg26_r0 k0_hw1 k0_h15 => k0_hw1.1.2.2.2.2.2.2.2.2.2.2.2.2.2.2.2.2.2.2.2.2.2.2.2.2.2.2.1 k0_h15
theorem k0_off35_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg14_r0 arg15_r0 arg16_r0 arg17_r0 arg18_r0 arg19_r0 arg20_r0 arg21_r0 arg22_r0 arg23_r0 arg24_r0 arg25_r0 arg26_r0), ∀ (k0_h15 : k0_cond15 k0_t1 arg26_r0 = 1#1), ∀ a, (k0_off35 arg26_r0) a + S512x128.size a ≤ S4096x128.size a := fun k0_t1 arg14_r0 arg15_r0 arg16_r0 arg17_r0 arg18_r0 arg19_r0 arg20_r0 arg21_r0 arg22_r0 arg23_r0 arg24_r0 arg25_r0 arg26_r0 k0_hw1 k0_h15 => k0_hw1.1.2.2.2.2.2.2.2.2.2.2.2.2.2.2.2.2.2.2.2.2.2.2.2.2.2.2.2.1 k0_h15
theorem k0_off36_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg14_r0 arg15_r0 arg16_r0 arg17_r0 arg18_r0 arg19_r0 arg20_r0 arg21_r0 arg22_r0 arg23_r0 arg24_r0 arg25_r0 arg26_r0), ∀ (k0_h15 : k0_cond15 k0_t1 arg26_r0 = 1#1), ∀ a, (k0_off36 arg17_r0) a + S1x512x128.size a ≤ S2x512x128.size a := fun k0_t1 arg14_r0 arg15_r0 arg16_r0 arg17_r0 arg18_r0 arg19_r0 arg20_r0 arg21_r0 arg22_r0 arg23_r0 arg24_r0 arg25_r0 arg26_r0 k0_hw1 k0_h15 => k0_hw1.1.2.2.2.2.2.2.2.2.2.2.2.2.2.2.2.2.2.2.2.2.2.2.2.2.2.2.2.2.1 k0_h15
theorem k0_off37_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg14_r0 arg15_r0 arg16_r0 arg17_r0 arg18_r0 arg19_r0 arg20_r0 arg21_r0 arg22_r0 arg23_r0 arg24_r0 arg25_r0 arg26_r0), ∀ (k0_h16 : k0_cond16 k0_t1 arg26_r0 = 1#1), ∀ a, (k0_off37 arg19_r0) a + S1.size a ≤ S2.size a := fun k0_t1 arg14_r0 arg15_r0 arg16_r0 arg17_r0 arg18_r0 arg19_r0 arg20_r0 arg21_r0 arg22_r0 arg23_r0 arg24_r0 arg25_r0 arg26_r0 k0_hw1 k0_h16 => k0_hw1.1.2.2.2.2.2.2.2.2.2.2.2.2.2.2.2.2.2.2.2.2.2.2.2.2.2.2.2.2.2.1 k0_h16
theorem k0_off38_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg14_r0 arg15_r0 arg16_r0 arg17_r0 arg18_r0 arg19_r0 arg20_r0 arg21_r0 arg22_r0 arg23_r0 arg24_r0 arg25_r0 arg26_r0), ∀ (k0_h16 : k0_cond16 k0_t1 arg26_r0 = 1#1), ∀ a, (k0_off38 arg26_r0) a + S512x128.size a ≤ S4096x128.size a := fun k0_t1 arg14_r0 arg15_r0 arg16_r0 arg17_r0 arg18_r0 arg19_r0 arg20_r0 arg21_r0 arg22_r0 arg23_r0 arg24_r0 arg25_r0 arg26_r0 k0_hw1 k0_h16 => k0_hw1.1.2.2.2.2.2.2.2.2.2.2.2.2.2.2.2.2.2.2.2.2.2.2.2.2.2.2.2.2.2.2.1 k0_h16
theorem k0_off39_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg14_r0 arg15_r0 arg16_r0 arg17_r0 arg18_r0 arg19_r0 arg20_r0 arg21_r0 arg22_r0 arg23_r0 arg24_r0 arg25_r0 arg26_r0), ∀ (k0_h16 : k0_cond16 k0_t1 arg26_r0 = 1#1), ∀ a, (k0_off39 arg19_r0) a + S1x512x128.size a ≤ S2x512x128.size a := fun k0_t1 arg14_r0 arg15_r0 arg16_r0 arg17_r0 arg18_r0 arg19_r0 arg20_r0 arg21_r0 arg22_r0 arg23_r0 arg24_r0 arg25_r0 arg26_r0 k0_hw1 k0_h16 => k0_hw1.1.2.2.2.2.2.2.2.2.2.2.2.2.2.2.2.2.2.2.2.2.2.2.2.2.2.2.2.2.2.2.2 k0_h16
theorem k0_off40_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg14_r0 arg15_r0 arg16_r0 arg17_r0 arg18_r0 arg19_r0 arg20_r0 arg21_r0 arg22_r0 arg23_r0 arg24_r0 arg25_r0 arg26_r0), ∀ (k0_h17 : k0_cond17 k0_t1 arg26_r0 = 1#1), ∀ a, (k0_off40 arg21_r0) a + S1.size a ≤ S2.size a := fun k0_t1 arg14_r0 arg15_r0 arg16_r0 arg17_r0 arg18_r0 arg19_r0 arg20_r0 arg21_r0 arg22_r0 arg23_r0 arg24_r0 arg25_r0 arg26_r0 k0_hw1 k0_h17 => k0_hw1.2.1 k0_h17
theorem k0_off41_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg14_r0 arg15_r0 arg16_r0 arg17_r0 arg18_r0 arg19_r0 arg20_r0 arg21_r0 arg22_r0 arg23_r0 arg24_r0 arg25_r0 arg26_r0), ∀ (k0_h17 : k0_cond17 k0_t1 arg26_r0 = 1#1), ∀ a, (k0_off41 arg26_r0) a + S512x128.size a ≤ S4096x128.size a := fun k0_t1 arg14_r0 arg15_r0 arg16_r0 arg17_r0 arg18_r0 arg19_r0 arg20_r0 arg21_r0 arg22_r0 arg23_r0 arg24_r0 arg25_r0 arg26_r0 k0_hw1 k0_h17 => k0_hw1.2.2.1 k0_h17
theorem k0_off42_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg14_r0 arg15_r0 arg16_r0 arg17_r0 arg18_r0 arg19_r0 arg20_r0 arg21_r0 arg22_r0 arg23_r0 arg24_r0 arg25_r0 arg26_r0), ∀ (k0_h17 : k0_cond17 k0_t1 arg26_r0 = 1#1), ∀ a, (k0_off42 arg21_r0) a + S1x512x128.size a ≤ S2x512x128.size a := fun k0_t1 arg14_r0 arg15_r0 arg16_r0 arg17_r0 arg18_r0 arg19_r0 arg20_r0 arg21_r0 arg22_r0 arg23_r0 arg24_r0 arg25_r0 arg26_r0 k0_hw1 k0_h17 => k0_hw1.2.2.2.1 k0_h17
theorem k0_off43_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg14_r0 arg15_r0 arg16_r0 arg17_r0 arg18_r0 arg19_r0 arg20_r0 arg21_r0 arg22_r0 arg23_r0 arg24_r0 arg25_r0 arg26_r0), ∀ (k0_h18 : k0_cond18 k0_t1 arg26_r0 = 1#1), ∀ a, (k0_off43 arg23_r0) a + S1.size a ≤ S2.size a := fun k0_t1 arg14_r0 arg15_r0 arg16_r0 arg17_r0 arg18_r0 arg19_r0 arg20_r0 arg21_r0 arg22_r0 arg23_r0 arg24_r0 arg25_r0 arg26_r0 k0_hw1 k0_h18 => k0_hw1.2.2.2.2.1 k0_h18
theorem k0_off44_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg14_r0 arg15_r0 arg16_r0 arg17_r0 arg18_r0 arg19_r0 arg20_r0 arg21_r0 arg22_r0 arg23_r0 arg24_r0 arg25_r0 arg26_r0), ∀ (k0_h18 : k0_cond18 k0_t1 arg26_r0 = 1#1), ∀ a, (k0_off44 arg26_r0) a + S512x128.size a ≤ S4096x128.size a := fun k0_t1 arg14_r0 arg15_r0 arg16_r0 arg17_r0 arg18_r0 arg19_r0 arg20_r0 arg21_r0 arg22_r0 arg23_r0 arg24_r0 arg25_r0 arg26_r0 k0_hw1 k0_h18 => k0_hw1.2.2.2.2.2.1 k0_h18
theorem k0_off45_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg14_r0 arg15_r0 arg16_r0 arg17_r0 arg18_r0 arg19_r0 arg20_r0 arg21_r0 arg22_r0 arg23_r0 arg24_r0 arg25_r0 arg26_r0), ∀ (k0_h18 : k0_cond18 k0_t1 arg26_r0 = 1#1), ∀ a, (k0_off45 arg23_r0) a + S1x512x128.size a ≤ S2x512x128.size a := fun k0_t1 arg14_r0 arg15_r0 arg16_r0 arg17_r0 arg18_r0 arg19_r0 arg20_r0 arg21_r0 arg22_r0 arg23_r0 arg24_r0 arg25_r0 arg26_r0 k0_hw1 k0_h18 => k0_hw1.2.2.2.2.2.2.1 k0_h18
theorem k0_off46_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg14_r0 arg15_r0 arg16_r0 arg17_r0 arg18_r0 arg19_r0 arg20_r0 arg21_r0 arg22_r0 arg23_r0 arg24_r0 arg25_r0 arg26_r0), ∀ (k0_h19 : k0_cond19 k0_t1 arg26_r0 = 1#1), ∀ a, (k0_off46 arg25_r0) a + S1.size a ≤ S2.size a := fun k0_t1 arg14_r0 arg15_r0 arg16_r0 arg17_r0 arg18_r0 arg19_r0 arg20_r0 arg21_r0 arg22_r0 arg23_r0 arg24_r0 arg25_r0 arg26_r0 k0_hw1 k0_h19 => k0_hw1.2.2.2.2.2.2.2.1 k0_h19
theorem k0_off47_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg14_r0 arg15_r0 arg16_r0 arg17_r0 arg18_r0 arg19_r0 arg20_r0 arg21_r0 arg22_r0 arg23_r0 arg24_r0 arg25_r0 arg26_r0), ∀ (k0_h19 : k0_cond19 k0_t1 arg26_r0 = 1#1), ∀ a, (k0_off47 arg26_r0) a + S512x128.size a ≤ S4096x128.size a := fun k0_t1 arg14_r0 arg15_r0 arg16_r0 arg17_r0 arg18_r0 arg19_r0 arg20_r0 arg21_r0 arg22_r0 arg23_r0 arg24_r0 arg25_r0 arg26_r0 k0_hw1 k0_h19 => k0_hw1.2.2.2.2.2.2.2.2.1 k0_h19
theorem k0_off48_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg14_r0 arg15_r0 arg16_r0 arg17_r0 arg18_r0 arg19_r0 arg20_r0 arg21_r0 arg22_r0 arg23_r0 arg24_r0 arg25_r0 arg26_r0), ∀ (k0_h19 : k0_cond19 k0_t1 arg26_r0 = 1#1), ∀ a, (k0_off48 arg25_r0) a + S1x512x128.size a ≤ S2x512x128.size a := fun k0_t1 arg14_r0 arg15_r0 arg16_r0 arg17_r0 arg18_r0 arg19_r0 arg20_r0 arg21_r0 arg22_r0 arg23_r0 arg24_r0 arg25_r0 arg26_r0 k0_hw1 k0_h19 => k0_hw1.2.2.2.2.2.2.2.2.2 k0_h19

def k0_off49 (v34_3_r0 : BitVec 32) : Fin 1 → Nat :=
  let c2_i32_65_r0 : BitVec 32 := 2#32
  let v55_r0 : BitVec 32 := Scalar.remui v34_3_r0 c2_i32_65_r0
  ![v55_r0.toNat]

def k0_off50 (v34_12_r0 : BitVec 32) : Fin 2 → Nat :=
  let c512_i32_r0 : BitVec 32 := 512#32
  let true_46_r0 : BitVec 1 := 1#1
  let c1_i32_45_r0 : BitVec 32 := 1#32
  let v35_r0 : BitVec 32 := Scalar.subi v34_12_r0 c1_i32_45_r0
  let v36_r0 : BitVec 32 := Scalar.select true_46_r0 v35_r0 v34_12_r0
  let c_m1_i32_47_r0 : BitVec 32 := 4294967295#32
  let v37_r0 : BitVec 1 := Scalar.cmpi .eq v36_r0 c_m1_i32_47_r0
  let c7_i32_48_r0 : BitVec 32 := 7#32
  let v38_r0 : BitVec 32 := Scalar.select v37_r0 c7_i32_48_r0 v36_r0
  let c0_i32_49_r0 : BitVec 32 := 0#32
  let v39_r0 : BitVec 32 := Scalar.addi v38_r0 c0_i32_49_r0
  let v56_r0 : BitVec 32 := Scalar.muli c512_i32_r0 v39_r0
  let c0_i32_66_r0 : BitVec 32 := 0#32
  ![v56_r0.toNat, 0]

def k0_off51 (v34_3_r0 : BitVec 32) : Fin 3 → Nat :=
  let c2_i32_65_r0 : BitVec 32 := 2#32
  let v55_r0 : BitVec 32 := Scalar.remui v34_3_r0 c2_i32_65_r0
  let c0_i32_67_r0 : BitVec 32 := 0#32
  let c0_i32_68_r0 : BitVec 32 := 0#32
  ![v55_r0.toNat, 0, 0]

def k0_chk8 (v34_3_r0 : BitVec 32) : Prop :=
  (∀ a, (k0_off49 v34_3_r0) a + S1.size a ≤ S2.size a) ∧
  (∀ a, (k0_off51 v34_3_r0) a + S1x512x128.size a ≤ S2x512x128.size a)
theorem k0_off49_inb : ∀ (v34_3_r0 : BitVec 32) (k0_hw8 : k0_chk8 v34_3_r0), ∀ a, (k0_off49 v34_3_r0) a + S1.size a ≤ S2.size a := fun v34_3_r0 k0_hw8 => k0_hw8.1
theorem k0_off51_inb : ∀ (v34_3_r0 : BitVec 32) (k0_hw8 : k0_chk8 v34_3_r0), ∀ a, (k0_off51 v34_3_r0) a + S1x512x128.size a ≤ S2x512x128.size a := fun v34_3_r0 k0_hw8 => k0_hw8.2

def k0_off52 (v34_5_r0 : BitVec 32) : Fin 1 → Nat :=
  let c2_i32_69_r0 : BitVec 32 := 2#32
  let v62_r0 : BitVec 32 := Scalar.remui v34_5_r0 c2_i32_69_r0
  ![v62_r0.toNat]

def k0_off53 (v34_12_r0 : BitVec 32) : Fin 2 → Nat :=
  let c512_i32_70_r0 : BitVec 32 := 512#32
  let true_46_r0 : BitVec 1 := 1#1
  let c1_i32_45_r0 : BitVec 32 := 1#32
  let v35_r0 : BitVec 32 := Scalar.subi v34_12_r0 c1_i32_45_r0
  let v36_r0 : BitVec 32 := Scalar.select true_46_r0 v35_r0 v34_12_r0
  let c_m1_i32_47_r0 : BitVec 32 := 4294967295#32
  let v37_r0 : BitVec 1 := Scalar.cmpi .eq v36_r0 c_m1_i32_47_r0
  let c7_i32_48_r0 : BitVec 32 := 7#32
  let v38_r0 : BitVec 32 := Scalar.select v37_r0 c7_i32_48_r0 v36_r0
  let c0_i32_49_r0 : BitVec 32 := 0#32
  let v39_r0 : BitVec 32 := Scalar.addi v38_r0 c0_i32_49_r0
  let v63_r0 : BitVec 32 := Scalar.muli c512_i32_70_r0 v39_r0
  let c0_i32_71_r0 : BitVec 32 := 0#32
  ![v63_r0.toNat, 0]
def k0_off54 (v34_5_r0 : BitVec 32) : Fin 3 → Nat :=
  let c2_i32_69_r0 : BitVec 32 := 2#32
  let v62_r0 : BitVec 32 := Scalar.remui v34_5_r0 c2_i32_69_r0
  let c0_i32_72_r0 : BitVec 32 := 0#32
  let c0_i32_73_r0 : BitVec 32 := 0#32
  ![v62_r0.toNat, 0, 0]

def k0_chk10 (v34_5_r0 : BitVec 32) : Prop :=
  (∀ a, (k0_off52 v34_5_r0) a + S1.size a ≤ S2.size a) ∧
  (∀ a, (k0_off54 v34_5_r0) a + S1x512x128.size a ≤ S2x512x128.size a)
theorem k0_off52_inb : ∀ (v34_5_r0 : BitVec 32) (k0_hw10 : k0_chk10 v34_5_r0), ∀ a, (k0_off52 v34_5_r0) a + S1.size a ≤ S2.size a := fun v34_5_r0 k0_hw10 => k0_hw10.1
theorem k0_off54_inb : ∀ (v34_5_r0 : BitVec 32) (k0_hw10 : k0_chk10 v34_5_r0), ∀ a, (k0_off54 v34_5_r0) a + S1x512x128.size a ≤ S2x512x128.size a := fun v34_5_r0 k0_hw10 => k0_hw10.2

def k0_off55 (v34_7_r0 : BitVec 32) : Fin 1 → Nat :=
  let c2_i32_74_r0 : BitVec 32 := 2#32
  let v69_r0 : BitVec 32 := Scalar.remui v34_7_r0 c2_i32_74_r0
  ![v69_r0.toNat]

def k0_off56 (v34_12_r0 : BitVec 32) : Fin 2 → Nat :=
  let c512_i32_75_r0 : BitVec 32 := 512#32
  let true_46_r0 : BitVec 1 := 1#1
  let c1_i32_45_r0 : BitVec 32 := 1#32
  let v35_r0 : BitVec 32 := Scalar.subi v34_12_r0 c1_i32_45_r0
  let v36_r0 : BitVec 32 := Scalar.select true_46_r0 v35_r0 v34_12_r0
  let c_m1_i32_47_r0 : BitVec 32 := 4294967295#32
  let v37_r0 : BitVec 1 := Scalar.cmpi .eq v36_r0 c_m1_i32_47_r0
  let c7_i32_48_r0 : BitVec 32 := 7#32
  let v38_r0 : BitVec 32 := Scalar.select v37_r0 c7_i32_48_r0 v36_r0
  let c0_i32_49_r0 : BitVec 32 := 0#32
  let v39_r0 : BitVec 32 := Scalar.addi v38_r0 c0_i32_49_r0
  let v70_r0 : BitVec 32 := Scalar.muli c512_i32_75_r0 v39_r0
  let c0_i32_76_r0 : BitVec 32 := 0#32
  ![v70_r0.toNat, 0]
def k0_off57 (v34_7_r0 : BitVec 32) : Fin 3 → Nat :=
  let c2_i32_74_r0 : BitVec 32 := 2#32
  let v69_r0 : BitVec 32 := Scalar.remui v34_7_r0 c2_i32_74_r0
  let c0_i32_77_r0 : BitVec 32 := 0#32
  let c0_i32_78_r0 : BitVec 32 := 0#32
  ![v69_r0.toNat, 0, 0]

def k0_chk11 (v34_7_r0 : BitVec 32) : Prop :=
  (∀ a, (k0_off55 v34_7_r0) a + S1.size a ≤ S2.size a) ∧
  (∀ a, (k0_off57 v34_7_r0) a + S1x512x128.size a ≤ S2x512x128.size a)
theorem k0_off55_inb : ∀ (v34_7_r0 : BitVec 32) (k0_hw11 : k0_chk11 v34_7_r0), ∀ a, (k0_off55 v34_7_r0) a + S1.size a ≤ S2.size a := fun v34_7_r0 k0_hw11 => k0_hw11.1
theorem k0_off57_inb : ∀ (v34_7_r0 : BitVec 32) (k0_hw11 : k0_chk11 v34_7_r0), ∀ a, (k0_off57 v34_7_r0) a + S1x512x128.size a ≤ S2x512x128.size a := fun v34_7_r0 k0_hw11 => k0_hw11.2

def k0_off58 (v34_9_r0 : BitVec 32) : Fin 1 → Nat :=
  let c2_i32_79_r0 : BitVec 32 := 2#32
  let v76_r0 : BitVec 32 := Scalar.remui v34_9_r0 c2_i32_79_r0
  ![v76_r0.toNat]

def k0_off59 (v34_12_r0 : BitVec 32) : Fin 2 → Nat :=
  let c512_i32_80_r0 : BitVec 32 := 512#32
  let true_46_r0 : BitVec 1 := 1#1
  let c1_i32_45_r0 : BitVec 32 := 1#32
  let v35_r0 : BitVec 32 := Scalar.subi v34_12_r0 c1_i32_45_r0
  let v36_r0 : BitVec 32 := Scalar.select true_46_r0 v35_r0 v34_12_r0
  let c_m1_i32_47_r0 : BitVec 32 := 4294967295#32
  let v37_r0 : BitVec 1 := Scalar.cmpi .eq v36_r0 c_m1_i32_47_r0
  let c7_i32_48_r0 : BitVec 32 := 7#32
  let v38_r0 : BitVec 32 := Scalar.select v37_r0 c7_i32_48_r0 v36_r0
  let c0_i32_49_r0 : BitVec 32 := 0#32
  let v39_r0 : BitVec 32 := Scalar.addi v38_r0 c0_i32_49_r0
  let v77_r0 : BitVec 32 := Scalar.muli c512_i32_80_r0 v39_r0
  let c0_i32_81_r0 : BitVec 32 := 0#32
  ![v77_r0.toNat, 0]
def k0_off60 (v34_9_r0 : BitVec 32) : Fin 3 → Nat :=
  let c2_i32_79_r0 : BitVec 32 := 2#32
  let v76_r0 : BitVec 32 := Scalar.remui v34_9_r0 c2_i32_79_r0
  let c0_i32_82_r0 : BitVec 32 := 0#32
  let c0_i32_83_r0 : BitVec 32 := 0#32
  ![v76_r0.toNat, 0, 0]

def k0_chk12 (v34_9_r0 : BitVec 32) : Prop :=
  (∀ a, (k0_off58 v34_9_r0) a + S1.size a ≤ S2.size a) ∧
  (∀ a, (k0_off60 v34_9_r0) a + S1x512x128.size a ≤ S2x512x128.size a)
theorem k0_off58_inb : ∀ (v34_9_r0 : BitVec 32) (k0_hw12 : k0_chk12 v34_9_r0), ∀ a, (k0_off58 v34_9_r0) a + S1.size a ≤ S2.size a := fun v34_9_r0 k0_hw12 => k0_hw12.1
theorem k0_off60_inb : ∀ (v34_9_r0 : BitVec 32) (k0_hw12 : k0_chk12 v34_9_r0), ∀ a, (k0_off60 v34_9_r0) a + S1x512x128.size a ≤ S2x512x128.size a := fun v34_9_r0 k0_hw12 => k0_hw12.2

def k0_off61 (v34_11_r0 : BitVec 32) : Fin 1 → Nat :=
  let c2_i32_84_r0 : BitVec 32 := 2#32
  let v83_r0 : BitVec 32 := Scalar.remui v34_11_r0 c2_i32_84_r0
  ![v83_r0.toNat]

def k0_off62 (v34_12_r0 : BitVec 32) : Fin 2 → Nat :=
  let c512_i32_85_r0 : BitVec 32 := 512#32
  let true_46_r0 : BitVec 1 := 1#1
  let c1_i32_45_r0 : BitVec 32 := 1#32
  let v35_r0 : BitVec 32 := Scalar.subi v34_12_r0 c1_i32_45_r0
  let v36_r0 : BitVec 32 := Scalar.select true_46_r0 v35_r0 v34_12_r0
  let c_m1_i32_47_r0 : BitVec 32 := 4294967295#32
  let v37_r0 : BitVec 1 := Scalar.cmpi .eq v36_r0 c_m1_i32_47_r0
  let c7_i32_48_r0 : BitVec 32 := 7#32
  let v38_r0 : BitVec 32 := Scalar.select v37_r0 c7_i32_48_r0 v36_r0
  let c0_i32_49_r0 : BitVec 32 := 0#32
  let v39_r0 : BitVec 32 := Scalar.addi v38_r0 c0_i32_49_r0
  let v84_r0 : BitVec 32 := Scalar.muli c512_i32_85_r0 v39_r0
  let c0_i32_86_r0 : BitVec 32 := 0#32
  ![v84_r0.toNat, 0]

def k0_chk9 (v34_12_r0 : BitVec 32) : Prop :=
  (∀ a, (k0_off50 v34_12_r0) a + S512x128.size a ≤ S4096x128.size a) ∧
  (∀ a, (k0_off53 v34_12_r0) a + S512x128.size a ≤ S4096x128.size a) ∧
  (∀ a, (k0_off56 v34_12_r0) a + S512x128.size a ≤ S4096x128.size a) ∧
  (∀ a, (k0_off59 v34_12_r0) a + S512x128.size a ≤ S4096x128.size a) ∧
  (∀ a, (k0_off62 v34_12_r0) a + S512x128.size a ≤ S4096x128.size a)
theorem k0_off50_inb : ∀ (v34_12_r0 : BitVec 32) (k0_hw9 : k0_chk9 v34_12_r0), ∀ a, (k0_off50 v34_12_r0) a + S512x128.size a ≤ S4096x128.size a := fun v34_12_r0 k0_hw9 => k0_hw9.1
theorem k0_off53_inb : ∀ (v34_12_r0 : BitVec 32) (k0_hw9 : k0_chk9 v34_12_r0), ∀ a, (k0_off53 v34_12_r0) a + S512x128.size a ≤ S4096x128.size a := fun v34_12_r0 k0_hw9 => k0_hw9.2.1
theorem k0_off56_inb : ∀ (v34_12_r0 : BitVec 32) (k0_hw9 : k0_chk9 v34_12_r0), ∀ a, (k0_off56 v34_12_r0) a + S512x128.size a ≤ S4096x128.size a := fun v34_12_r0 k0_hw9 => k0_hw9.2.2.1
theorem k0_off59_inb : ∀ (v34_12_r0 : BitVec 32) (k0_hw9 : k0_chk9 v34_12_r0), ∀ a, (k0_off59 v34_12_r0) a + S512x128.size a ≤ S4096x128.size a := fun v34_12_r0 k0_hw9 => k0_hw9.2.2.2.1
theorem k0_off62_inb : ∀ (v34_12_r0 : BitVec 32) (k0_hw9 : k0_chk9 v34_12_r0), ∀ a, (k0_off62 v34_12_r0) a + S512x128.size a ≤ S4096x128.size a := fun v34_12_r0 k0_hw9 => k0_hw9.2.2.2.2

def k0_off63 (v34_11_r0 : BitVec 32) : Fin 3 → Nat :=
  let c2_i32_84_r0 : BitVec 32 := 2#32
  let v83_r0 : BitVec 32 := Scalar.remui v34_11_r0 c2_i32_84_r0
  let c0_i32_87_r0 : BitVec 32 := 0#32
  let c0_i32_88_r0 : BitVec 32 := 0#32
  ![v83_r0.toNat, 0, 0]

def k0_chk13 (v34_11_r0 : BitVec 32) : Prop :=
  (∀ a, (k0_off61 v34_11_r0) a + S1.size a ≤ S2.size a) ∧
  (∀ a, (k0_off63 v34_11_r0) a + S1x512x128.size a ≤ S2x512x128.size a)
theorem k0_off61_inb : ∀ (v34_11_r0 : BitVec 32) (k0_hw13 : k0_chk13 v34_11_r0), ∀ a, (k0_off61 v34_11_r0) a + S1.size a ≤ S2.size a := fun v34_11_r0 k0_hw13 => k0_hw13.1
theorem k0_off63_inb : ∀ (v34_11_r0 : BitVec 32) (k0_hw13 : k0_chk13 v34_11_r0), ∀ a, (k0_off63 v34_11_r0) a + S1x512x128.size a ≤ S2x512x128.size a := fun v34_11_r0 k0_hw13 => k0_hw13.2

def k0_off64 : Fin 1 → Nat :=
  let c0_i32_18_r1 : BitVec 32 := 0#32
  let c2_i32_r1 : BitVec 32 := 2#32
  let v22_r1 : BitVec 32 := Scalar.remui c0_i32_18_r1 c2_i32_r1
  ![v22_r1.toNat]
def k0_off65 : Fin 3 → Nat :=
  let c0_i32_18_r1 : BitVec 32 := 0#32
  let c2_i32_r1 : BitVec 32 := 2#32
  let v22_r1 : BitVec 32 := Scalar.remui c0_i32_18_r1 c2_i32_r1
  let c0_i32_19_r1 : BitVec 32 := 0#32
  let c0_i32_20_r1 : BitVec 32 := 0#32
  ![v22_r1.toNat, 0, 0]
@[reducible] def k0_t2_loop : Scf.Loop 32 :=
  let c0_i32_29_r1 : BitVec 32 := 0#32
  let c8_i32_30_r1 : BitVec 32 := 8#32
  let v29_r1 : BitVec 32 := Scalar.addi c0_i32_29_r1 c8_i32_30_r1
  let c1_i32_31_r1 : BitVec 32 := 1#32
  ⟨c0_i32_29_r1, v29_r1, c1_i32_31_r1⟩
def k0_off66 (arg14_r1 : BitVec 32) : Fin 1 → Nat :=
  let c2_i32_117_r1 : BitVec 32 := 2#32
  let v170_r1 : BitVec 32 := Scalar.remui arg14_r1 c2_i32_117_r1
  ![v170_r1.toNat]
def k0_cond20 (k0_t2 : Fin k0_t2_loop.trips) (arg18_r1 : BitVec 32) : BitVec 1 :=
  let c0_i32_59_r1 : BitVec 32 := 0#32
  let v60_r1 : BitVec 32 := Scalar.addi arg18_r1 c0_i32_59_r1
  let true_66_r1 : BitVec 1 := 1#1
  let c1_i32_65_r1 : BitVec 32 := 1#32
  let v66_r1 : BitVec 32 := Scalar.addi arg18_r1 c1_i32_65_r1
  let v67_r1 : BitVec 32 := Scalar.select true_66_r1 v66_r1 arg18_r1
  let c8_i32_67_r1 : BitVec 32 := 8#32
  let v68_r1 : BitVec 1 := Scalar.cmpi .eq v67_r1 c8_i32_67_r1
  let c0_i32_68_r1 : BitVec 32 := 0#32
  let v69_r1 : BitVec 32 := Scalar.select v68_r1 c0_i32_68_r1 v67_r1
  let c0_i32_69_r1 : BitVec 32 := 0#32
  let v70_r1 : BitVec 32 := Scalar.addi v69_r1 c0_i32_69_r1
  let v76_r1 : BitVec 1 := Scalar.cmpi .ne v60_r1 v70_r1
  let c0_i32_29_r1 : BitVec 32 := 0#32
  let c1_i32_31_r1 : BitVec 32 := 1#32
  let arg13_r1 : BitVec 32 := Scf.iv c0_i32_29_r1 c1_i32_31_r1 k0_t2
  let c7_i32_75_r1 : BitVec 32 := 7#32
  let v77_r1 : BitVec 1 := Scalar.cmpi .sge arg13_r1 c7_i32_75_r1
  let true_76_r1 : BitVec 1 := 1#1
  let v78_r1 : BitVec 1 := Scalar.xori v77_r1 true_76_r1
  let v79_r1 : BitVec 1 := Scalar.andi v76_r1 v78_r1
  let true_77_r1 : BitVec 1 := 1#1
  let v80_r1 : BitVec 1 := Scalar.andi v79_r1 true_77_r1
  let v81_r1 : BitVec 32 := Scalar.extui v80_r1
  let c0_i32_78_r1 : BitVec 32 := 0#32
  let v82_r1 : BitVec 1 := Scalar.cmpi .ne v81_r1 c0_i32_78_r1
  v82_r1

def k0_off67 (arg14_r1 : BitVec 32) : Fin 3 → Nat :=
  let c2_i32_117_r1 : BitVec 32 := 2#32
  let v170_r1 : BitVec 32 := Scalar.remui arg14_r1 c2_i32_117_r1
  let c0_i32_119_r1 : BitVec 32 := 0#32
  let c0_i32_120_r1 : BitVec 32 := 0#32
  ![v170_r1.toNat, 0, 0]
def k0_off68 (arg18_r1 : BitVec 32) : Fin 2 → Nat :=
  let c512_i32_118_r1 : BitVec 32 := 512#32
  let true_66_r1 : BitVec 1 := 1#1
  let c1_i32_65_r1 : BitVec 32 := 1#32
  let v66_r1 : BitVec 32 := Scalar.addi arg18_r1 c1_i32_65_r1
  let v67_r1 : BitVec 32 := Scalar.select true_66_r1 v66_r1 arg18_r1
  let c8_i32_67_r1 : BitVec 32 := 8#32
  let v68_r1 : BitVec 1 := Scalar.cmpi .eq v67_r1 c8_i32_67_r1
  let c0_i32_68_r1 : BitVec 32 := 0#32
  let v69_r1 : BitVec 32 := Scalar.select v68_r1 c0_i32_68_r1 v67_r1
  let c0_i32_69_r1 : BitVec 32 := 0#32
  let v70_r1 : BitVec 32 := Scalar.addi v69_r1 c0_i32_69_r1
  let v171_r1 : BitVec 32 := Scalar.muli c512_i32_118_r1 v70_r1
  let c0_i32_121_r1 : BitVec 32 := 0#32
  ![v171_r1.toNat, 0]
def k0_off69 (arg15_r1 : BitVec 32) : Fin 1 → Nat :=
  let c2_i32_118_r1 : BitVec 32 := 2#32
  let v171_r1 : BitVec 32 := Scalar.remui arg15_r1 c2_i32_118_r1
  ![v171_r1.toNat]
def k0_cond21 (k0_t2 : Fin k0_t2_loop.trips) (arg18_r1 : BitVec 32) : BitVec 1 :=
  let c0_i32_59_r1 : BitVec 32 := 0#32
  let v60_r1 : BitVec 32 := Scalar.addi arg18_r1 c0_i32_59_r1
  let true_61_r1 : BitVec 1 := 1#1
  let c1_i32_60_r1 : BitVec 32 := 1#32
  let v61_r1 : BitVec 32 := Scalar.subi arg18_r1 c1_i32_60_r1
  let v62_r1 : BitVec 32 := Scalar.select true_61_r1 v61_r1 arg18_r1
  let c_m1_i32_62_r1 : BitVec 32 := 4294967295#32
  let v63_r1 : BitVec 1 := Scalar.cmpi .eq v62_r1 c_m1_i32_62_r1
  let c7_i32_63_r1 : BitVec 32 := 7#32
  let v64_r1 : BitVec 32 := Scalar.select v63_r1 c7_i32_63_r1 v62_r1
  let c0_i32_64_r1 : BitVec 32 := 0#32
  let v65_r1 : BitVec 32 := Scalar.addi v64_r1 c0_i32_64_r1
  let v90_r1 : BitVec 1 := Scalar.cmpi .ne v60_r1 v65_r1
  let c0_i32_29_r1 : BitVec 32 := 0#32
  let c1_i32_31_r1 : BitVec 32 := 1#32
  let arg13_r1 : BitVec 32 := Scf.iv c0_i32_29_r1 c1_i32_31_r1 k0_t2
  let c0_i32_57_r1 : BitVec 32 := 0#32
  let v58_r1 : BitVec 1 := Scalar.cmpi .eq arg13_r1 c0_i32_57_r1
  let v91_r1 : BitVec 1 := Scalar.ori v90_r1 v58_r1
  let c0_i32_83_r1 : BitVec 32 := 0#32
  let v92_r1 : BitVec 1 := Scalar.cmpi .sge arg13_r1 c0_i32_83_r1
  let v93_r1 : BitVec 1 := Scalar.andi v91_r1 v92_r1
  let v94_r1 : BitVec 32 := Scalar.extui v93_r1
  let c0_i32_84_r1 : BitVec 32 := 0#32
  let v95_r1 : BitVec 1 := Scalar.cmpi .ne v94_r1 c0_i32_84_r1
  v95_r1

def k0_off70 (arg15_r1 : BitVec 32) : Fin 3 → Nat :=
  let c2_i32_118_r1 : BitVec 32 := 2#32
  let v171_r1 : BitVec 32 := Scalar.remui arg15_r1 c2_i32_118_r1
  let c0_i32_119_r1 : BitVec 32 := 0#32
  let c0_i32_120_r1 : BitVec 32 := 0#32
  ![v171_r1.toNat, 0, 0]
def k0_off71 (arg18_r1 : BitVec 32) : Fin 2 → Nat :=
  let c512_i32_117_r1 : BitVec 32 := 512#32
  let c0_i32_59_r1 : BitVec 32 := 0#32
  let v60_r1 : BitVec 32 := Scalar.addi arg18_r1 c0_i32_59_r1
  let v170_r1 : BitVec 32 := Scalar.muli c512_i32_117_r1 v60_r1
  let c0_i32_121_r1 : BitVec 32 := 0#32
  ![v170_r1.toNat, 0]
def k0_off72 (arg18_r1 : BitVec 32) : Fin 2 → Nat :=
  let c0_i32_59_r1 : BitVec 32 := 0#32
  let v60_r1 : BitVec 32 := Scalar.addi arg18_r1 c0_i32_59_r1
  let c512_i32_89_r1 : BitVec 32 := 512#32
  let v104_r1 : BitVec 32 := Scalar.muli v60_r1 c512_i32_89_r1
  let v105_r1 : Index := Scalar.indexCast v104_r1
  let c0_90_r1 : Index := 0#32
  ![v105_r1.toNat, 0]
def k0_off73 (arg18_r1 : BitVec 32) : Fin 2 → Nat :=
  let c0_i32_59_r1 : BitVec 32 := 0#32
  let v60_r1 : BitVec 32 := Scalar.addi arg18_r1 c0_i32_59_r1
  let c512_i32_89_r1 : BitVec 32 := 512#32
  let v104_r1 : BitVec 32 := Scalar.muli v60_r1 c512_i32_89_r1
  let v108_r1 : Index := Scalar.indexCast v104_r1
  let c0_91_r1 : Index := 0#32
  ![v108_r1.toNat, 0]
def k0_off74 (arg15_r1 : BitVec 32) : Fin 3 → Nat :=
  let c2_i32_87_r1 : BitVec 32 := 2#32
  let v102_r1 : BitVec 32 := Scalar.remui arg15_r1 c2_i32_87_r1
  let v115_r1 : Index := Scalar.indexCast v102_r1
  let c0_95_r1 : Index := 0#32
  let c0_96_r1 : Index := 0#32
  ![v115_r1.toNat, 0, 0]

def k0_chk15 (arg15_r1 : BitVec 32) : Prop :=
  (∀ a, (k0_off74 arg15_r1) a + S1x512x4096.size a ≤ S2x512x4096.size a)
theorem k0_off74_inb : ∀ (arg15_r1 : BitVec 32) (k0_hw15 : k0_chk15 arg15_r1), ∀ a, (k0_off74 arg15_r1) a + S1x512x4096.size a ≤ S2x512x4096.size a := fun arg15_r1 k0_hw15 => k0_hw15

def k0_off75 (arg16_r1 : BitVec 32) : Fin 3 → Nat :=
  let c2_i32_88_r1 : BitVec 32 := 2#32
  let v103_r1 : BitVec 32 := Scalar.remui arg16_r1 c2_i32_88_r1
  let v132_r1 : Index := Scalar.indexCast v103_r1
  let c0_99_r1 : Index := 0#32
  let c0_100_r1 : Index := 0#32
  ![v132_r1.toNat, 0, 0]

def k0_chk16 (arg16_r1 : BitVec 32) : Prop :=
  (∀ a, (k0_off75 arg16_r1) a + S1x512x4096.size a ≤ S2x512x4096.size a)
theorem k0_off75_inb : ∀ (arg16_r1 : BitVec 32) (k0_hw16 : k0_chk16 arg16_r1), ∀ a, (k0_off75 arg16_r1) a + S1x512x4096.size a ≤ S2x512x4096.size a := fun arg16_r1 k0_hw16 => k0_hw16

def k0_off76 (arg16_r1 : BitVec 32) : Fin 1 → Nat :=
  let c2_i32_117_r1 : BitVec 32 := 2#32
  let v170_r1 : BitVec 32 := Scalar.remui arg16_r1 c2_i32_117_r1
  ![v170_r1.toNat]
def k0_cond24 (k0_t2 : Fin k0_t2_loop.trips) (arg18_r1 : BitVec 32) : BitVec 1 :=
  let c0_i32_59_r1 : BitVec 32 := 0#32
  let v60_r1 : BitVec 32 := Scalar.addi arg18_r1 c0_i32_59_r1
  let true_66_r1 : BitVec 1 := 1#1
  let c1_i32_65_r1 : BitVec 32 := 1#32
  let v66_r1 : BitVec 32 := Scalar.addi arg18_r1 c1_i32_65_r1
  let v67_r1 : BitVec 32 := Scalar.select true_66_r1 v66_r1 arg18_r1
  let c8_i32_67_r1 : BitVec 32 := 8#32
  let v68_r1 : BitVec 1 := Scalar.cmpi .eq v67_r1 c8_i32_67_r1
  let c0_i32_68_r1 : BitVec 32 := 0#32
  let v69_r1 : BitVec 32 := Scalar.select v68_r1 c0_i32_68_r1 v67_r1
  let c0_i32_69_r1 : BitVec 32 := 0#32
  let v70_r1 : BitVec 32 := Scalar.addi v69_r1 c0_i32_69_r1
  let v141_r1 : BitVec 1 := Scalar.cmpi .ne v60_r1 v70_r1
  let c0_i32_29_r1 : BitVec 32 := 0#32
  let c1_i32_31_r1 : BitVec 32 := 1#32
  let arg13_r1 : BitVec 32 := Scf.iv c0_i32_29_r1 c1_i32_31_r1 k0_t2
  let c7_i32_58_r1 : BitVec 32 := 7#32
  let v59_r1 : BitVec 1 := Scalar.cmpi .eq arg13_r1 c7_i32_58_r1
  let v142_r1 : BitVec 1 := Scalar.ori v141_r1 v59_r1
  let v143_r1 : BitVec 32 := Scalar.extui v142_r1
  let c0_i32_102_r1 : BitVec 32 := 0#32
  let v144_r1 : BitVec 1 := Scalar.cmpi .ne v143_r1 c0_i32_102_r1
  v144_r1

def k0_off77 (arg18_r1 : BitVec 32) : Fin 2 → Nat :=
  let c512_i32_118_r1 : BitVec 32 := 512#32
  let c0_i32_59_r1 : BitVec 32 := 0#32
  let v60_r1 : BitVec 32 := Scalar.addi arg18_r1 c0_i32_59_r1
  let v171_r1 : BitVec 32 := Scalar.muli c512_i32_118_r1 v60_r1
  let c0_i32_119_r1 : BitVec 32 := 0#32
  ![v171_r1.toNat, 0]
def k0_off78 (arg16_r1 : BitVec 32) : Fin 3 → Nat :=
  let c2_i32_117_r1 : BitVec 32 := 2#32
  let v170_r1 : BitVec 32 := Scalar.remui arg16_r1 c2_i32_117_r1
  let c0_i32_120_r1 : BitVec 32 := 0#32
  let c0_i32_121_r1 : BitVec 32 := 0#32
  ![v170_r1.toNat, 0, 0]
def k0_off79 (arg17_r1 : BitVec 32) : Fin 1 → Nat :=
  let c2_i32_117_r1 : BitVec 32 := 2#32
  let v170_r1 : BitVec 32 := Scalar.remui arg17_r1 c2_i32_117_r1
  ![v170_r1.toNat]
def k0_cond26 (k0_t2 : Fin k0_t2_loop.trips) (arg18_r1 : BitVec 32) : BitVec 1 :=
  let c0_i32_59_r1 : BitVec 32 := 0#32
  let v60_r1 : BitVec 32 := Scalar.addi arg18_r1 c0_i32_59_r1
  let true_61_r1 : BitVec 1 := 1#1
  let c1_i32_60_r1 : BitVec 32 := 1#32
  let v61_r1 : BitVec 32 := Scalar.subi arg18_r1 c1_i32_60_r1
  let v62_r1 : BitVec 32 := Scalar.select true_61_r1 v61_r1 arg18_r1
  let c_m1_i32_62_r1 : BitVec 32 := 4294967295#32
  let v63_r1 : BitVec 1 := Scalar.cmpi .eq v62_r1 c_m1_i32_62_r1
  let c7_i32_63_r1 : BitVec 32 := 7#32
  let v64_r1 : BitVec 32 := Scalar.select v63_r1 c7_i32_63_r1 v62_r1
  let c0_i32_64_r1 : BitVec 32 := 0#32
  let v65_r1 : BitVec 32 := Scalar.addi v64_r1 c0_i32_64_r1
  let v154_r1 : BitVec 1 := Scalar.cmpi .ne v60_r1 v65_r1
  let c0_i32_29_r1 : BitVec 32 := 0#32
  let c1_i32_31_r1 : BitVec 32 := 1#32
  let arg13_r1 : BitVec 32 := Scf.iv c0_i32_29_r1 c1_i32_31_r1 k0_t2
  let c0_i32_57_r1 : BitVec 32 := 0#32
  let v58_r1 : BitVec 1 := Scalar.cmpi .eq arg13_r1 c0_i32_57_r1
  let true_108_r1 : BitVec 1 := 1#1
  let v155_r1 : BitVec 1 := Scalar.xori v58_r1 true_108_r1
  let v156_r1 : BitVec 1 := Scalar.andi v154_r1 v155_r1
  let v157_r1 : BitVec 32 := Scalar.extui v156_r1
  let c0_i32_109_r1 : BitVec 32 := 0#32
  let v158_r1 : BitVec 1 := Scalar.cmpi .ne v157_r1 c0_i32_109_r1
  v158_r1

def k0_off80 (arg18_r1 : BitVec 32) : Fin 2 → Nat :=
  let c512_i32_118_r1 : BitVec 32 := 512#32
  let true_61_r1 : BitVec 1 := 1#1
  let c1_i32_60_r1 : BitVec 32 := 1#32
  let v61_r1 : BitVec 32 := Scalar.subi arg18_r1 c1_i32_60_r1
  let v62_r1 : BitVec 32 := Scalar.select true_61_r1 v61_r1 arg18_r1
  let c_m1_i32_62_r1 : BitVec 32 := 4294967295#32
  let v63_r1 : BitVec 1 := Scalar.cmpi .eq v62_r1 c_m1_i32_62_r1
  let c7_i32_63_r1 : BitVec 32 := 7#32
  let v64_r1 : BitVec 32 := Scalar.select v63_r1 c7_i32_63_r1 v62_r1
  let c0_i32_64_r1 : BitVec 32 := 0#32
  let v65_r1 : BitVec 32 := Scalar.addi v64_r1 c0_i32_64_r1
  let v171_r1 : BitVec 32 := Scalar.muli c512_i32_118_r1 v65_r1
  let c0_i32_119_r1 : BitVec 32 := 0#32
  ![v171_r1.toNat, 0]
def k0_off81 (arg17_r1 : BitVec 32) : Fin 3 → Nat :=
  let c2_i32_117_r1 : BitVec 32 := 2#32
  let v170_r1 : BitVec 32 := Scalar.remui arg17_r1 c2_i32_117_r1
  let c0_i32_120_r1 : BitVec 32 := 0#32
  let c0_i32_121_r1 : BitVec 32 := 0#32
  ![v170_r1.toNat, 0, 0]

def k0_chk14 (k0_t2 : Fin k0_t2_loop.trips) (arg14_r1 : BitVec 32) (arg15_r1 : BitVec 32) (arg16_r1 : BitVec 32) (arg17_r1 : BitVec 32) (arg18_r1 : BitVec 32) : Prop :=
  (∀ (k0_h20 : k0_cond20 k0_t2 arg18_r1 = 1#1), ∀ a, (k0_off66 arg14_r1) a + S1.size a ≤ S2.size a) ∧
  (∀ (k0_h20 : k0_cond20 k0_t2 arg18_r1 = 1#1), ∀ a, (k0_off67 arg14_r1) a + S1x512x4096.size a ≤ S2x512x4096.size a) ∧
  (∀ (k0_h20 : k0_cond20 k0_t2 arg18_r1 = 1#1), ∀ a, (k0_off68 arg18_r1) a + S512x4096.size a ≤ S4096x4096.size a) ∧
  (∀ (k0_h21 : k0_cond21 k0_t2 arg18_r1 = 1#1), ∀ a, (k0_off69 arg15_r1) a + S1.size a ≤ S2.size a) ∧
  (∀ (k0_h21 : k0_cond21 k0_t2 arg18_r1 = 1#1), ∀ a, (k0_off70 arg15_r1) a + S1x512x4096.size a ≤ S2x512x4096.size a) ∧
  (∀ (k0_h21 : k0_cond21 k0_t2 arg18_r1 = 1#1), ∀ a, (k0_off71 arg18_r1) a + S512x4096.size a ≤ S4096x4096.size a) ∧
  (∀ a, (k0_off72 arg18_r1) a + S512x4096.size a ≤ S4096x4096.size a) ∧
  (∀ a, (k0_off73 arg18_r1) a + S512x128.size a ≤ S4096x128.size a) ∧
  (∀ (k0_h24 : k0_cond24 k0_t2 arg18_r1 = 1#1), ∀ a, (k0_off76 arg16_r1) a + S1.size a ≤ S2.size a) ∧
  (∀ (k0_h24 : k0_cond24 k0_t2 arg18_r1 = 1#1), ∀ a, (k0_off77 arg18_r1) a + S512x4096.size a ≤ S4096x4096.size a) ∧
  (∀ (k0_h24 : k0_cond24 k0_t2 arg18_r1 = 1#1), ∀ a, (k0_off78 arg16_r1) a + S1x512x4096.size a ≤ S2x512x4096.size a) ∧
  (∀ (k0_h26 : k0_cond26 k0_t2 arg18_r1 = 1#1), ∀ a, (k0_off79 arg17_r1) a + S1.size a ≤ S2.size a) ∧
  (∀ (k0_h26 : k0_cond26 k0_t2 arg18_r1 = 1#1), ∀ a, (k0_off80 arg18_r1) a + S512x4096.size a ≤ S4096x4096.size a) ∧
  (∀ (k0_h26 : k0_cond26 k0_t2 arg18_r1 = 1#1), ∀ a, (k0_off81 arg17_r1) a + S1x512x4096.size a ≤ S2x512x4096.size a)
theorem k0_off66_inb : ∀ (k0_t2 : Fin k0_t2_loop.trips) (arg14_r1 : BitVec 32) (arg15_r1 : BitVec 32) (arg16_r1 : BitVec 32) (arg17_r1 : BitVec 32) (arg18_r1 : BitVec 32) (k0_hw14 : k0_chk14 k0_t2 arg14_r1 arg15_r1 arg16_r1 arg17_r1 arg18_r1), ∀ (k0_h20 : k0_cond20 k0_t2 arg18_r1 = 1#1), ∀ a, (k0_off66 arg14_r1) a + S1.size a ≤ S2.size a := fun k0_t2 arg14_r1 arg15_r1 arg16_r1 arg17_r1 arg18_r1 k0_hw14 k0_h20 => k0_hw14.1 k0_h20
theorem k0_off67_inb : ∀ (k0_t2 : Fin k0_t2_loop.trips) (arg14_r1 : BitVec 32) (arg15_r1 : BitVec 32) (arg16_r1 : BitVec 32) (arg17_r1 : BitVec 32) (arg18_r1 : BitVec 32) (k0_hw14 : k0_chk14 k0_t2 arg14_r1 arg15_r1 arg16_r1 arg17_r1 arg18_r1), ∀ (k0_h20 : k0_cond20 k0_t2 arg18_r1 = 1#1), ∀ a, (k0_off67 arg14_r1) a + S1x512x4096.size a ≤ S2x512x4096.size a := fun k0_t2 arg14_r1 arg15_r1 arg16_r1 arg17_r1 arg18_r1 k0_hw14 k0_h20 => k0_hw14.2.1 k0_h20
theorem k0_off68_inb : ∀ (k0_t2 : Fin k0_t2_loop.trips) (arg14_r1 : BitVec 32) (arg15_r1 : BitVec 32) (arg16_r1 : BitVec 32) (arg17_r1 : BitVec 32) (arg18_r1 : BitVec 32) (k0_hw14 : k0_chk14 k0_t2 arg14_r1 arg15_r1 arg16_r1 arg17_r1 arg18_r1), ∀ (k0_h20 : k0_cond20 k0_t2 arg18_r1 = 1#1), ∀ a, (k0_off68 arg18_r1) a + S512x4096.size a ≤ S4096x4096.size a := fun k0_t2 arg14_r1 arg15_r1 arg16_r1 arg17_r1 arg18_r1 k0_hw14 k0_h20 => k0_hw14.2.2.1 k0_h20
theorem k0_off69_inb : ∀ (k0_t2 : Fin k0_t2_loop.trips) (arg14_r1 : BitVec 32) (arg15_r1 : BitVec 32) (arg16_r1 : BitVec 32) (arg17_r1 : BitVec 32) (arg18_r1 : BitVec 32) (k0_hw14 : k0_chk14 k0_t2 arg14_r1 arg15_r1 arg16_r1 arg17_r1 arg18_r1), ∀ (k0_h21 : k0_cond21 k0_t2 arg18_r1 = 1#1), ∀ a, (k0_off69 arg15_r1) a + S1.size a ≤ S2.size a := fun k0_t2 arg14_r1 arg15_r1 arg16_r1 arg17_r1 arg18_r1 k0_hw14 k0_h21 => k0_hw14.2.2.2.1 k0_h21
theorem k0_off70_inb : ∀ (k0_t2 : Fin k0_t2_loop.trips) (arg14_r1 : BitVec 32) (arg15_r1 : BitVec 32) (arg16_r1 : BitVec 32) (arg17_r1 : BitVec 32) (arg18_r1 : BitVec 32) (k0_hw14 : k0_chk14 k0_t2 arg14_r1 arg15_r1 arg16_r1 arg17_r1 arg18_r1), ∀ (k0_h21 : k0_cond21 k0_t2 arg18_r1 = 1#1), ∀ a, (k0_off70 arg15_r1) a + S1x512x4096.size a ≤ S2x512x4096.size a := fun k0_t2 arg14_r1 arg15_r1 arg16_r1 arg17_r1 arg18_r1 k0_hw14 k0_h21 => k0_hw14.2.2.2.2.1 k0_h21
theorem k0_off71_inb : ∀ (k0_t2 : Fin k0_t2_loop.trips) (arg14_r1 : BitVec 32) (arg15_r1 : BitVec 32) (arg16_r1 : BitVec 32) (arg17_r1 : BitVec 32) (arg18_r1 : BitVec 32) (k0_hw14 : k0_chk14 k0_t2 arg14_r1 arg15_r1 arg16_r1 arg17_r1 arg18_r1), ∀ (k0_h21 : k0_cond21 k0_t2 arg18_r1 = 1#1), ∀ a, (k0_off71 arg18_r1) a + S512x4096.size a ≤ S4096x4096.size a := fun k0_t2 arg14_r1 arg15_r1 arg16_r1 arg17_r1 arg18_r1 k0_hw14 k0_h21 => k0_hw14.2.2.2.2.2.1 k0_h21
theorem k0_off72_inb : ∀ (k0_t2 : Fin k0_t2_loop.trips) (arg14_r1 : BitVec 32) (arg15_r1 : BitVec 32) (arg16_r1 : BitVec 32) (arg17_r1 : BitVec 32) (arg18_r1 : BitVec 32) (k0_hw14 : k0_chk14 k0_t2 arg14_r1 arg15_r1 arg16_r1 arg17_r1 arg18_r1), ∀ a, (k0_off72 arg18_r1) a + S512x4096.size a ≤ S4096x4096.size a := fun k0_t2 arg14_r1 arg15_r1 arg16_r1 arg17_r1 arg18_r1 k0_hw14 => k0_hw14.2.2.2.2.2.2.1
theorem k0_off73_inb : ∀ (k0_t2 : Fin k0_t2_loop.trips) (arg14_r1 : BitVec 32) (arg15_r1 : BitVec 32) (arg16_r1 : BitVec 32) (arg17_r1 : BitVec 32) (arg18_r1 : BitVec 32) (k0_hw14 : k0_chk14 k0_t2 arg14_r1 arg15_r1 arg16_r1 arg17_r1 arg18_r1), ∀ a, (k0_off73 arg18_r1) a + S512x128.size a ≤ S4096x128.size a := fun k0_t2 arg14_r1 arg15_r1 arg16_r1 arg17_r1 arg18_r1 k0_hw14 => k0_hw14.2.2.2.2.2.2.2.1
theorem k0_off76_inb : ∀ (k0_t2 : Fin k0_t2_loop.trips) (arg14_r1 : BitVec 32) (arg15_r1 : BitVec 32) (arg16_r1 : BitVec 32) (arg17_r1 : BitVec 32) (arg18_r1 : BitVec 32) (k0_hw14 : k0_chk14 k0_t2 arg14_r1 arg15_r1 arg16_r1 arg17_r1 arg18_r1), ∀ (k0_h24 : k0_cond24 k0_t2 arg18_r1 = 1#1), ∀ a, (k0_off76 arg16_r1) a + S1.size a ≤ S2.size a := fun k0_t2 arg14_r1 arg15_r1 arg16_r1 arg17_r1 arg18_r1 k0_hw14 k0_h24 => k0_hw14.2.2.2.2.2.2.2.2.1 k0_h24
theorem k0_off77_inb : ∀ (k0_t2 : Fin k0_t2_loop.trips) (arg14_r1 : BitVec 32) (arg15_r1 : BitVec 32) (arg16_r1 : BitVec 32) (arg17_r1 : BitVec 32) (arg18_r1 : BitVec 32) (k0_hw14 : k0_chk14 k0_t2 arg14_r1 arg15_r1 arg16_r1 arg17_r1 arg18_r1), ∀ (k0_h24 : k0_cond24 k0_t2 arg18_r1 = 1#1), ∀ a, (k0_off77 arg18_r1) a + S512x4096.size a ≤ S4096x4096.size a := fun k0_t2 arg14_r1 arg15_r1 arg16_r1 arg17_r1 arg18_r1 k0_hw14 k0_h24 => k0_hw14.2.2.2.2.2.2.2.2.2.1 k0_h24
theorem k0_off78_inb : ∀ (k0_t2 : Fin k0_t2_loop.trips) (arg14_r1 : BitVec 32) (arg15_r1 : BitVec 32) (arg16_r1 : BitVec 32) (arg17_r1 : BitVec 32) (arg18_r1 : BitVec 32) (k0_hw14 : k0_chk14 k0_t2 arg14_r1 arg15_r1 arg16_r1 arg17_r1 arg18_r1), ∀ (k0_h24 : k0_cond24 k0_t2 arg18_r1 = 1#1), ∀ a, (k0_off78 arg16_r1) a + S1x512x4096.size a ≤ S2x512x4096.size a := fun k0_t2 arg14_r1 arg15_r1 arg16_r1 arg17_r1 arg18_r1 k0_hw14 k0_h24 => k0_hw14.2.2.2.2.2.2.2.2.2.2.1 k0_h24
theorem k0_off79_inb : ∀ (k0_t2 : Fin k0_t2_loop.trips) (arg14_r1 : BitVec 32) (arg15_r1 : BitVec 32) (arg16_r1 : BitVec 32) (arg17_r1 : BitVec 32) (arg18_r1 : BitVec 32) (k0_hw14 : k0_chk14 k0_t2 arg14_r1 arg15_r1 arg16_r1 arg17_r1 arg18_r1), ∀ (k0_h26 : k0_cond26 k0_t2 arg18_r1 = 1#1), ∀ a, (k0_off79 arg17_r1) a + S1.size a ≤ S2.size a := fun k0_t2 arg14_r1 arg15_r1 arg16_r1 arg17_r1 arg18_r1 k0_hw14 k0_h26 => k0_hw14.2.2.2.2.2.2.2.2.2.2.2.1 k0_h26
theorem k0_off80_inb : ∀ (k0_t2 : Fin k0_t2_loop.trips) (arg14_r1 : BitVec 32) (arg15_r1 : BitVec 32) (arg16_r1 : BitVec 32) (arg17_r1 : BitVec 32) (arg18_r1 : BitVec 32) (k0_hw14 : k0_chk14 k0_t2 arg14_r1 arg15_r1 arg16_r1 arg17_r1 arg18_r1), ∀ (k0_h26 : k0_cond26 k0_t2 arg18_r1 = 1#1), ∀ a, (k0_off80 arg18_r1) a + S512x4096.size a ≤ S4096x4096.size a := fun k0_t2 arg14_r1 arg15_r1 arg16_r1 arg17_r1 arg18_r1 k0_hw14 k0_h26 => k0_hw14.2.2.2.2.2.2.2.2.2.2.2.2.1 k0_h26
theorem k0_off81_inb : ∀ (k0_t2 : Fin k0_t2_loop.trips) (arg14_r1 : BitVec 32) (arg15_r1 : BitVec 32) (arg16_r1 : BitVec 32) (arg17_r1 : BitVec 32) (arg18_r1 : BitVec 32) (k0_hw14 : k0_chk14 k0_t2 arg14_r1 arg15_r1 arg16_r1 arg17_r1 arg18_r1), ∀ (k0_h26 : k0_cond26 k0_t2 arg18_r1 = 1#1), ∀ a, (k0_off81 arg17_r1) a + S1x512x4096.size a ≤ S2x512x4096.size a := fun k0_t2 arg14_r1 arg15_r1 arg16_r1 arg17_r1 arg18_r1 k0_hw14 k0_h26 => k0_hw14.2.2.2.2.2.2.2.2.2.2.2.2.2 k0_h26

def k0_off82 (v30_3_r1 : BitVec 32) : Fin 1 → Nat :=
  let c2_i32_53_r1 : BitVec 32 := 2#32
  let v51_r1 : BitVec 32 := Scalar.remui v30_3_r1 c2_i32_53_r1
  ![v51_r1.toNat]

def k0_off83 (v30_4_r1 : BitVec 32) : Fin 2 → Nat :=
  let c512_i32_r1 : BitVec 32 := 512#32
  let true_34_r1 : BitVec 1 := 1#1
  let c1_i32_33_r1 : BitVec 32 := 1#32
  let v31_r1 : BitVec 32 := Scalar.subi v30_4_r1 c1_i32_33_r1
  let v32_r1 : BitVec 32 := Scalar.select true_34_r1 v31_r1 v30_4_r1
  let c_m1_i32_35_r1 : BitVec 32 := 4294967295#32
  let v33_r1 : BitVec 1 := Scalar.cmpi .eq v32_r1 c_m1_i32_35_r1
  let c7_i32_36_r1 : BitVec 32 := 7#32
  let v34_r1 : BitVec 32 := Scalar.select v33_r1 c7_i32_36_r1 v32_r1
  let c0_i32_37_r1 : BitVec 32 := 0#32
  let v35_r1 : BitVec 32 := Scalar.addi v34_r1 c0_i32_37_r1
  let v52_r1 : BitVec 32 := Scalar.muli c512_i32_r1 v35_r1
  let c0_i32_54_r1 : BitVec 32 := 0#32
  ![v52_r1.toNat, 0]

def k0_chk18 (v30_4_r1 : BitVec 32) : Prop :=
  (∀ a, (k0_off83 v30_4_r1) a + S512x4096.size a ≤ S4096x4096.size a)
theorem k0_off83_inb : ∀ (v30_4_r1 : BitVec 32) (k0_hw18 : k0_chk18 v30_4_r1), ∀ a, (k0_off83 v30_4_r1) a + S512x4096.size a ≤ S4096x4096.size a := fun v30_4_r1 k0_hw18 => k0_hw18

def k0_off84 (v30_3_r1 : BitVec 32) : Fin 3 → Nat :=
  let c2_i32_53_r1 : BitVec 32 := 2#32
  let v51_r1 : BitVec 32 := Scalar.remui v30_3_r1 c2_i32_53_r1
  let c0_i32_55_r1 : BitVec 32 := 0#32
  let c0_i32_56_r1 : BitVec 32 := 0#32
  ![v51_r1.toNat, 0, 0]

def k0_chk17 (v30_3_r1 : BitVec 32) : Prop :=
  (∀ a, (k0_off82 v30_3_r1) a + S1.size a ≤ S2.size a) ∧
  (∀ a, (k0_off84 v30_3_r1) a + S1x512x4096.size a ≤ S2x512x4096.size a)
theorem k0_off82_inb : ∀ (v30_3_r1 : BitVec 32) (k0_hw17 : k0_chk17 v30_3_r1), ∀ a, (k0_off82 v30_3_r1) a + S1.size a ≤ S2.size a := fun v30_3_r1 k0_hw17 => k0_hw17.1
theorem k0_off84_inb : ∀ (v30_3_r1 : BitVec 32) (k0_hw17 : k0_chk17 v30_3_r1), ∀ a, (k0_off84 v30_3_r1) a + S1x512x4096.size a ≤ S2x512x4096.size a := fun v30_3_r1 k0_hw17 => k0_hw17.2

abbrev stage0_0 : Fin 1 → Memref sig .tc .smem S4x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2 : Shape := ⟨1, ![2]⟩
abbrev S2x4096x2 : Shape := ⟨3, ![2, 4096, 2]⟩
abbrev S4096x128 : Shape := ⟨2, ![4096, 128]⟩
abbrev S4096x4096 : Shape := ⟨2, ![4096, 4096]⟩
abbrev S_ : Shape := ⟨0, ![]⟩
abbrev S1 : Shape := ⟨1, ![1]⟩
abbrev S4096 : Shape := ⟨1, ![4096]⟩
abbrev S4096x1 : Shape := ⟨2, ![4096, 1]⟩
abbrev S128x4096 : Shape := ⟨2, ![128, 4096]⟩
abbrev S1x4096x2 : Shape := ⟨3, ![1, 4096, 2]⟩
abbrev S4096x2 : Shape := ⟨2, ![4096, 2]⟩
abbrev S1x4096 : Shape := ⟨2, ![1, 4096]⟩

abbrev nBuf : Space → Nat
  | .hbm => 331
  | .vmem => 0
  | .smem => 0
  | _ => 0

abbrev hbmTy0_0 (i : Nat) : BufTy := match i % 128 with
  | 0 => ⟨S2, .f32⟩
  | 1 => ⟨S2, .f32⟩
  | 2 => ⟨S2, .f32⟩
  | 3 => ⟨S2, .f32⟩
  | 4 => ⟨S2x4096x2, .f32⟩
  | 5 => ⟨S4096x128, .f32⟩
  | 6 => ⟨S4096x4096, .f32⟩
  | 7 => ⟨S4096x4096, .f32⟩
  | 8 => ⟨S_, .i32⟩
  | 9 => ⟨S_, .i32⟩
  | 10 => ⟨S_, .i32⟩
  | 11 => ⟨S4096x128, .f32⟩
  | 12 => ⟨S1, .f32⟩
  | 13 => ⟨S_, .f32⟩
  | 14 => ⟨S4096x128, .f32⟩
  | 15 => ⟨S4096x128, .f32⟩
  | 16 => ⟨S1, .f32⟩
  | 17 => ⟨S_, .f32⟩
  | 18 => ⟨S4096x128, .f32⟩
  | 19 => ⟨S4096x128, .f32⟩
  | 20 => ⟨S1, .f32⟩
  | 21 => ⟨S_, .f32⟩
  | 22 => ⟨S_, .f32⟩
  | 23 => ⟨S_, .f32⟩
  | 24 => ⟨S4096x128, .f32⟩
  | 25 => ⟨S4096x128, .f32⟩
  | 26 => ⟨S4096x128, .f32⟩
  | 27 => ⟨S_, .f32⟩
  | 28 => ⟨S4096x128, .f32⟩
  | 29 => ⟨S4096x128, .i1⟩
  | 30 => ⟨S4096x128, .f32⟩
  | 31 => ⟨S4096x128, .f32⟩
  | 32 => ⟨S_, .f32⟩
  | 33 => ⟨S4096x128, .f32⟩
  | 34 => ⟨S4096x128, .f32⟩
  | 35 => ⟨S_, .f32⟩
  | 36 => ⟨S4096x128, .f32⟩
  | 37 => ⟨S4096x128, .f32⟩
  | 38 => ⟨S_, .f32⟩
  | 39 => ⟨S_, .f32⟩
  | 40 => ⟨S4096x128, .f32⟩
  | 41 => ⟨S4096x128, .f32⟩
  | 42 => ⟨S_, .f32⟩
  | 43 => ⟨S4096x4096, .f32⟩
  | 44 => ⟨S4096x4096, .i1⟩
  | 45 => ⟨S_, .f32⟩
  | 46 => ⟨S4096x4096, .f32⟩
  | 47 => ⟨S4096x4096, .i1⟩
  | 48 => ⟨S4096x4096, .i1⟩
  | 49 => ⟨S_, .f32⟩
  | 50 => ⟨S_, .f32⟩
  | 51 => ⟨S4096x4096, .f32⟩
  | 52 => ⟨S4096x4096, .f32⟩
  | 53 => ⟨S4096x4096, .f32⟩
  | 54 => ⟨S1, .f32⟩
  | 55 => ⟨S_, .f32⟩
  | 56 => ⟨S1, .f32⟩
  | 57 => ⟨S_, .f32⟩
  | 58 => ⟨S4096x128, .f32⟩
  | 59 => ⟨S_, .f32⟩
  | 60 => ⟨S4096, .f32⟩
  | 61 => ⟨S_, .f32⟩
  | 62 => ⟨S4096, .f32⟩
  | 63 => ⟨S4096, .f32⟩
  | 64 => ⟨S4096, .f32⟩
  | 65 => ⟨S4096x1, .f32⟩
  | 66 => ⟨S4096x128, .f32⟩
  | 67 => ⟨S4096x128, .f32⟩
  | 68 => ⟨S128x4096, .f32⟩
  | 69 => ⟨S4096x4096, .f32⟩
  | 70 => ⟨S4096x4096, .f32⟩
  | 71 => ⟨S4096x4096, .f32⟩
  | 72 => ⟨S_, .f32⟩
  | 73 => ⟨S4096x4096, .f32⟩
  | 74 => ⟨S4096x4096, .i1⟩
  | 75 => ⟨S4096x4096, .f32⟩
  | 76 => ⟨S4096x4096, .f32⟩
  | 77 => ⟨S4096x4096, .f32⟩
  | 78 => ⟨S4096x4096, .f32⟩
  | 79 => ⟨S4096x4096, .f32⟩
  | 80 => ⟨S_, .f32⟩
  | 81 => ⟨S_, .f32⟩
  | 82 => ⟨S4096x4096, .f32⟩
  | 83 => ⟨S4096x4096, .f32⟩
  | 84 => ⟨S4096x4096, .f32⟩
  | 85 => ⟨S4096x128, .f32⟩
  | 86 => ⟨S_, .f32⟩
  | 87 => ⟨S4096, .f32⟩
  | 88 => ⟨S_, .f32⟩
  | 89 => ⟨S4096, .f32⟩
  | 90 => ⟨S4096, .f32⟩
  | 91 => ⟨S4096, .f32⟩
  | 92 => ⟨S4096x1, .f32⟩
  | 93 => ⟨S4096x128, .f32⟩
  | 94 => ⟨S4096x128, .f32⟩
  | 95 => ⟨S128x4096, .f32⟩
  | 96 => ⟨S4096x4096, .f32⟩
  | 97 => ⟨S4096x4096, .f32⟩
  | 98 => ⟨S_, .f32⟩
  | 99 => ⟨S4096x4096, .f32⟩
  | 100 => ⟨S4096x4096, .i1⟩
  | 101 => ⟨S_, .f32⟩
  | 102 => ⟨S4096x4096, .f32⟩
  | 103 => ⟨S4096x4096, .f32⟩
  | 104 => ⟨S_, .f32⟩
  | 105 => ⟨S_, .f32⟩
  | 106 => ⟨S4096x4096, .f32⟩
  | 107 => ⟨S4096x4096, .f32⟩
  | 108 => ⟨S1, .f32⟩
  | 109 => ⟨S_, .f32⟩
  | 110 => ⟨S1, .f32⟩
  | 111 => ⟨S_, .f32⟩
  | 112 => ⟨S4096x128, .f32⟩
  | 113 => ⟨S_, .f32⟩
  | 114 => ⟨S4096, .f32⟩
  | 115 => ⟨S_, .f32⟩
  | 116 => ⟨S4096, .f32⟩
  | 117 => ⟨S4096, .f32⟩
  | 118 => ⟨S4096, .f32⟩
  | 119 => ⟨S4096x1, .f32⟩
  | 120 => ⟨S4096x128, .f32⟩
  | 121 => ⟨S4096x128, .f32⟩
  | 122 => ⟨S128x4096, .f32⟩
  | 123 => ⟨S4096x4096, .f32⟩
  | 124 => ⟨S4096x4096, .f32⟩
  | 125 => ⟨S_, .f32⟩
  | 126 => ⟨S4096x4096, .f32⟩
  | 127 => ⟨S4096x4096, .i1⟩
  | _ => ⟨S2, .f32⟩

abbrev hbmTy0_1 (i : Nat) : BufTy := match i % 128 with
  | 0 => ⟨S4096x4096, .f32⟩
  | 1 => ⟨S4096x4096, .f32⟩
  | 2 => ⟨S4096x4096, .f32⟩
  | 3 => ⟨S4096x4096, .f32⟩
  | 4 => ⟨S4096x4096, .f32⟩
  | 5 => ⟨S_, .f32⟩
  | 6 => ⟨S_, .f32⟩
  | 7 => ⟨S4096x4096, .f32⟩
  | 8 => ⟨S4096x4096, .f32⟩
  | 9 => ⟨S4096x4096, .f32⟩
  | 10 => ⟨S4096x4096, .f32⟩
  | 11 => ⟨S_, .i32⟩
  | 12 => ⟨S_, .i1⟩
  | 13 => ⟨S_, .i32⟩
  | 14 => ⟨S_, .i32⟩
  | 15 => ⟨S_, .i32⟩
  | 16 => ⟨S_, .i32⟩
  | 17 => ⟨S_, .i32⟩
  | 18 => ⟨S_, .i1⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i1⟩
  | 27 => ⟨S_, .i32⟩
  | 28 => ⟨S_, .i32⟩
  | 29 => ⟨S_, .i32⟩
  | 30 => ⟨S_, .i32⟩
  | 31 => ⟨S_, .i32⟩
  | 32 => ⟨S1x4096x2, .f32⟩
  | 33 => ⟨S4096x2, .f32⟩
  | 34 => ⟨S4096x1, .f32⟩
  | 35 => ⟨S4096, .f32⟩
  | 36 => ⟨S1x4096, .f32⟩
  | 37 => ⟨S4096x4096, .f32⟩
  | 38 => ⟨S4096x4096, .f32⟩
  | 39 => ⟨S4096x1, .f32⟩
  | 40 => ⟨S4096x128, .f32⟩
  | 41 => ⟨S4096x128, .f32⟩
  | 42 => ⟨S4096x128, .f32⟩
  | 43 => ⟨S1, .f32⟩
  | 44 => ⟨S_, .f32⟩
  | 45 => ⟨S4096x128, .f32⟩
  | 46 => ⟨S4096x128, .f32⟩
  | 47 => ⟨S1, .f32⟩
  | 48 => ⟨S_, .f32⟩
  | 49 => ⟨S4096x128, .f32⟩
  | 50 => ⟨S4096x128, .f32⟩
  | 51 => ⟨S1, .f32⟩
  | 52 => ⟨S_, .f32⟩
  | 53 => ⟨S_, .f32⟩
  | 54 => ⟨S_, .f32⟩
  | 55 => ⟨S4096x128, .f32⟩
  | 56 => ⟨S4096x128, .f32⟩
  | 57 => ⟨S4096x128, .f32⟩
  | 58 => ⟨S_, .f32⟩
  | 59 => ⟨S4096x128, .f32⟩
  | 60 => ⟨S4096x128, .i1⟩
  | 61 => ⟨S4096x128, .f32⟩
  | 62 => ⟨S4096x128, .f32⟩
  | 63 => ⟨S_, .f32⟩
  | 64 => ⟨S4096x128, .f32⟩
  | 65 => ⟨S4096x128, .f32⟩
  | 66 => ⟨S_, .f32⟩
  | 67 => ⟨S4096x128, .f32⟩
  | 68 => ⟨S4096x128, .f32⟩
  | 69 => ⟨S_, .f32⟩
  | 70 => ⟨S_, .f32⟩
  | 71 => ⟨S4096x128, .f32⟩
  | 72 => ⟨S4096x128, .f32⟩
  | 73 => ⟨S_, .f32⟩
  | 74 => ⟨S4096x4096, .f32⟩
  | 75 => ⟨S4096x4096, .i1⟩
  | 76 => ⟨S_, .f32⟩
  | 77 => ⟨S4096x4096, .f32⟩
  | 78 => ⟨S4096x4096, .i1⟩
  | 79 => ⟨S4096x4096, .i1⟩
  | 80 => ⟨S_, .f32⟩
  | 81 => ⟨S_, .f32⟩
  | 82 => ⟨S4096x4096, .f32⟩
  | 83 => ⟨S4096x4096, .f32⟩
  | 84 => ⟨S4096x4096, .f32⟩
  | 85 => ⟨S1, .f32⟩
  | 86 => ⟨S_, .f32⟩
  | 87 => ⟨S1, .f32⟩
  | 88 => ⟨S_, .f32⟩
  | 89 => ⟨S4096x128, .f32⟩
  | 90 => ⟨S_, .f32⟩
  | 91 => ⟨S4096, .f32⟩
  | 92 => ⟨S_, .f32⟩
  | 93 => ⟨S4096, .f32⟩
  | 94 => ⟨S4096, .f32⟩
  | 95 => ⟨S4096, .f32⟩
  | 96 => ⟨S4096x1, .f32⟩
  | 97 => ⟨S4096x128, .f32⟩
  | 98 => ⟨S4096x128, .f32⟩
  | 99 => ⟨S128x4096, .f32⟩
  | 100 => ⟨S4096x4096, .f32⟩
  | 101 => ⟨S4096x4096, .f32⟩
  | 102 => ⟨S4096x4096, .f32⟩
  | 103 => ⟨S_, .f32⟩
  | 104 => ⟨S4096x4096, .f32⟩
  | 105 => ⟨S4096x4096, .i1⟩
  | 106 => ⟨S4096x4096, .f32⟩
  | 107 => ⟨S4096x4096, .f32⟩
  | 108 => ⟨S4096x4096, .f32⟩
  | 109 => ⟨S4096x4096, .f32⟩
  | 110 => ⟨S4096x4096, .f32⟩
  | 111 => ⟨S_, .f32⟩
  | 112 => ⟨S_, .f32⟩
  | 113 => ⟨S4096x4096, .f32⟩
  | 114 => ⟨S4096x4096, .f32⟩
  | 115 => ⟨S4096x4096, .f32⟩
  | 116 => ⟨S4096x128, .f32⟩
  | 117 => ⟨S_, .f32⟩
  | 118 => ⟨S4096, .f32⟩
  | 119 => ⟨S_, .f32⟩
  | 120 => ⟨S4096, .f32⟩
  | 121 => ⟨S4096, .f32⟩
  | 122 => ⟨S4096, .f32⟩
  | 123 => ⟨S4096x1, .f32⟩
  | 124 => ⟨S4096x128, .f32⟩
  | 125 => ⟨S4096x128, .f32⟩
  | 126 => ⟨S128x4096, .f32⟩
  | 127 => ⟨S4096x4096, .f32⟩
  | _ => ⟨S2, .f32⟩

abbrev hbmTy0_2 (i : Nat) : BufTy := match i % 128 with
  | 0 => ⟨S4096x4096, .f32⟩
  | 1 => ⟨S_, .f32⟩
  | 2 => ⟨S4096x4096, .f32⟩
  | 3 => ⟨S4096x4096, .i1⟩
  | 4 => ⟨S_, .f32⟩
  | 5 => ⟨S4096x4096, .f32⟩
  | 6 => ⟨S4096x4096, .f32⟩
  | 7 => ⟨S_, .f32⟩
  | 8 => ⟨S_, .f32⟩
  | 9 => ⟨S4096x4096, .f32⟩
  | 10 => ⟨S4096x4096, .f32⟩
  | 11 => ⟨S1, .f32⟩
  | 12 => ⟨S_, .f32⟩
  | 13 => ⟨S1, .f32⟩
  | 14 => ⟨S_, .f32⟩
  | 15 => ⟨S4096x128, .f32⟩
  | 16 => ⟨S_, .f32⟩
  | 17 => ⟨S4096, .f32⟩
  | 18 => ⟨S_, .f32⟩
  | 19 => ⟨S4096, .f32⟩
  | 20 => ⟨S4096, .f32⟩
  | 21 => ⟨S4096, .f32⟩
  | 22 => ⟨S4096x1, .f32⟩
  | 23 => ⟨S4096x128, .f32⟩
  | 24 => ⟨S4096x128, .f32⟩
  | 25 => ⟨S128x4096, .f32⟩
  | 26 => ⟨S4096x4096, .f32⟩
  | 27 => ⟨S4096x4096, .f32⟩
  | 28 => ⟨S_, .f32⟩
  | 29 => ⟨S4096x4096, .f32⟩
  | 30 => ⟨S4096x4096, .i1⟩
  | 31 => ⟨S4096x4096, .f32⟩
  | 32 => ⟨S4096x4096, .f32⟩
  | 33 => ⟨S4096x4096, .f32⟩
  | 34 => ⟨S4096x4096, .f32⟩
  | 35 => ⟨S4096x4096, .f32⟩
  | 36 => ⟨S_, .f32⟩
  | 37 => ⟨S_, .f32⟩
  | 38 => ⟨S4096x4096, .f32⟩
  | 39 => ⟨S4096x4096, .f32⟩
  | 40 => ⟨S4096x4096, .f32⟩
  | 41 => ⟨S4096x4096, .f32⟩
  | 42 => ⟨S_, .i32⟩
  | 43 => ⟨S_, .i1⟩
  | 44 => ⟨S_, .i32⟩
  | 45 => ⟨S_, .i32⟩
  | 46 => ⟨S_, .i32⟩
  | 47 => ⟨S_, .i32⟩
  | 48 => ⟨S_, .i32⟩
  | 49 => ⟨S_, .i1⟩
  | 50 => ⟨S_, .i32⟩
  | 51 => ⟨S_, .i32⟩
  | 52 => ⟨S_, .i32⟩
  | 53 => ⟨S_, .i32⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S_, .i32⟩
  | 61 => ⟨S_, .i32⟩
  | 62 => ⟨S_, .i32⟩
  | 63 => ⟨S1x4096x2, .f32⟩
  | 64 => ⟨S4096x2, .f32⟩
  | 65 => ⟨S4096x1, .f32⟩
  | 66 => ⟨S4096, .f32⟩
  | 67 => ⟨S1x4096, .f32⟩
  | 68 => ⟨S4096x4096, .f32⟩
  | 69 => ⟨S4096x4096, .f32⟩
  | 70 => ⟨S4096x4096, .f32⟩
  | 71 => ⟨S4096x1, .f32⟩
  | 72 => ⟨S4096x128, .f32⟩
  | 73 => ⟨S4096x128, .f32⟩
  | 74 => ⟨S4096x128, .f32⟩
  | _ => ⟨S2, .f32⟩

abbrev hbmTy (i : Nat) : BufTy := match i / 128 with
  | 0 => hbmTy0_0 i
  | 1 => hbmTy0_1 i
  | 2 => hbmTy0_2 i
  | _ => ⟨S2, .f32⟩

abbrev bufTy : (tb : Table) → Fin (tcTables nBuf tb) → BufTy
  | .hbm, ⟨i, _⟩ => hbmTy i
  | _, _ => ⟨S2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_6 : Ref sig .tc := ⟨.hbm, 49, rfl⟩
abbrev main_cst_7 : Ref sig .tc := ⟨.hbm, 50, rfl⟩
abbrev main_call1_v0 : Ref sig .tc := ⟨.hbm, 51, rfl⟩
abbrev main_call1_v1 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_8 : Ref sig .tc := ⟨.hbm, 59, rfl⟩
abbrev main_v35 : Ref sig .tc := ⟨.hbm, 60, rfl⟩
abbrev main_cst_9 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_10 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_11 : Ref sig .tc := ⟨.hbm, 80, rfl⟩
abbrev main_call2_v0 : Ref sig .tc := ⟨.hbm, 81, rfl⟩
abbrev main_call2_v1 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_12 : Ref sig .tc := ⟨.hbm, 86, rfl⟩
abbrev main_v56 : Ref sig .tc := ⟨.hbm, 87, rfl⟩
abbrev main_cst_13 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_14 : Ref sig .tc := ⟨.hbm, 98, rfl⟩
abbrev main_v66 : Ref sig .tc := ⟨.hbm, 99, rfl⟩
abbrev main_v67 : Ref sig .tc := ⟨.hbm, 100, rfl⟩
abbrev main_cst_15 : Ref sig .tc := ⟨.hbm, 101, rfl⟩
abbrev main_v68 : Ref sig .tc := ⟨.hbm, 102, rfl⟩
abbrev main_v69 : Ref sig .tc := ⟨.hbm, 103, rfl⟩
abbrev main_cst_16 : Ref sig .tc := ⟨.hbm, 104, rfl⟩
abbrev main_call3_v0 : Ref sig .tc := ⟨.hbm, 105, rfl⟩
abbrev main_call3_v1 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_17 : Ref sig .tc := ⟨.hbm, 113, rfl⟩
abbrev main_v76 : Ref sig .tc := ⟨.hbm, 114, rfl⟩
abbrev main_cst_18 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_cst_19 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_20 : Ref sig .tc := ⟨.hbm, 133, rfl⟩
abbrev main_call4_v0 : Ref sig .tc := ⟨.hbm, 134, rfl⟩
abbrev main_call4_v1 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_c : Ref sig .tc := ⟨.hbm, 139, rfl⟩
abbrev main_v96 : Ref sig .tc := ⟨.hbm, 140, rfl⟩
abbrev main_c_21 : Ref sig .tc := ⟨.hbm, 141, rfl⟩
abbrev main_v97 : Ref sig .tc := ⟨.hbm, 142, rfl⟩
abbrev main_v98 : Ref sig .tc := ⟨.hbm, 143, rfl⟩
abbrev main_c_22 : Ref sig .tc := ⟨.hbm, 144, rfl⟩
abbrev main_c_23 : Ref sig .tc := ⟨.hbm, 145, rfl⟩
abbrev main_v99 : Ref sig .tc := ⟨.hbm, 146, rfl⟩
abbrev main_c_24 : Ref sig .tc := ⟨.hbm, 147, rfl⟩
abbrev main_c_25 : Ref sig .tc := ⟨.hbm, 148, rfl⟩
abbrev main_v100 : Ref sig .tc := ⟨.hbm, 149, rfl⟩
abbrev main_c_26 : Ref sig .tc := ⟨.hbm, 150, rfl⟩
abbrev main_v101 : Ref sig .tc := ⟨.hbm, 151, rfl⟩
abbrev main_c_27 : Ref sig .tc := ⟨.hbm, 152, rfl⟩
abbrev main_c_28 : Ref sig .tc := ⟨.hbm, 153, rfl⟩
abbrev main_v102 : Ref sig .tc := ⟨.hbm, 154, rfl⟩
abbrev main_c_29 : Ref sig .tc := ⟨.hbm, 155, rfl⟩
abbrev main_c_30 : Ref sig .tc := ⟨.hbm, 156, rfl⟩
abbrev main_v103 : Ref sig .tc := ⟨.hbm, 157, rfl⟩
abbrev main_c_31 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_cst_32 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_cst_33 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_cst_34 : Ref sig .tc := ⟨.hbm, 191, rfl⟩
abbrev main_v134 : Ref sig .tc := ⟨.hbm, 192, rfl⟩
abbrev main_v135 : Ref sig .tc := ⟨.hbm, 193, rfl⟩
abbrev main_cst_35 : Ref sig .tc := ⟨.hbm, 194, rfl⟩
abbrev main_v136 : Ref sig .tc := ⟨.hbm, 195, rfl⟩
abbrev main_v137 : Ref sig .tc := ⟨.hbm, 196, rfl⟩
abbrev main_cst_36 : Ref sig .tc := ⟨.hbm, 197, rfl⟩
abbrev main_call5_v0 : Ref sig .tc := ⟨.hbm, 198, rfl⟩
abbrev main_call5_v1 : Ref sig .tc := ⟨.hbm, 199, rfl⟩
abbrev main_v138 : Ref sig .tc := ⟨.hbm, 200, rfl⟩
abbrev main_cst_37 : Ref sig .tc := ⟨.hbm, 201, rfl⟩
abbrev main_v139 : Ref sig .tc := ⟨.hbm, 202, rfl⟩
abbrev main_v140 : Ref sig .tc := ⟨.hbm, 203, rfl⟩
abbrev main_cst_38 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_cst_39 : Ref sig .tc := ⟨.hbm, 208, rfl⟩
abbrev main_cst_40 : Ref sig .tc := ⟨.hbm, 209, rfl⟩
abbrev main_call6_v0 : Ref sig .tc := ⟨.hbm, 210, rfl⟩
abbrev main_call6_v1 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩
abbrev main_cst_41 : Ref sig .tc := ⟨.hbm, 218, rfl⟩
abbrev main_v150 : Ref sig .tc := ⟨.hbm, 219, rfl⟩
abbrev main_cst_42 : Ref sig .tc := ⟨.hbm, 220, rfl⟩
abbrev main_v151 : Ref sig .tc := ⟨.hbm, 221, rfl⟩
abbrev main_v152 : Ref sig .tc := ⟨.hbm, 222, rfl⟩
abbrev main_v153 : Ref sig .tc := ⟨.hbm, 223, rfl⟩
abbrev main_v154 : Ref sig .tc := ⟨.hbm, 224, rfl⟩
abbrev main_v155 : Ref sig .tc := ⟨.hbm, 225, rfl⟩
abbrev main_v156 : Ref sig .tc := ⟨.hbm, 226, rfl⟩
abbrev main_v157 : Ref sig .tc := ⟨.hbm, 227, rfl⟩
abbrev main_v158 : Ref sig .tc := ⟨.hbm, 228, rfl⟩
abbrev main_v159 : Ref sig .tc := ⟨.hbm, 229, rfl⟩
abbrev main_v160 : Ref sig .tc := ⟨.hbm, 230, rfl⟩
abbrev main_cst_43 : Ref sig .tc := ⟨.hbm, 231, rfl⟩
abbrev main_v161 : Ref sig .tc := ⟨.hbm, 232, rfl⟩
abbrev main_v162 : Ref sig .tc := ⟨.hbm, 233, rfl⟩
abbrev main_v163 : Ref sig .tc := ⟨.hbm, 234, rfl⟩
abbrev main_v164 : Ref sig .tc := ⟨.hbm, 235, rfl⟩
abbrev main_v165 : Ref sig .tc := ⟨.hbm, 236, rfl⟩
abbrev main_v166 : Ref sig .tc := ⟨.hbm, 237, rfl⟩
abbrev main_v167 : Ref sig .tc := ⟨.hbm, 238, rfl⟩
abbrev main_cst_44 : Ref sig .tc := ⟨.hbm, 239, rfl⟩
abbrev main_call7_v0 : Ref sig .tc := ⟨.hbm, 240, rfl⟩
abbrev main_call7_v1 : Ref sig .tc := ⟨.hbm, 241, rfl⟩
abbrev main_v168 : Ref sig .tc := ⟨.hbm, 242, rfl⟩
abbrev main_v169 : Ref sig .tc := ⟨.hbm, 243, rfl⟩
abbrev main_v170 : Ref sig .tc := ⟨.hbm, 244, rfl⟩
abbrev main_cst_45 : Ref sig .tc := ⟨.hbm, 245, rfl⟩
abbrev main_v171 : Ref sig .tc := ⟨.hbm, 246, rfl⟩
abbrev main_cst_46 : Ref sig .tc := ⟨.hbm, 247, rfl⟩
abbrev main_v172 : Ref sig .tc := ⟨.hbm, 248, rfl⟩
abbrev main_v173 : Ref sig .tc := ⟨.hbm, 249, rfl⟩
abbrev main_v174 : Ref sig .tc := ⟨.hbm, 250, rfl⟩
abbrev main_v175 : Ref sig .tc := ⟨.hbm, 251, rfl⟩
abbrev main_v176 : Ref sig .tc := ⟨.hbm, 252, rfl⟩
abbrev main_v177 : Ref sig .tc := ⟨.hbm, 253, rfl⟩
abbrev main_v178 : Ref sig .tc := ⟨.hbm, 254, rfl⟩
abbrev main_v179 : Ref sig .tc := ⟨.hbm, 255, rfl⟩
abbrev main_v180 : Ref sig .tc := ⟨.hbm, 256, rfl⟩
abbrev main_cst_47 : Ref sig .tc := ⟨.hbm, 257, rfl⟩
abbrev main_v181 : Ref sig .tc := ⟨.hbm, 258, rfl⟩
abbrev main_v182 : Ref sig .tc := ⟨.hbm, 259, rfl⟩
abbrev main_cst_48 : Ref sig .tc := ⟨.hbm, 260, rfl⟩
abbrev main_v183 : Ref sig .tc := ⟨.hbm, 261, rfl⟩
abbrev main_v184 : Ref sig .tc := ⟨.hbm, 262, rfl⟩
abbrev main_cst_49 : Ref sig .tc := ⟨.hbm, 263, rfl⟩
abbrev main_call8_v0 : Ref sig .tc := ⟨.hbm, 264, rfl⟩
abbrev main_call8_v1 : Ref sig .tc := ⟨.hbm, 265, rfl⟩
abbrev main_v185 : Ref sig .tc := ⟨.hbm, 266, rfl⟩
abbrev main_v186 : Ref sig .tc := ⟨.hbm, 267, rfl⟩
abbrev main_v187 : Ref sig .tc := ⟨.hbm, 268, rfl⟩
abbrev main_v188 : Ref sig .tc := ⟨.hbm, 269, rfl⟩
abbrev main_v189 : Ref sig .tc := ⟨.hbm, 270, rfl⟩
abbrev main_v190 : Ref sig .tc := ⟨.hbm, 271, rfl⟩
abbrev main_cst_50 : Ref sig .tc := ⟨.hbm, 272, rfl⟩
abbrev main_v191 : Ref sig .tc := ⟨.hbm, 273, rfl⟩
abbrev main_cst_51 : Ref sig .tc := ⟨.hbm, 274, rfl⟩
abbrev main_v192 : Ref sig .tc := ⟨.hbm, 275, rfl⟩
abbrev main_v193 : Ref sig .tc := ⟨.hbm, 276, rfl⟩
abbrev main_v194 : Ref sig .tc := ⟨.hbm, 277, rfl⟩
abbrev main_v195 : Ref sig .tc := ⟨.hbm, 278, rfl⟩
abbrev main_v196 : Ref sig .tc := ⟨.hbm, 279, rfl⟩
abbrev main_v197 : Ref sig .tc := ⟨.hbm, 280, rfl⟩
abbrev main_v198 : Ref sig .tc := ⟨.hbm, 281, rfl⟩
abbrev main_v199 : Ref sig .tc := ⟨.hbm, 282, rfl⟩
abbrev main_v200 : Ref sig .tc := ⟨.hbm, 283, rfl⟩
abbrev main_cst_52 : Ref sig .tc := ⟨.hbm, 284, rfl⟩
abbrev main_v201 : Ref sig .tc := ⟨.hbm, 285, rfl⟩
abbrev main_v202 : Ref sig .tc := ⟨.hbm, 286, rfl⟩
abbrev main_v203 : Ref sig .tc := ⟨.hbm, 287, rfl⟩
abbrev main_v204 : Ref sig .tc := ⟨.hbm, 288, rfl⟩
abbrev main_v205 : Ref sig .tc := ⟨.hbm, 289, rfl⟩
abbrev main_v206 : Ref sig .tc := ⟨.hbm, 290, rfl⟩
abbrev main_v207 : Ref sig .tc := ⟨.hbm, 291, rfl⟩
abbrev main_cst_53 : Ref sig .tc := ⟨.hbm, 292, rfl⟩
abbrev main_call9_v0 : Ref sig .tc := ⟨.hbm, 293, rfl⟩
abbrev main_call9_v1 : Ref sig .tc := ⟨.hbm, 294, rfl⟩
abbrev main_v208 : Ref sig .tc := ⟨.hbm, 295, rfl⟩
abbrev main_v209 : Ref sig .tc := ⟨.hbm, 296, rfl⟩
abbrev main_v210 : Ref sig .tc := ⟨.hbm, 297, rfl⟩
abbrev main_c_54 : Ref sig .tc := ⟨.hbm, 298, rfl⟩
abbrev main_v211 : Ref sig .tc := ⟨.hbm, 299, rfl⟩
abbrev main_c_55 : Ref sig .tc := ⟨.hbm, 300, rfl⟩
abbrev main_v212 : Ref sig .tc := ⟨.hbm, 301, rfl⟩
abbrev main_v213 : Ref sig .tc := ⟨.hbm, 302, rfl⟩
abbrev main_c_56 : Ref sig .tc := ⟨.hbm, 303, rfl⟩
abbrev main_c_57 : Ref sig .tc := ⟨.hbm, 304, rfl⟩
abbrev main_v214 : Ref sig .tc := ⟨.hbm, 305, rfl⟩
abbrev main_c_58 : Ref sig .tc := ⟨.hbm, 306, rfl⟩
abbrev main_c_59 : Ref sig .tc := ⟨.hbm, 307, rfl⟩
abbrev main_v215 : Ref sig .tc := ⟨.hbm, 308, rfl⟩
abbrev main_c_60 : Ref sig .tc := ⟨.hbm, 309, rfl⟩
abbrev main_v216 : Ref sig .tc := ⟨.hbm, 310, rfl⟩
abbrev main_c_61 : Ref sig .tc := ⟨.hbm, 311, rfl⟩
abbrev main_c_62 : Ref sig .tc := ⟨.hbm, 312, rfl⟩
abbrev main_v217 : Ref sig .tc := ⟨.hbm, 313, rfl⟩
abbrev main_c_63 : Ref sig .tc := ⟨.hbm, 314, rfl⟩
abbrev main_c_64 : Ref sig .tc := ⟨.hbm, 315, rfl⟩
abbrev main_v218 : Ref sig .tc := ⟨.hbm, 316, rfl⟩
abbrev main_c_65 : Ref sig .tc := ⟨.hbm, 317, rfl⟩
abbrev main_v219 : Ref sig .tc := ⟨.hbm, 318, rfl⟩
abbrev main_v220 : Ref sig .tc := ⟨.hbm, 319, rfl⟩
abbrev main_v221 : Ref sig .tc := ⟨.hbm, 320, rfl⟩
abbrev main_v222 : Ref sig .tc := ⟨.hbm, 321, rfl⟩
abbrev main_v223 : Ref sig .tc := ⟨.hbm, 322, rfl⟩
abbrev main_v224 : Ref sig .tc := ⟨.hbm, 323, rfl⟩
abbrev main_v225 : Ref sig .tc := ⟨.hbm, 324, rfl⟩
abbrev main_v226 : Ref sig .tc := ⟨.hbm, 325, rfl⟩
abbrev main_v227 : Ref sig .tc := ⟨.hbm, 326, rfl⟩
abbrev main_v228 : Ref sig .tc := ⟨.hbm, 327, rfl⟩
abbrev main_v229 : Ref sig .tc := ⟨.hbm, 328, rfl⟩
abbrev main_v230 : Ref sig .tc := ⟨.hbm, 329, rfl⟩
abbrev main_v231 : Ref sig .tc := ⟨.hbm, 330, rfl⟩

abbrev nD : Nat := 1
abbrev τ : Topo := Topo.v7x

variable {F : FTy → Type} [FloatOps F]
-- ==== Proof.Names.lean ====
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import Idealize.ShloMosaic.Lib.Ring
public import Idealize.ShloMosaic.Lib.Ring.WriteBehind
public import Idealize.ShloMosaic.Lib.Ring.Trips
public import Idealize.ShloMosaic.Lib.Tactic

@[expose] public section

noncomputable section

/-! Names for what the two pipelined loops of the kernel touch.

Each loop runs eight trips. Trip `k` works on row block `k` of 512 rows: it starts fetching block `k + 1`, waits for
block `k`, computes, starts writing back its results and waits for the write of block `k - 1`. Every streamed array has
two slots of scratch memory; block `k` uses slot `k % 2`. The loops carry their counters as 32-bit words: `wIss k` blocks
fetched, `wCur k` blocks consumed (and produced), `wPrv k` writes waited for, `wIdx k` the block index. -/

namespace Cert.Proof.Names

open Cert.KernelIdeal Cert.KernelIdeal.Gen
open Idealize.ShloMosaic Idealize.ShloMosaic.TcCoe Idealize.ShloMosaic.Tactic
open Idealize.ShloMosaic.Ring

/-! ## The carried counters -/

def wIss (k : ℕ) : BitVec 32 := BitVec.ofNat 32 (min (k + 1) 8)
def wCur (k : ℕ) : BitVec 32 := BitVec.ofNat 32 k
def wPrv (k : ℕ) : BitVec 32 := BitVec.ofNat 32 (k - 1)
def wIdx (k : ℕ) : BitVec 32 := BitVec.ofNat 32 (k % 8)

/-! ## Offsets -/

abbrev semOff (s : Fin 2) : Fin 1 → Nat := ![s.val]
abbrev slotOff (s : Fin 2) : Fin 3 → Nat := ![s.val, 0, 0]
abbrev blkOff (b : Fin 8) : Fin 2 → Nat := ![512 * b.val, 0]
abbrev colOff (b : Fin 8) : Fin 2 → Nat := ![0, 512 * b.val]

theorem semOff_inb (s : Fin 2) : ∀ a, semOff s a + S1.size a ≤ S2.size a := by revert s; decide
theorem slotW_inb (s : Fin 2) : ∀ a, slotOff s a + S1x512x4096.size a ≤ S2x512x4096.size a := by revert s; decide
theorem slotN_inb (s : Fin 2) : ∀ a, slotOff s a + S1x512x128.size a ≤ S2x512x128.size a := by revert s; decide
theorem blkW_inb (b : Fin 8) : ∀ a, blkOff b a + S512x4096.size a ≤ S4096x4096.size a := by revert b; decide
theorem blkN_inb (b : Fin 8) : ∀ a, blkOff b a + S512x128.size a ≤ S4096x128.size a := by revert b; decide
theorem col_inb (b : Fin 8) : ∀ a, colOff b a + S1x512.size a ≤ S1x4096.size a := by revert b; decide

/-! ## Cells, slots and blocks -/

/-- The semaphore of slot `s`. -/
def csm (S : DmaSems sig S2) (s : Fin 2) : DmaSems sig S_ :=
  (S.slice (Rect.unit (s := S2) (semOff s) S1.size (semOff_inb s))).squeeze S_ squeezes_S1_S_
/-- Slot `s` of a two-slot scratch of wide blocks (512 × 4096). -/
def slotW (M : Memref sig .tc .vmem S2x512x4096 .f32) (s : Fin 2) : Memref sig .tc .vmem S512x4096 .f32 :=
  (M.slice (Rect.unit (s := S2x512x4096) (slotOff s) S1x512x4096.size (slotW_inb s)) (fun _ => rfl)).squeeze S512x4096 squeezes_S1x512x4096_S512x4096
/-- Slot `s` of a two-slot scratch of narrow blocks (512 × 128). -/
def slotN (M : Memref sig .tc .vmem S2x512x128 .f32) (s : Fin 2) : Memref sig .tc .vmem S512x128 .f32 :=
  (M.slice (Rect.unit (s := S2x512x128) (slotOff s) S1x512x128.size (slotN_inb s)) (fun _ => rfl)).squeeze S512x128 squeezes_S1x512x128_S512x128
/-- Row block `b` of a wide array (4096 × 4096). -/
def blkW (A : Memref sig .tc .hbm S4096x4096 .f32) (b : Fin 8) : Memref sig .tc .hbm S512x4096 .f32 :=
  A.slice (Rect.unit (s := S4096x4096) (blkOff b) S512x4096.size (blkW_inb b)) (fun _ => rfl)
/-- Row block `b` of a narrow array (4096 × 128). -/
def blkN (A : Memref sig .tc .hbm S4096x128 .f32) (b : Fin 8) : Memref sig .tc .hbm S512x128 .f32 :=
  A.slice (Rect.unit (s := S4096x128) (blkOff b) S512x128.size (blkN_inb b)) (fun _ => rfl)

instance (s : Fin 2) : ClosedOff (slotOff s) := ⟨slotOff s, rfl⟩
instance (b : Fin 8) : ClosedOff (blkOff b) := ⟨blkOff b, rfl⟩
instance (b : Fin 8) : ClosedOff (colOff b) := ⟨colOff b, rfl⟩

theorem csm_congr (S : DmaSems sig S2) {off : Fin 1 → Nat} {s : Fin 2} (e : off = semOff s) (hh) :
    (S.slice (Rect.unit (s := S2) off S1.size hh)).squeeze S_ squeezes_S1_S_ = csm S s :=
  congrArg (fun A : DmaSems sig S1 => A.squeeze S_ squeezes_S1_S_) (SemArray.slice_unit_congr _ e _ _)
theorem slotW_congr (M : Memref sig .tc .vmem S2x512x4096 .f32) {off : Fin 3 → Nat} {s : Fin 2} (e : off = slotOff s) (hh hs) :
    (M.slice (Rect.unit (s := S2x512x4096) off S1x512x4096.size hh) hs).squeeze S512x4096 squeezes_S1x512x4096_S512x4096 = slotW M s :=
  congrArg (fun N : Memref sig .tc .vmem S1x512x4096 .f32 => N.squeeze S512x4096 squeezes_S1x512x4096_S512x4096) (Memref.slice_unit_congr _ e _ _ _ _)
theorem slotN_congr (M : Memref sig .tc .vmem S2x512x128 .f32) {off : Fin 3 → Nat} {s : Fin 2} (e : off = slotOff s) (hh hs) :
    (M.slice (Rect.unit (s := S2x512x128) off S1x512x128.size hh) hs).squeeze S512x128 squeezes_S1x512x128_S512x128 = slotN M s :=
  congrArg (fun N : Memref sig .tc .vmem S1x512x128 .f32 => N.squeeze S512x128 squeezes_S1x512x128_S512x128) (Memref.slice_unit_congr _ e _ _ _ _)
theorem blkW_congr (A : Memref sig .tc .hbm S4096x4096 .f32) {off : Fin 2 → Nat} {b : Fin 8} (e : off = blkOff b) (hh hs) :
    A.slice (Rect.unit (s := S4096x4096) off S512x4096.size hh) hs = blkW A b := by
  unfold blkW; exact Memref.slice_unit_congr _ e _ _ _ _
theorem blkN_congr (A : Memref sig .tc .hbm S4096x128 .f32) {off : Fin 2 → Nat} {b : Fin 8} (e : off = blkOff b) (hh hs) :
    A.slice (Rect.unit (s := S4096x128) off S512x128.size hh) hs = blkN A b := by
  unfold blkN; exact Memref.slice_unit_congr _ e _ _ _ _

/-! ## The printed offsets at the counters, in closed form

The chains that compute the same offset are the same operations, so one fact per form serves them all. -/

/-- A fact about every trip number below eight, from its eight cases. -/
theorem below8 {P : ℕ → Prop} (h : ∀ k : Fin 8, P k.val) (k : ℕ) (hk : k < 8) : P k := h ⟨k, hk⟩

theorem sem_iss : ∀ k, k < 8 → k0_off3 (wIss k) = semOff (sl 2 (k + 1)) := below8 (by decide)
theorem sem_cur : ∀ k, k < 8 → k0_off6 (wCur k) = semOff (sl 2 k) := below8 (by decide)
theorem sem_prv (k : ℕ) (h1 : 1 ≤ k) (hk : k < 8) : k0_off34 (wPrv k) = semOff (sl 2 (k + 1)) :=
  below8 (P := fun k => 1 ≤ k → k0_off34 (wPrv k) = semOff (sl 2 (k + 1))) (by decide) k hk h1
theorem slot_iss : ∀ k, k < 8 → k0_off4 (wIss k) = slotOff (sl 2 (k + 1)) := below8 (by decide)
theorem slot_cur : ∀ k, k < 8 → k0_off7 (wCur k) = slotOff (sl 2 k) := below8 (by decide)
theorem slot_prv (k : ℕ) (h1 : 1 ≤ k) (hk : k < 8) : k0_off36 (wPrv k) = slotOff (sl 2 (k + 1)) :=
  below8 (P := fun k => 1 ≤ k → k0_off36 (wPrv k) = slotOff (sl 2 (k + 1))) (by decide) k hk h1
theorem blk_cur : ∀ k, k < 8 → k0_off8 (wIdx k) = blkOff (bk 8 k) := below8 (by decide)
theorem blk_nxt : ∀ k, k < 8 → k0_off5 (wIdx k) = blkOff (bk 8 (k + 1)) := below8 (by decide)
theorem blk_prv (k : ℕ) (h1 : 1 ≤ k) (hk : k < 8) : k0_off35 (wIdx k) = blkOff (bk 8 (k - 1)) :=
  below8 (P := fun k => 1 ≤ k → k0_off35 (wIdx k) = blkOff (bk 8 (k - 1))) (by decide) k hk h1

theorem off3 (k : ℕ) (hk : k < 8) : k0_off3 (wIss k) = semOff (sl 2 (k + 1)) := sem_iss k hk
theorem off66 (k : ℕ) (hk : k < 8) : k0_off66 (wIss k) = semOff (sl 2 (k + 1)) := sem_iss k hk
theorem off6 (k : ℕ) (hk : k < 8) : k0_off6 (wCur k) = semOff (sl 2 (k)) := sem_cur k hk
theorem off19 (k : ℕ) (hk : k < 8) : k0_off19 (wCur k) = semOff (sl 2 (k)) := sem_cur k hk
theorem off22 (k : ℕ) (hk : k < 8) : k0_off22 (wCur k) = semOff (sl 2 (k)) := sem_cur k hk
theorem off25 (k : ℕ) (hk : k < 8) : k0_off25 (wCur k) = semOff (sl 2 (k)) := sem_cur k hk
theorem off28 (k : ℕ) (hk : k < 8) : k0_off28 (wCur k) = semOff (sl 2 (k)) := sem_cur k hk
theorem off31 (k : ℕ) (hk : k < 8) : k0_off31 (wCur k) = semOff (sl 2 (k)) := sem_cur k hk
theorem off69 (k : ℕ) (hk : k < 8) : k0_off69 (wCur k) = semOff (sl 2 (k)) := sem_cur k hk
theorem off76 (k : ℕ) (hk : k < 8) : k0_off76 (wCur k) = semOff (sl 2 (k)) := sem_cur k hk
theorem off34 (k : ℕ) (h1 : 1 ≤ k) (hk : k < 8) : k0_off34 (wPrv k) = semOff (sl 2 (k + 1)) := sem_prv k h1 hk
theorem off37 (k : ℕ) (h1 : 1 ≤ k) (hk : k < 8) : k0_off37 (wPrv k) = semOff (sl 2 (k + 1)) := sem_prv k h1 hk
theorem off40 (k : ℕ) (h1 : 1 ≤ k) (hk : k < 8) : k0_off40 (wPrv k) = semOff (sl 2 (k + 1)) := sem_prv k h1 hk
theorem off43 (k : ℕ) (h1 : 1 ≤ k) (hk : k < 8) : k0_off43 (wPrv k) = semOff (sl 2 (k + 1)) := sem_prv k h1 hk
theorem off46 (k : ℕ) (h1 : 1 ≤ k) (hk : k < 8) : k0_off46 (wPrv k) = semOff (sl 2 (k + 1)) := sem_prv k h1 hk
theorem off79 (k : ℕ) (h1 : 1 ≤ k) (hk : k < 8) : k0_off79 (wPrv k) = semOff (sl 2 (k + 1)) := sem_prv k h1 hk
theorem off4 (k : ℕ) (hk : k < 8) : k0_off4 (wIss k) = slotOff (sl 2 (k + 1)) := slot_iss k hk
theorem off67 (k : ℕ) (hk : k < 8) : k0_off67 (wIss k) = slotOff (sl 2 (k + 1)) := slot_iss k hk
theorem off7 (k : ℕ) (hk : k < 8) : k0_off7 (wCur k) = slotOff (sl 2 (k)) := slot_cur k hk
theorem off70 (k : ℕ) (hk : k < 8) : k0_off70 (wCur k) = slotOff (sl 2 (k)) := slot_cur k hk
theorem off78 (k : ℕ) (hk : k < 8) : k0_off78 (wCur k) = slotOff (sl 2 (k)) := slot_cur k hk
theorem off81 (k : ℕ) (h1 : 1 ≤ k) (hk : k < 8) : k0_off81 (wPrv k) = slotOff (sl 2 (k + 1)) := slot_prv k h1 hk
theorem off21 (k : ℕ) (hk : k < 8) : k0_off21 (wCur k) = slotOff (sl 2 (k)) := slot_cur k hk
theorem off24 (k : ℕ) (hk : k < 8) : k0_off24 (wCur k) = slotOff (sl 2 (k)) := slot_cur k hk
theorem off27 (k : ℕ) (hk : k < 8) : k0_off27 (wCur k) = slotOff (sl 2 (k)) := slot_cur k hk
theorem off30 (k : ℕ) (hk : k < 8) : k0_off30 (wCur k) = slotOff (sl 2 (k)) := slot_cur k hk
theorem off33 (k : ℕ) (hk : k < 8) : k0_off33 (wCur k) = slotOff (sl 2 (k)) := slot_cur k hk
theorem off36 (k : ℕ) (h1 : 1 ≤ k) (hk : k < 8) : k0_off36 (wPrv k) = slotOff (sl 2 (k + 1)) := slot_prv k h1 hk
theorem off39 (k : ℕ) (h1 : 1 ≤ k) (hk : k < 8) : k0_off39 (wPrv k) = slotOff (sl 2 (k + 1)) := slot_prv k h1 hk
theorem off42 (k : ℕ) (h1 : 1 ≤ k) (hk : k < 8) : k0_off42 (wPrv k) = slotOff (sl 2 (k + 1)) := slot_prv k h1 hk
theorem off45 (k : ℕ) (h1 : 1 ≤ k) (hk : k < 8) : k0_off45 (wPrv k) = slotOff (sl 2 (k + 1)) := slot_prv k h1 hk
theorem off48 (k : ℕ) (h1 : 1 ≤ k) (hk : k < 8) : k0_off48 (wPrv k) = slotOff (sl 2 (k + 1)) := slot_prv k h1 hk
theorem off5 (k : ℕ) (hk : k < 8) : k0_off5 (wIdx k) = blkOff (bk 8 (k + 1)) := blk_nxt k hk
theorem off68 (k : ℕ) (hk : k < 8) : k0_off68 (wIdx k) = blkOff (bk 8 (k + 1)) := blk_nxt k hk
theorem off8 (k : ℕ) (hk : k < 8) : k0_off8 (wIdx k) = blkOff (bk 8 (k)) := blk_cur k hk
theorem off71 (k : ℕ) (hk : k < 8) : k0_off71 (wIdx k) = blkOff (bk 8 (k)) := blk_cur k hk
theorem off77 (k : ℕ) (hk : k < 8) : k0_off77 (wIdx k) = blkOff (bk 8 (k)) := blk_cur k hk
theorem off80 (k : ℕ) (h1 : 1 ≤ k) (hk : k < 8) : k0_off80 (wIdx k) = blkOff (bk 8 (k - 1)) := blk_prv k h1 hk
theorem off20 (k : ℕ) (hk : k < 8) : k0_off20 (wIdx k) = blkOff (bk 8 (k)) := blk_cur k hk
theorem off23 (k : ℕ) (hk : k < 8) : k0_off23 (wIdx k) = blkOff (bk 8 (k)) := blk_cur k hk
theorem off26 (k : ℕ) (hk : k < 8) : k0_off26 (wIdx k) = blkOff (bk 8 (k)) := blk_cur k hk
theorem off29 (k : ℕ) (hk : k < 8) : k0_off29 (wIdx k) = blkOff (bk 8 (k)) := blk_cur k hk
theorem off32 (k : ℕ) (hk : k < 8) : k0_off32 (wIdx k) = blkOff (bk 8 (k)) := blk_cur k hk
theorem off35 (k : ℕ) (h1 : 1 ≤ k) (hk : k < 8) : k0_off35 (wIdx k) = blkOff (bk 8 (k - 1)) := blk_prv k h1 hk
theorem off38 (k : ℕ) (h1 : 1 ≤ k) (hk : k < 8) : k0_off38 (wIdx k) = blkOff (bk 8 (k - 1)) := blk_prv k h1 hk
theorem off41 (k : ℕ) (h1 : 1 ≤ k) (hk : k < 8) : k0_off41 (wIdx k) = blkOff (bk 8 (k - 1)) := blk_prv k h1 hk
theorem off44 (k : ℕ) (h1 : 1 ≤ k) (hk : k < 8) : k0_off44 (wIdx k) = blkOff (bk 8 (k - 1)) := blk_prv k h1 hk
theorem off47 (k : ℕ) (h1 : 1 ≤ k) (hk : k < 8) : k0_off47 (wIdx k) = blkOff (bk 8 (k - 1)) := blk_prv k h1 hk

@[sl_canon] theorem cell3 (S : DmaSems sig S2) (k : ℕ) (hk : k < 8) (hh) :
    (S.slice (Rect.unit (s := S2) (k0_off3 (wIss k)) S1.size hh)).squeeze S_ squeezes_S1_S_ = csm S (sl 2 (k + 1)) := csm_congr S (off3 k hk) _
@[sl_canon] theorem cell66 (S : DmaSems sig S2) (k : ℕ) (hk : k < 8) (hh) :
    (S.slice (Rect.unit (s := S2) (k0_off66 (wIss k)) S1.size hh)).squeeze S_ squeezes_S1_S_ = csm S (sl 2 (k + 1)) := csm_congr S (off66 k hk) _
@[sl_canon] theorem cell6 (S : DmaSems sig S2) (k : ℕ) (hk : k < 8) (hh) :
    (S.slice (Rect.unit (s := S2) (k0_off6 (wCur k)) S1.size hh)).squeeze S_ squeezes_S1_S_ = csm S (sl 2 (k)) := csm_congr S (off6 k hk) _
@[sl_canon] theorem cell19 (S : DmaSems sig S2) (k : ℕ) (hk : k < 8) (hh) :
    (S.slice (Rect.unit (s := S2) (k0_off19 (wCur k)) S1.size hh)).squeeze S_ squeezes_S1_S_ = csm S (sl 2 (k)) := csm_congr S (off19 k hk) _
@[sl_canon] theorem cell22 (S : DmaSems sig S2) (k : ℕ) (hk : k < 8) (hh) :
    (S.slice (Rect.unit (s := S2) (k0_off22 (wCur k)) S1.size hh)).squeeze S_ squeezes_S1_S_ = csm S (sl 2 (k)) := csm_congr S (off22 k hk) _
@[sl_canon] theorem cell25 (S : DmaSems sig S2) (k : ℕ) (hk : k < 8) (hh) :
    (S.slice (Rect.unit (s := S2) (k0_off25 (wCur k)) S1.size hh)).squeeze S_ squeezes_S1_S_ = csm S (sl 2 (k)) := csm_congr S (off25 k hk) _
@[sl_canon] theorem cell28 (S : DmaSems sig S2) (k : ℕ) (hk : k < 8) (hh) :
    (S.slice (Rect.unit (s := S2) (k0_off28 (wCur k)) S1.size hh)).squeeze S_ squeezes_S1_S_ = csm S (sl 2 (k)) := csm_congr S (off28 k hk) _
@[sl_canon] theorem cell31 (S : DmaSems sig S2) (k : ℕ) (hk : k < 8) (hh) :
    (S.slice (Rect.unit (s := S2) (k0_off31 (wCur k)) S1.size hh)).squeeze S_ squeezes_S1_S_ = csm S (sl 2 (k)) := csm_congr S (off31 k hk) _
@[sl_canon] theorem cell69 (S : DmaSems sig S2) (k : ℕ) (hk : k < 8) (hh) :
    (S.slice (Rect.unit (s := S2) (k0_off69 (wCur k)) S1.size hh)).squeeze S_ squeezes_S1_S_ = csm S (sl 2 (k)) := csm_congr S (off69 k hk) _
@[sl_canon] theorem cell76 (S : DmaSems sig S2) (k : ℕ) (hk : k < 8) (hh) :
    (S.slice (Rect.unit (s := S2) (k0_off76 (wCur k)) S1.size hh)).squeeze S_ squeezes_S1_S_ = csm S (sl 2 (k)) := csm_congr S (off76 k hk) _
@[sl_canon] theorem cell34 (S : DmaSems sig S2) (k : ℕ) (h1 : 1 ≤ k) (hk : k < 8) (hh) :
    (S.slice (Rect.unit (s := S2) (k0_off34 (wPrv k)) S1.size hh)).squeeze S_ squeezes_S1_S_ = csm S (sl 2 (k + 1)) := csm_congr S (off34 k h1 hk) _
@[sl_canon] theorem cell37 (S : DmaSems sig S2) (k : ℕ) (h1 : 1 ≤ k) (hk : k < 8) (hh) :
    (S.slice (Rect.unit (s := S2) (k0_off37 (wPrv k)) S1.size hh)).squeeze S_ squeezes_S1_S_ = csm S (sl 2 (k + 1)) := csm_congr S (off37 k h1 hk) _
@[sl_canon] theorem cell40 (S : DmaSems sig S2) (k : ℕ) (h1 : 1 ≤ k) (hk : k < 8) (hh) :
    (S.slice (Rect.unit (s := S2) (k0_off40 (wPrv k)) S1.size hh)).squeeze S_ squeezes_S1_S_ = csm S (sl 2 (k + 1)) := csm_congr S (off40 k h1 hk) _
@[sl_canon] theorem cell43 (S : DmaSems sig S2) (k : ℕ) (h1 : 1 ≤ k) (hk : k < 8) (hh) :
    (S.slice (Rect.unit (s := S2) (k0_off43 (wPrv k)) S1.size hh)).squeeze S_ squeezes_S1_S_ = csm S (sl 2 (k + 1)) := csm_congr S (off43 k h1 hk) _
@[sl_canon] theorem cell46 (S : DmaSems sig S2) (k : ℕ) (h1 : 1 ≤ k) (hk : k < 8) (hh) :
    (S.slice (Rect.unit (s := S2) (k0_off46 (wPrv k)) S1.size hh)).squeeze S_ squeezes_S1_S_ = csm S (sl 2 (k + 1)) := csm_congr S (off46 k h1 hk) _
@[sl_canon] theorem cell79 (S : DmaSems sig S2) (k : ℕ) (h1 : 1 ≤ k) (hk : k < 8) (hh) :
    (S.slice (Rect.unit (s := S2) (k0_off79 (wPrv k)) S1.size hh)).squeeze S_ squeezes_S1_S_ = csm S (sl 2 (k + 1)) := csm_congr S (off79 k h1 hk) _
@[sl_canon] theorem slot4 (M : Memref sig .tc .vmem S2x512x4096 .f32) (k : ℕ) (hk : k < 8) (hh hs) :
    (M.slice (Rect.unit (s := S2x512x4096) (k0_off4 (wIss k)) S1x512x4096.size hh) hs).squeeze S512x4096 squeezes_S1x512x4096_S512x4096 = slotW M (sl 2 (k + 1)) := slotW_congr M (off4 k hk) _ _
@[sl_canon] theorem slot67 (M : Memref sig .tc .vmem S2x512x4096 .f32) (k : ℕ) (hk : k < 8) (hh hs) :
    (M.slice (Rect.unit (s := S2x512x4096) (k0_off67 (wIss k)) S1x512x4096.size hh) hs).squeeze S512x4096 squeezes_S1x512x4096_S512x4096 = slotW M (sl 2 (k + 1)) := slotW_congr M (off67 k hk) _ _
@[sl_canon] theorem slot7 (M : Memref sig .tc .vmem S2x512x4096 .f32) (k : ℕ) (hk : k < 8) (hh hs) :
    (M.slice (Rect.unit (s := S2x512x4096) (k0_off7 (wCur k)) S1x512x4096.size hh) hs).squeeze S512x4096 squeezes_S1x512x4096_S512x4096 = slotW M (sl 2 (k)) := slotW_congr M (off7 k hk) _ _
@[sl_canon] theorem slot70 (M : Memref sig .tc .vmem S2x512x4096 .f32) (k : ℕ) (hk : k < 8) (hh hs) :
    (M.slice (Rect.unit (s := S2x512x4096) (k0_off70 (wCur k)) S1x512x4096.size hh) hs).squeeze S512x4096 squeezes_S1x512x4096_S512x4096 = slotW M (sl 2 (k)) := slotW_congr M (off70 k hk) _ _
@[sl_canon] theorem slot78 (M : Memref sig .tc .vmem S2x512x4096 .f32) (k : ℕ) (hk : k < 8) (hh hs) :
    (M.slice (Rect.unit (s := S2x512x4096) (k0_off78 (wCur k)) S1x512x4096.size hh) hs).squeeze S512x4096 squeezes_S1x512x4096_S512x4096 = slotW M (sl 2 (k)) := slotW_congr M (off78 k hk) _ _
@[sl_canon] theorem slot81 (M : Memref sig .tc .vmem S2x512x4096 .f32) (k : ℕ) (h1 : 1 ≤ k) (hk : k < 8) (hh hs) :
    (M.slice (Rect.unit (s := S2x512x4096) (k0_off81 (wPrv k)) S1x512x4096.size hh) hs).squeeze S512x4096 squeezes_S1x512x4096_S512x4096 = slotW M (sl 2 (k + 1)) := slotW_congr M (off81 k h1 hk) _ _
@[sl_canon] theorem slot21 (M : Memref sig .tc .vmem S2x512x128 .f32) (k : ℕ) (hk : k < 8) (hh hs) :
    (M.slice (Rect.unit (s := S2x512x128) (k0_off21 (wCur k)) S1x512x128.size hh) hs).squeeze S512x128 squeezes_S1x512x128_S512x128 = slotN M (sl 2 (k)) := slotN_congr M (off21 k hk) _ _
@[sl_canon] theorem slot24 (M : Memref sig .tc .vmem S2x512x128 .f32) (k : ℕ) (hk : k < 8) (hh hs) :
    (M.slice (Rect.unit (s := S2x512x128) (k0_off24 (wCur k)) S1x512x128.size hh) hs).squeeze S512x128 squeezes_S1x512x128_S512x128 = slotN M (sl 2 (k)) := slotN_congr M (off24 k hk) _ _
@[sl_canon] theorem slot27 (M : Memref sig .tc .vmem S2x512x128 .f32) (k : ℕ) (hk : k < 8) (hh hs) :
    (M.slice (Rect.unit (s := S2x512x128) (k0_off27 (wCur k)) S1x512x128.size hh) hs).squeeze S512x128 squeezes_S1x512x128_S512x128 = slotN M (sl 2 (k)) := slotN_congr M (off27 k hk) _ _
@[sl_canon] theorem slot30 (M : Memref sig .tc .vmem S2x512x128 .f32) (k : ℕ) (hk : k < 8) (hh hs) :
    (M.slice (Rect.unit (s := S2x512x128) (k0_off30 (wCur k)) S1x512x128.size hh) hs).squeeze S512x128 squeezes_S1x512x128_S512x128 = slotN M (sl 2 (k)) := slotN_congr M (off30 k hk) _ _
@[sl_canon] theorem slot33 (M : Memref sig .tc .vmem S2x512x128 .f32) (k : ℕ) (hk : k < 8) (hh hs) :
    (M.slice (Rect.unit (s := S2x512x128) (k0_off33 (wCur k)) S1x512x128.size hh) hs).squeeze S512x128 squeezes_S1x512x128_S512x128 = slotN M (sl 2 (k)) := slotN_congr M (off33 k hk) _ _
@[sl_canon] theorem slot36 (M : Memref sig .tc .vmem S2x512x128 .f32) (k : ℕ) (h1 : 1 ≤ k) (hk : k < 8) (hh hs) :
    (M.slice (Rect.unit (s := S2x512x128) (k0_off36 (wPrv k)) S1x512x128.size hh) hs).squeeze S512x128 squeezes_S1x512x128_S512x128 = slotN M (sl 2 (k + 1)) := slotN_congr M (off36 k h1 hk) _ _
@[sl_canon] theorem slot39 (M : Memref sig .tc .vmem S2x512x128 .f32) (k : ℕ) (h1 : 1 ≤ k) (hk : k < 8) (hh hs) :
    (M.slice (Rect.unit (s := S2x512x128) (k0_off39 (wPrv k)) S1x512x128.size hh) hs).squeeze S512x128 squeezes_S1x512x128_S512x128 = slotN M (sl 2 (k + 1)) := slotN_congr M (off39 k h1 hk) _ _
@[sl_canon] theorem slot42 (M : Memref sig .tc .vmem S2x512x128 .f32) (k : ℕ) (h1 : 1 ≤ k) (hk : k < 8) (hh hs) :
    (M.slice (Rect.unit (s := S2x512x128) (k0_off42 (wPrv k)) S1x512x128.size hh) hs).squeeze S512x128 squeezes_S1x512x128_S512x128 = slotN M (sl 2 (k + 1)) := slotN_congr M (off42 k h1 hk) _ _
@[sl_canon] theorem slot45 (M : Memref sig .tc .vmem S2x512x128 .f32) (k : ℕ) (h1 : 1 ≤ k) (hk : k < 8) (hh hs) :
    (M.slice (Rect.unit (s := S2x512x128) (k0_off45 (wPrv k)) S1x512x128.size hh) hs).squeeze S512x128 squeezes_S1x512x128_S512x128 = slotN M (sl 2 (k + 1)) := slotN_congr M (off45 k h1 hk) _ _
@[sl_canon] theorem slot48 (M : Memref sig .tc .vmem S2x512x128 .f32) (k : ℕ) (h1 : 1 ≤ k) (hk : k < 8) (hh hs) :
    (M.slice (Rect.unit (s := S2x512x128) (k0_off48 (wPrv k)) S1x512x128.size hh) hs).squeeze S512x128 squeezes_S1x512x128_S512x128 = slotN M (sl 2 (k + 1)) := slotN_congr M (off48 k h1 hk) _ _
@[sl_canon] theorem blk5 (A : Memref sig .tc .hbm S4096x4096 .f32) (k : ℕ) (hk : k < 8) (hh hs) :
    A.slice (Rect.unit (s := S4096x4096) (k0_off5 (wIdx k)) S512x4096.size hh) hs = blkW A (bk 8 (k + 1)) := blkW_congr A (off5 k hk) _ _
@[sl_canon] theorem blk68 (A : Memref sig .tc .hbm S4096x4096 .f32) (k : ℕ) (hk : k < 8) (hh hs) :
    A.slice (Rect.unit (s := S4096x4096) (k0_off68 (wIdx k)) S512x4096.size hh) hs = blkW A (bk 8 (k + 1)) := blkW_congr A (off68 k hk) _ _
@[sl_canon] theorem blk8 (A : Memref sig .tc .hbm S4096x4096 .f32) (k : ℕ) (hk : k < 8) (hh hs) :
    A.slice (Rect.unit (s := S4096x4096) (k0_off8 (wIdx k)) S512x4096.size hh) hs = blkW A (bk 8 (k)) := blkW_congr A (off8 k hk) _ _
@[sl_canon] theorem blk71 (A : Memref sig .tc .hbm S4096x4096 .f32) (k : ℕ) (hk : k < 8) (hh hs) :
    A.slice (Rect.unit (s := S4096x4096) (k0_off71 (wIdx k)) S512x4096.size hh) hs = blkW A (bk 8 (k)) := blkW_congr A (off71 k hk) _ _
@[sl_canon] theorem blk77 (A : Memref sig .tc .hbm S4096x4096 .f32) (k : ℕ) (hk : k < 8) (hh hs) :
    A.slice (Rect.unit (s := S4096x4096) (k0_off77 (wIdx k)) S512x4096.size hh) hs = blkW A (bk 8 (k)) := blkW_congr A (off77 k hk) _ _
@[sl_canon] theorem blk80 (A : Memref sig .tc .hbm S4096x4096 .f32) (k : ℕ) (h1 : 1 ≤ k) (hk : k < 8) (hh hs) :
    A.slice (Rect.unit (s := S4096x4096) (k0_off80 (wIdx k)) S512x4096.size hh) hs = blkW A (bk 8 (k - 1)) := blkW_congr A (off80 k h1 hk) _ _
@[sl_canon] theorem blk20 (A : Memref sig .tc .hbm S4096x128 .f32) (k : ℕ) (hk : k < 8) (hh hs) :
    A.slice (Rect.unit (s := S4096x128) (k0_off20 (wIdx k)) S512x128.size hh) hs = blkN A (bk 8 (k)) := blkN_congr A (off20 k hk) _ _
@[sl_canon] theorem blk23 (A : Memref sig .tc .hbm S4096x128 .f32) (k : ℕ) (hk : k < 8) (hh hs) :
    A.slice (Rect.unit (s := S4096x128) (k0_off23 (wIdx k)) S512x128.size hh) hs = blkN A (bk 8 (k)) := blkN_congr A (off23 k hk) _ _
@[sl_canon] theorem blk26 (A : Memref sig .tc .hbm S4096x128 .f32) (k : ℕ) (hk : k < 8) (hh hs) :
    A.slice (Rect.unit (s := S4096x128) (k0_off26 (wIdx k)) S512x128.size hh) hs = blkN A (bk 8 (k)) := blkN_congr A (off26 k hk) _ _
@[sl_canon] theorem blk29 (A : Memref sig .tc .hbm S4096x128 .f32) (k : ℕ) (hk : k < 8) (hh hs) :
    A.slice (Rect.unit (s := S4096x128) (k0_off29 (wIdx k)) S512x128.size hh) hs = blkN A (bk 8 (k)) := blkN_congr A (off29 k hk) _ _
@[sl_canon] theorem blk32 (A : Memref sig .tc .hbm S4096x128 .f32) (k : ℕ) (hk : k < 8) (hh hs) :
    A.slice (Rect.unit (s := S4096x128) (k0_off32 (wIdx k)) S512x128.size hh) hs = blkN A (bk 8 (k)) := blkN_congr A (off32 k hk) _ _
@[sl_canon] theorem blk35 (A : Memref sig .tc .hbm S4096x128 .f32) (k : ℕ) (h1 : 1 ≤ k) (hk : k < 8) (hh hs) :
    A.slice (Rect.unit (s := S4096x128) (k0_off35 (wIdx k)) S512x128.size hh) hs = blkN A (bk 8 (k - 1)) := blkN_congr A (off35 k h1 hk) _ _
@[sl_canon] theorem blk38 (A : Memref sig .tc .hbm S4096x128 .f32) (k : ℕ) (h1 : 1 ≤ k) (hk : k < 8) (hh hs) :
    A.slice (Rect.unit (s := S4096x128) (k0_off38 (wIdx k)) S512x128.size hh) hs = blkN A (bk 8 (k - 1)) := blkN_congr A (off38 k h1 hk) _ _
@[sl_canon] theorem blk41 (A : Memref sig .tc .hbm S4096x128 .f32) (k : ℕ) (h1 : 1 ≤ k) (hk : k < 8) (hh hs) :
    A.slice (Rect.unit (s := S4096x128) (k0_off41 (wIdx k)) S512x128.size hh) hs = blkN A (bk 8 (k - 1)) := blkN_congr A (off41 k h1 hk) _ _
@[sl_canon] theorem blk44 (A : Memref sig .tc .hbm S4096x128 .f32) (k : ℕ) (h1 : 1 ≤ k) (hk : k < 8) (hh hs) :
    A.slice (Rect.unit (s := S4096x128) (k0_off44 (wIdx k)) S512x128.size hh) hs = blkN A (bk 8 (k - 1)) := blkN_congr A (off44 k h1 hk) _ _
@[sl_canon] theorem blk47 (A : Memref sig .tc .hbm S4096x128 .f32) (k : ℕ) (h1 : 1 ≤ k) (hk : k < 8) (hh hs) :
    A.slice (Rect.unit (s := S4096x128) (k0_off47 (wIdx k)) S512x128.size hh) hs = blkN A (bk 8 (k - 1)) := blkN_congr A (off47 k h1 hk) _ _

/-! ## Before the loops: block 0 goes into slot 0 -/

@[sl_canon] theorem cell1 (S : DmaSems sig S2) (hh) :
    (S.slice (Rect.unit (s := S2) k0_off1 S1.size hh)).squeeze S_ squeezes_S1_S_ = csm S (sl 2 0) := csm_congr S (by decide) _
@[sl_canon] theorem cell64 (S : DmaSems sig S2) (hh) :
    (S.slice (Rect.unit (s := S2) k0_off64 S1.size hh)).squeeze S_ squeezes_S1_S_ = csm S (sl 2 0) := csm_congr S (by decide) _
@[sl_canon] theorem slot2 (M : Memref sig .tc .vmem S2x512x4096 .f32) (hh hs) :
    (M.slice (Rect.unit (s := S2x512x4096) k0_off2 S1x512x4096.size hh) hs).squeeze S512x4096 squeezes_S1x512x4096_S512x4096 = slotW M (sl 2 0) := slotW_congr M (by decide) _ _
@[sl_canon] theorem slot65 (M : Memref sig .tc .vmem S2x512x4096 .f32) (hh hs) :
    (M.slice (Rect.unit (s := S2x512x4096) k0_off65 S1x512x4096.size hh) hs).squeeze S512x4096 squeezes_S1x512x4096_S512x4096 = slotW M (sl 2 0) := slotW_congr M (by decide) _ _
@[sl_canon] theorem blk0 (A : Memref sig .tc .hbm S4096x4096 .f32) (hh hs) :
    A.slice (Rect.unit (s := S4096x4096) ![0, 0] S512x4096.size hh) hs = blkW A (bk 8 0) := blkW_congr A (by decide) _ _

/-! ## After the loops: the last writes, of block 7 from slot 1, are waited for -/

@[sl_canon] theorem cell49 (S : DmaSems sig S2) (hh) :
    (S.slice (Rect.unit (s := S2) (k0_off49 (wPrv 8)) S1.size hh)).squeeze S_ squeezes_S1_S_ = csm S (sl 2 (8 + 1)) := csm_congr S (by decide) _
@[sl_canon] theorem cell52 (S : DmaSems sig S2) (hh) :
    (S.slice (Rect.unit (s := S2) (k0_off52 (wPrv 8)) S1.size hh)).squeeze S_ squeezes_S1_S_ = csm S (sl 2 (8 + 1)) := csm_congr S (by decide) _
@[sl_canon] theorem cell55 (S : DmaSems sig S2) (hh) :
    (S.slice (Rect.unit (s := S2) (k0_off55 (wPrv 8)) S1.size hh)).squeeze S_ squeezes_S1_S_ = csm S (sl 2 (8 + 1)) := csm_congr S (by decide) _
@[sl_canon] theorem cell58 (S : DmaSems sig S2) (hh) :
    (S.slice (Rect.unit (s := S2) (k0_off58 (wPrv 8)) S1.size hh)).squeeze S_ squeezes_S1_S_ = csm S (sl 2 (8 + 1)) := csm_congr S (by decide) _
@[sl_canon] theorem cell61 (S : DmaSems sig S2) (hh) :
    (S.slice (Rect.unit (s := S2) (k0_off61 (wPrv 8)) S1.size hh)).squeeze S_ squeezes_S1_S_ = csm S (sl 2 (8 + 1)) := csm_congr S (by decide) _
@[sl_canon] theorem cell82 (S : DmaSems sig S2) (hh) :
    (S.slice (Rect.unit (s := S2) (k0_off82 (wPrv 8)) S1.size hh)).squeeze S_ squeezes_S1_S_ = csm S (sl 2 (8 + 1)) := csm_congr S (by decide) _
@[sl_canon] theorem slot51 (M : Memref sig .tc .vmem S2x512x128 .f32) (hh hs) :
    (M.slice (Rect.unit (s := S2x512x128) (k0_off51 (wPrv 8)) S1x512x128.size hh) hs).squeeze S512x128 squeezes_S1x512x128_S512x128 = slotN M (sl 2 (8 + 1)) := slotN_congr M (by decide) _ _
@[sl_canon] theorem slot54 (M : Memref sig .tc .vmem S2x512x128 .f32) (hh hs) :
    (M.slice (Rect.unit (s := S2x512x128) (k0_off54 (wPrv 8)) S1x512x128.size hh) hs).squeeze S512x128 squeezes_S1x512x128_S512x128 = slotN M (sl 2 (8 + 1)) := slotN_congr M (by decide) _ _
@[sl_canon] theorem slot57 (M : Memref sig .tc .vmem S2x512x128 .f32) (hh hs) :
    (M.slice (Rect.unit (s := S2x512x128) (k0_off57 (wPrv 8)) S1x512x128.size hh) hs).squeeze S512x128 squeezes_S1x512x128_S512x128 = slotN M (sl 2 (8 + 1)) := slotN_congr M (by decide) _ _
@[sl_canon] theorem slot60 (M : Memref sig .tc .vmem S2x512x128 .f32) (hh hs) :
    (M.slice (Rect.unit (s := S2x512x128) (k0_off60 (wPrv 8)) S1x512x128.size hh) hs).squeeze S512x128 squeezes_S1x512x128_S512x128 = slotN M (sl 2 (8 + 1)) := slotN_congr M (by decide) _ _
@[sl_canon] theorem slot63 (M : Memref sig .tc .vmem S2x512x128 .f32) (hh hs) :
    (M.slice (Rect.unit (s := S2x512x128) (k0_off63 (wPrv 8)) S1x512x128.size hh) hs).squeeze S512x128 squeezes_S1x512x128_S512x128 = slotN M (sl 2 (8 + 1)) := slotN_congr M (by decide) _ _
@[sl_canon] theorem slot84 (M : Memref sig .tc .vmem S2x512x4096 .f32) (hh hs) :
    (M.slice (Rect.unit (s := S2x512x4096) (k0_off84 (wPrv 8)) S1x512x4096.size hh) hs).squeeze S512x4096 squeezes_S1x512x4096_S512x4096 = slotW M (sl 2 (8 + 1)) := slotW_congr M (by decide) _ _
@[sl_canon] theorem blk50 (A : Memref sig .tc .hbm S4096x128 .f32) (hh hs) :
    A.slice (Rect.unit (s := S4096x128) (k0_off50 (wIdx 8)) S512x128.size hh) hs = blkN A (bk 8 (8 - 1)) := blkN_congr A (by decide) _ _
@[sl_canon] theorem blk53 (A : Memref sig .tc .hbm S4096x128 .f32) (hh hs) :
    A.slice (Rect.unit (s := S4096x128) (k0_off53 (wIdx 8)) S512x128.size hh) hs = blkN A (bk 8 (8 - 1)) := blkN_congr A (by decide) _ _
@[sl_canon] theorem blk56 (A : Memref sig .tc .hbm S4096x128 .f32) (hh hs) :
    A.slice (Rect.unit (s := S4096x128) (k0_off56 (wIdx 8)) S512x128.size hh) hs = blkN A (bk 8 (8 - 1)) := blkN_congr A (by decide) _ _
@[sl_canon] theorem blk59 (A : Memref sig .tc .hbm S4096x128 .f32) (hh hs) :
    A.slice (Rect.unit (s := S4096x128) (k0_off59 (wIdx 8)) S512x128.size hh) hs = blkN A (bk 8 (8 - 1)) := blkN_congr A (by decide) _ _
@[sl_canon] theorem blk62 (A : Memref sig .tc .hbm S4096x128 .f32) (hh hs) :
    A.slice (Rect.unit (s := S4096x128) (k0_off62 (wIdx 8)) S512x128.size hh) hs = blkN A (bk 8 (8 - 1)) := blkN_congr A (by decide) _ _
@[sl_canon] theorem blk83 (A : Memref sig .tc .hbm S4096x4096 .f32) (hh hs) :
    A.slice (Rect.unit (s := S4096x4096) (k0_off83 (wIdx 8)) S512x4096.size hh) hs = blkW A (bk 8 (8 - 1)) := blkW_congr A (by decide) _ _

/-! ## The windows the trips load and store, in closed form -/

theorem row_cur : ∀ k, k < 8 → k0_off10 (wIdx k) = ![512 * k, 0] := below8 (by decide)
theorem col_cur : ∀ k, k < 8 → k0_off12 (wIdx k) = ![0, 512 * k] := below8 (by decide)
theorem trips1 : k0_t1_loop.trips = 8 := by decide
theorem trips2 : k0_t2_loop.trips = 8 := by decide
theorem lt1 (k : Fin k0_t1_loop.trips) : k.val < 8 := Nat.lt_of_lt_of_eq k.isLt trips1
theorem lt2 (k : Fin k0_t2_loop.trips) : k.val < 8 := Nat.lt_of_lt_of_eq k.isLt trips2

instance (k : Fin k0_t1_loop.trips) : ClosedOff (k0_off10 (wIdx k.val)) := ⟨![512 * k.val, 0], row_cur k.val (lt1 k)⟩
instance (k : Fin k0_t1_loop.trips) : ClosedOff (k0_off11 (wIdx k.val)) := ⟨![512 * k.val, 0], row_cur k.val (lt1 k)⟩
instance (k : Fin k0_t1_loop.trips) : ClosedOff (k0_off18 (wIdx k.val)) := ⟨![512 * k.val, 0], row_cur k.val (lt1 k)⟩
instance (k : Fin k0_t1_loop.trips) : ClosedOff (k0_off12 (wIdx k.val)) := ⟨![0, 512 * k.val], col_cur k.val (lt1 k)⟩
instance (k : Fin k0_t1_loop.trips) : ClosedOff (k0_off9 (wCur k.val)) := ⟨slotOff (sl 2 k.val), slot_cur k.val (lt1 k)⟩
instance (k : Fin k0_t1_loop.trips) : ClosedOff (k0_off13 (wCur k.val)) := ⟨slotOff (sl 2 k.val), slot_cur k.val (lt1 k)⟩
instance (k : Fin k0_t1_loop.trips) : ClosedOff (k0_off14 (wCur k.val)) := ⟨slotOff (sl 2 k.val), slot_cur k.val (lt1 k)⟩
instance (k : Fin k0_t1_loop.trips) : ClosedOff (k0_off15 (wCur k.val)) := ⟨slotOff (sl 2 k.val), slot_cur k.val (lt1 k)⟩
instance (k : Fin k0_t1_loop.trips) : ClosedOff (k0_off16 (wCur k.val)) := ⟨slotOff (sl 2 k.val), slot_cur k.val (lt1 k)⟩
instance (k : Fin k0_t1_loop.trips) : ClosedOff (k0_off17 (wCur k.val)) := ⟨slotOff (sl 2 k.val), slot_cur k.val (lt1 k)⟩
instance (k : Fin k0_t2_loop.trips) : ClosedOff (k0_off72 (wIdx k.val)) := ⟨![512 * k.val, 0], row_cur k.val (lt2 k)⟩
instance (k : Fin k0_t2_loop.trips) : ClosedOff (k0_off73 (wIdx k.val)) := ⟨![512 * k.val, 0], row_cur k.val (lt2 k)⟩
instance (k : Fin k0_t2_loop.trips) : ClosedOff (k0_off74 (wCur k.val)) := ⟨slotOff (sl 2 k.val), slot_cur k.val (lt2 k)⟩
instance (k : Fin k0_t2_loop.trips) : ClosedOff (k0_off75 (wCur k.val)) := ⟨slotOff (sl 2 k.val), slot_cur k.val (lt2 k)⟩

/-! ## What the branches decide, and the checks -/

theorem fetch1 (k : Fin k0_t1_loop.trips) (h : k.val + 1 < 8) : k0_cond1 k (wIdx k.val) = 1#1 := by revert k; decide
theorem nofetch1 (k : Fin k0_t1_loop.trips) (h : ¬k.val + 1 < 8) : ¬k0_cond1 k (wIdx k.val) = 1#1 := by revert k; decide
theorem always1 : ∀ k : Fin k0_t1_loop.trips, k0_cond2 k (wIdx k.val) = 1#1 ∧ k0_cond9 k (wIdx k.val) = 1#1 ∧ k0_cond10 k (wIdx k.val) = 1#1
    ∧ k0_cond11 k (wIdx k.val) = 1#1 ∧ k0_cond12 k (wIdx k.val) = 1#1 ∧ k0_cond13 k (wIdx k.val) = 1#1 := by decide
theorem drain1 : ∀ k : Fin k0_t1_loop.trips, 1 ≤ k.val → k0_cond15 k (wIdx k.val) = 1#1 ∧ k0_cond16 k (wIdx k.val) = 1#1
    ∧ k0_cond17 k (wIdx k.val) = 1#1 ∧ k0_cond18 k (wIdx k.val) = 1#1 ∧ k0_cond19 k (wIdx k.val) = 1#1 := by decide
theorem nodrain1 : ∀ k : Fin k0_t1_loop.trips, ¬1 ≤ k.val → ¬k0_cond15 k (wIdx k.val) = 1#1 ∧ ¬k0_cond16 k (wIdx k.val) = 1#1
    ∧ ¬k0_cond17 k (wIdx k.val) = 1#1 ∧ ¬k0_cond18 k (wIdx k.val) = 1#1 ∧ ¬k0_cond19 k (wIdx k.val) = 1#1 := by decide
theorem fetch2 : ∀ k : Fin k0_t2_loop.trips, k.val + 1 < 8 → k0_cond20 k (wIdx k.val) = 1#1 := by decide
theorem nofetch2 : ∀ k : Fin k0_t2_loop.trips, ¬k.val + 1 < 8 → ¬k0_cond20 k (wIdx k.val) = 1#1 := by decide
theorem always2 : ∀ k : Fin k0_t2_loop.trips, k0_cond21 k (wIdx k.val) = 1#1 ∧ k0_cond24 k (wIdx k.val) = 1#1 := by decide
theorem drain2 : ∀ k : Fin k0_t2_loop.trips, 1 ≤ k.val → k0_cond26 k (wIdx k.val) = 1#1 := by decide
theorem nodrain2 : ∀ k : Fin k0_t2_loop.trips, ¬1 ≤ k.val → ¬k0_cond26 k (wIdx k.val) = 1#1 := by decide

theorem chk1 : ∀ k : Fin k0_t1_loop.trips, k0_chk1 k (wIss k.val) (wCur k.val) (wCur k.val) (wPrv k.val) (wCur k.val) (wPrv k.val) (wCur k.val) (wPrv k.val)
    (wCur k.val) (wPrv k.val) (wCur k.val) (wPrv k.val) (wIdx k.val) := by decide
theorem chk2_7 : ∀ k : Fin k0_t1_loop.trips, k0_chk2 (wCur k.val) ∧ k0_chk3 (wCur k.val) ∧ k0_chk4 (wCur k.val) ∧ k0_chk5 (wCur k.val)
    ∧ k0_chk6 (wCur k.val) ∧ k0_chk7 (wCur k.val) := by decide
theorem chk8_13 : k0_chk8 (wPrv 8) ∧ k0_chk9 (wIdx 8) ∧ k0_chk10 (wPrv 8) ∧ k0_chk11 (wPrv 8) ∧ k0_chk12 (wPrv 8) ∧ k0_chk13 (wPrv 8) := by decide
theorem chk14 : ∀ k : Fin k0_t2_loop.trips, k0_chk14 k (wIss k.val) (wCur k.val) (wCur k.val) (wPrv k.val) (wIdx k.val) := by decide
theorem chk15_16 : ∀ k : Fin k0_t2_loop.trips, k0_chk15 (wCur k.val) ∧ k0_chk16 (wCur k.val) := by decide
theorem chk17_18 : k0_chk17 (wPrv 8) ∧ k0_chk18 (wIdx 8) := by decide

end Cert.Proof.Names

end
-- ==== Proof.Blocks.lean ====
module

public import proofs.«01_k».proof.Proof.Names
public import Idealize.ShloMosaic.Lib.VecWindow
public import Idealize.ShloMosaic.Lib.ValueIdxCore

/-! # Arrays read and written one row block at a time

An array of 4096 rows is eight blocks of 512 rows. `wide P` is the 4096 × 4096 array whose block `b` is `P b`;
`narrow P` the same at 128 columns. What a slot of a two-slot buffer reads after a block landed in it, and what
leaves it after the body stored a block in it, is the block itself. -/

@[expose] public section

noncomputable section

namespace Cert.Proof.Blocks

open Cert.KernelIdeal Cert.KernelIdeal.Gen Cert.Proof.Names
open Idealize.ShloMosaic Idealize.ShloMosaic.Ring Idealize.ShloMosaic.ValueIdx

variable {α : Type}

/-- The block a row lies in, and its row there. -/
abbrev blkOf (r : Fin 4096) : Fin 8 := ⟨r.val / 512, by have := r.isLt; omega⟩
abbrev inBlk (r : Fin 4096) : Fin 512 := ⟨r.val % 512, Nat.mod_lt _ (by decide)⟩

/-- The wide array of eight blocks. -/
def wide (P : Fin 8 → S512x4096.Idx → α) : S4096x4096.Idx → α :=
  fun i => P (blkOf (i 0)) (ix2 (inBlk (i 0)) (i 1))
/-- The narrow array of eight blocks. -/
def narrow (P : Fin 8 → S512x128.Idx → α) : S4096x128.Idx → α :=
  fun i => P (blkOf (i 0)) (ix2 (inBlk (i 0)) (i 1))

/-- Block `b` of an array. -/
abbrev winW (x : S4096x4096.Idx → α) (b : Fin 8) : S512x4096.Idx → α :=
  VecWindow.window x (blkOff b) S512x4096.size (blkW_inb b)
abbrev winN (x : S4096x128.Idx → α) (b : Fin 8) : S512x128.Idx → α :=
  VecWindow.window x (blkOff b) S512x128.size (blkN_inb b)
/-- Columns `512 b …` of a row. -/
abbrev winC (x : S1x4096.Idx → α) (b : Fin 8) : S1x512.Idx → α :=
  VecWindow.window x (colOff b) S1x512.size (col_inb b)

/-- The array's element at row `512 b + j₀` is block `b`'s at row `j₀`. -/
theorem wide_at (P : Fin 8 → S512x4096.Idx → α) (i : S4096x4096.Idx) (b : Fin 8) (j : S512x4096.Idx)
    (h0 : (i 0).val = 512 * b.val + (j 0).val) (h1 : (i 1).val = (j 1).val) : wide P i = P b j := by
  have hj0 : (j 0).val < 512 := (j 0).isLt
  have hb : blkOf (i 0) = b := Fin.ext (by show (i 0).val / 512 = b.val; omega)
  have hj : ix2 (inBlk (i 0)) (i 1) = j := by
    funext a
    match a with
    | ⟨0, _⟩ => exact Fin.ext (by show (i 0).val % 512 = (j 0).val; omega)
    | ⟨1, _⟩ => exact Fin.ext h1
  show P (blkOf (i 0)) (ix2 (inBlk (i 0)) (i 1)) = P b j
  rw [hb]
  exact congrArg (P b) hj

theorem winW_wide (P : Fin 8 → S512x4096.Idx → α) (b : Fin 8) : winW (wide P) b = P b :=
  funext fun j => wide_at P _ b j (by show 512 * b.val + 1 * (j 0).val = _; omega) (by show 0 + 1 * (j 1).val = _; omega)

/-- The array's element at row `512 b + j₀` is block `b`'s at row `j₀`. -/
theorem narrow_at (P : Fin 8 → S512x128.Idx → α) (i : S4096x128.Idx) (b : Fin 8) (j : S512x128.Idx)
    (h0 : (i 0).val = 512 * b.val + (j 0).val) (h1 : (i 1).val = (j 1).val) : narrow P i = P b j := by
  have hj0 : (j 0).val < 512 := (j 0).isLt
  have hb : blkOf (i 0) = b := Fin.ext (by show (i 0).val / 512 = b.val; omega)
  have hj : ix2 (inBlk (i 0)) (i 1) = j := by
    funext a
    match a with
    | ⟨0, _⟩ => exact Fin.ext (by show (i 0).val % 512 = (j 0).val; omega)
    | ⟨1, _⟩ => exact Fin.ext h1
  show P (blkOf (i 0)) (ix2 (inBlk (i 0)) (i 1)) = P b j
  rw [hb]
  exact congrArg (P b) hj

theorem winN_narrow (P : Fin 8 → S512x128.Idx → α) (b : Fin 8) : winN (narrow P) b = P b :=
  funext fun j => narrow_at P _ b j (by show 512 * b.val + 1 * (j 0).val = _; omega) (by show 0 + 1 * (j 1).val = _; omega)

section Views

variable {Val : EltTy → Type}

/-- Two contents a view reads alike agree on the view's elements. -/
theorem eqOn_of_read {sg : RefSig} {κ : Kind} {sp : Space} {s : Shape} {e : EltTy} (v : View sg κ sp s e) {f g : v.ty.Contents Val}
    (h : v.read Val f = v.read Val g) : ∀ i ∈ v.set, f i = g i := by
  intro i hi
  obtain ⟨x, -, rfl⟩ := Finset.mem_map.mp hi
  have hx := congrFun h x
  rw [View.read_apply, View.read_apply] at hx
  exact (cast_inj _).mp hx

/-- A view written whole with what `g` reads there agrees with `g` on the view's elements. -/
theorem eqOn_writes {sg : RefSig} {κ : Kind} {sp : Space} {s : Shape} {e : EltTy} (v : View sg κ sp s e) {f g : v.ty.Contents Val}
    {w : s.Idx → Val e} (h : w = v.read Val g) : ∀ i ∈ v.set, v.writes Val f [⟨Rect.whole s, w⟩] i = g i :=
  eqOn_of_read v (by rw [View.read_writes_whole]; exact h)

theorem read_blkW (A : Memref sig .tc .hbm S4096x4096 .f32) (b : Fin 8) (X : A.view.ty.Contents Val) :
    (blkW A b).view.read Val X = winW (A.view.read Val X) b := rfl
theorem read_blkN (A : Memref sig .tc .hbm S4096x128 .f32) (b : Fin 8) (X : A.view.ty.Contents Val) :
    (blkN A b).view.read Val X = winN (A.view.read Val X) b := rfl

/-- A slot the body stored a block in reads that block. -/
theorem slotW_stored (M : Memref sig .tc .vmem S2x512x4096 .f32) {s : Fin 2} {off : Fin 3 → ℕ} (h : off = slotOff s)
    (inb : ∀ a, off a + S1x512x4096.size a ≤ S2x512x4096.size a) (g : M.view.ty.Contents Val) (y : S512x4096.Idx → Val .f32)
    (hc : S512x4096.ShapeCasts S1x512x4096) :
    (slotW M s).view.read Val (View.write Val (M.access (Rect.unit (s := S2x512x4096) off S1x512x4096.size inb)) g (shapeCast S1x512x4096 y hc) Finset.univ) = y := by
  subst h
  funext j
  have h1 := congrFun (View.read_write_univ (v := M.access (Rect.unit (s := S2x512x4096) (slotOff s) S1x512x4096.size inb)) g (shapeCast S1x512x4096 y hc))
    (Shape.reshapeEquiv (Shape.Squeezes.numel_eq squeezes_S1x512x4096_S512x4096) j)
  refine h1.trans ?_
  show y _ = y j
  rw [Shape.reshapeEquiv_reshapeEquiv, Shape.reshapeEquiv_self]
theorem slotN_stored (M : Memref sig .tc .vmem S2x512x128 .f32) {s : Fin 2} {off : Fin 3 → ℕ} (h : off = slotOff s)
    (inb : ∀ a, off a + S1x512x128.size a ≤ S2x512x128.size a) (g : M.view.ty.Contents Val) (y : S512x128.Idx → Val .f32)
    (hc : S512x128.ShapeCasts S1x512x128) :
    (slotN M s).view.read Val (View.write Val (M.access (Rect.unit (s := S2x512x128) off S1x512x128.size inb)) g (shapeCast S1x512x128 y hc) Finset.univ) = y := by
  subst h
  funext j
  have h1 := congrFun (View.read_write_univ (v := M.access (Rect.unit (s := S2x512x128) (slotOff s) S1x512x128.size inb)) g (shapeCast S1x512x128 y hc))
    (Shape.reshapeEquiv (Shape.Squeezes.numel_eq squeezes_S1x512x128_S512x128) j)
  refine h1.trans ?_
  show y _ = y j
  rw [Shape.reshapeEquiv_reshapeEquiv, Shape.reshapeEquiv_self]

/-- A load of a slot a block landed in reads that block. -/
theorem slotW_load (M : Memref sig .tc .vmem S2x512x4096 .f32) {s : Fin 2} {off : Fin 3 → ℕ} (h : off = slotOff s)
    (inb : ∀ a, off a + S1x512x4096.size a ≤ S2x512x4096.size a) (g : M.view.ty.Contents Val) (x : S512x4096.Idx → Val .f32)
    (hc : S512x4096.ShapeCasts S1x512x4096) (hg : (slotW M s).view.read Val g = x) :
    M.view.readAt Val (Rect.unit (s := S2x512x4096) off S1x512x4096.size inb).toLoadRect g = shapeCast S1x512x4096 x hc := by
  subst h hg
  funext j
  have e : Shape.reshapeEquiv (Shape.Squeezes.numel_eq squeezes_S1x512x4096_S512x4096) (Shape.reshapeEquiv hc j) = j := by
    rw [Shape.reshapeEquiv_reshapeEquiv, Shape.reshapeEquiv_self]
  exact (congrArg (fun t => M.view.read Val g ((Rect.unit (s := S2x512x4096) (slotOff s) S1x512x4096.size inb).emb t)) e).symm

end Views

end Cert.Proof.Blocks

end
-- ==== Proof.Pieces.lean ====
module

public import proofs.«01_k».proof.Proof.Blocks
public import Idealize.ShloMosaic.Lib.Pipeline.KitQuiescent

/-! # What a trip of the two pipelines holds

A two-slot ring keeps each of its slots either free (its semaphore at zero, the slot at any contents) or in flight:
a read ring with the block it fetches, an output ring with the block it drains to. A drained block ends at the
array the pipeline computes, whatever it held before. -/

@[expose] public section

noncomputable section

namespace Cert.Proof.Pieces

open Cert.KernelIdeal Cert.KernelIdeal.Gen Cert.Proof.Names Cert.Proof.Blocks
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring

variable {F : FTy → Type} [FloatOps F] [Named F]

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

variable (c : Dev nD)

/-- The contents of a memref's buffer on core `c`. -/
abbrev Held {sp : Space} {s : Shape} {e : EltTy} (M : Memref sig .tc sp s e) : Type := Buf (Elt F) (M.view.loc (c : Thread nD τ))
/-- A memref held whole at given contents. -/
abbrev memP {sp : Space} {s : Shape} {e : EltTy} (M : Memref sig .tc sp s e) (g : Held (F := F) c M) : sProp 𝕄 :=
  M.view.loc (c : Thread nD τ) ↦[M.view.set]{fullShare} g
/-- Slot `s`'s semaphore at zero. -/
abbrev cellP (S : DmaSems sig S2) (s : Fin 2) : sProp 𝕄 := semVal ((c : Thread nD τ), SemLoc.dma (csm S s).sem) 0
/-- The core's waits so far. -/
abbrev owesP : sProp 𝕄 := iprop(∃ W, owes (c : Thread nD τ) 0 W)

section Wide
variable (A : Memref sig .tc .hbm S4096x4096 .f32) (M : Memref sig .tc .vmem S2x512x4096 .f32) (S : DmaSems sig S2)

abbrev blkWP (X : Held (F := F) c A) (b : Fin 8) : sProp 𝕄 := memP c (blkW A b) X
abbrev slotWP (s : Fin 2) (f : Held (F := F) c M) : sProp 𝕄 := memP c (slotW M s) f
/-- What a fetch of block `b` leaves in slot `s`. -/
abbrev landedW (X : Held (F := F) c A) (s : Fin 2) (b : Fin 8) (f : Held (F := F) c M) : Held (F := F) c M :=
  (slotW M s).view.writes (Elt F) f [⟨Rect.whole S512x4096, ReadAs.same.apply ((blkW A b).view.read (Elt F) X)⟩]
/-- Slot `s` free. -/
abbrev freeW (s : Fin 2) : sProp 𝕄 := iprop(cellP c S s ∗ ∃ f, slotWP c M s f)
/-- Slot `s` being filled with block `b` of an array at `X`. -/
abbrev fillW (X : Held (F := F) c A) (s : Fin 2) (b : Fin 8) : sProp 𝕄 :=
  iprop(∃ f, Transfers.Flight countersEmb (c : Thread nD τ) (SemLoc.dma (csm S s).sem) () 262144 iprop(slotWP c M s (landedW c A M X s b f) ∗ blkWP c A X b))
/-- Slot `s` being drained into block `b` of an array that ends at `G`. -/
abbrev drainW (G : Held (F := F) c A) (s : Fin 2) (b : Fin 8) : sProp 𝕄 :=
  iprop(∃ f, Transfers.Flight countersEmb (c : Thread nD τ) (SemLoc.dma (csm S s).sem) () 262144 iprop(blkWP c A G b ∗ slotWP c M s f))
/-- Block `b` not written yet. -/
abbrev aheadW (b : Fin 8) : sProp 𝕄 := iprop(∃ X, blkWP (F := F) c A X b)

/-- A drained block holds the array's, whatever was there. -/
theorem drainedW {G : Held (F := F) c A} {b : Fin 8} {X : Held (F := F) c A} {w : S512x4096.Idx → Elt F .f32}
    (h : w = (blkW A b).view.read (Elt F) G) :
    blkWP c A ((blkW A b).view.writes (Elt F) X [⟨Rect.whole S512x4096, w⟩]) b = blkWP c A G b :=
  pointsTo_congr (eqOn_writes (blkW A b).view h)
end Wide

section Narrow
variable (A : Memref sig .tc .hbm S4096x128 .f32) (M : Memref sig .tc .vmem S2x512x128 .f32) (S : DmaSems sig S2)

abbrev blkNP (X : Held (F := F) c A) (b : Fin 8) : sProp 𝕄 := memP c (blkN A b) X
abbrev slotNP (s : Fin 2) (f : Held (F := F) c M) : sProp 𝕄 := memP c (slotN M s) f
abbrev freeN (s : Fin 2) : sProp 𝕄 := iprop(cellP c S s ∗ ∃ f, slotNP c M s f)
abbrev drainN (G : Held (F := F) c A) (s : Fin 2) (b : Fin 8) : sProp 𝕄 :=
  iprop(∃ f, Transfers.Flight countersEmb (c : Thread nD τ) (SemLoc.dma (csm S s).sem) () 8192 iprop(blkNP c A G b ∗ slotNP c M s f))
abbrev aheadN (b : Fin 8) : sProp 𝕄 := iprop(∃ X, blkNP (F := F) c A X b)

theorem drainedN {G : Held (F := F) c A} {b : Fin 8} {X : Held (F := F) c A} {w : S512x128.Idx → Elt F .f32}
    (h : w = (blkN A b).view.read (Elt F) G) :
    blkNP c A ((blkN A b).view.writes (Elt F) X [⟨Rect.whole S512x128, w⟩]) b = blkNP c A G b :=
  pointsTo_congr (eqOn_writes (blkN A b).view h)
end Narrow

end Cert.Proof.Pieces

end
-- ==== Proof.Trip2.lean ====
module

public import proofs.«01_k».proof.Proof.Pieces

/-! # One trip of the edge pipeline

Trip `k` has block `k` of the two-hop weights in flight in slot `k % 2`; it fetches block `k + 1` (unless it is the
last), computes block `k` of the edge probabilities into the output slot `k % 2`, sets it draining and (unless it is
the first) waits for block `k - 1` to have drained. -/

@[expose] public section

noncomputable section

namespace Cert.Proof.Trip2

open Cert.KernelIdeal Cert.KernelIdeal.Gen Cert.Proof.Names Cert.Proof.Blocks Cert.Proof.Pieces
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring

variable {F : FTy → Type} [FloatOps F] [Named F]

local notation "𝕄" => MT nD τ sig Unit (Elt F) ℕ (UU nD τ) ℕ

abbrev thM : Memref sig .tc .hbm S4096x4096 .f32 := Memref.whole main_arg7
abbrev epM : Memref sig .tc .hbm S4096x4096 .f32 := Memref.whole main_v8_0
abbrev tB : Memref sig .tc .vmem S2x512x4096 .f32 := Memref.whole cc0_scoped12
abbrev oB : Memref sig .tc .vmem S2x512x4096 .f32 := Memref.whole cc0_scoped14

/-! ## The block a trip computes -/

/-- A block of edge probabilities from the block of exponentials. -/
def edgeOut (v5 : FVec F S1x4096 .f32) (x : FVec F S512x4096 .f32) : FVec F S512x4096 .f32 :=
  mulf (tanh x) (broadcastTo S512x4096 v5 broadcasts_S1x4096_S512x4096)
theorem pay16_eq (v5 : FVec F S1x4096 .f32) (x : FVec F S512x4096 .f32) :
    k0_pay16 v5 x = shapeCast S1x512x4096 (edgeOut v5 x) shapeCasts_S512x4096_S1x512x4096 := rfl

/-- Block `b` of the edge probabilities: `mk` the edge mask, `nf` the normalised features, `th` the two-hop weights. -/
def edgeBlk (v3 : Elt F .f32) (v5 : FVec F S1x4096 .f32) (v6 : F .f32) (mk : S4096x4096.Idx → Elt F .i8) (nf : S4096x128.Idx → F .f32)
    (th : S4096x4096.Idx → F .f32) (b : Fin 8) : S512x4096.Idx → F .f32 :=
  edgeOut v5 (k0_pay15 v3 v6 (winW mk b) (winN nf b) nf (shapeCast S1x512x4096 (winW th b) shapeCasts_S512x4096_S1x512x4096))

theorem row_bk (k : ℕ) (hk : k < 8) : (![512 * k, 0] : Fin 2 → ℕ) = blkOff (bk 8 k) := by
  rw [show blkOff (bk 8 k) = ![512 * (bk 8 k).val, 0] from rfl, bk_val hk]

/-- The words the loop carries into trip `k`. -/
abbrev words2 (k : ℕ) : BitVec 32 × BitVec 32 × BitVec 32 × BitVec 32 × BitVec 32 := (wIss k, wCur k, wCur k, wPrv k, wIdx k)

section Trip
variable (c : Dev nD) (XT : Held (F := F) c thM)
  (mkM : Memref sig .tc .vmem S4096x4096 .i8) (hmk : mkM.IsWhole) (nfM : Memref sig .tc .vmem S4096x128 .f32) (hnf : nfM.IsWhole)
  (gm : Held (F := F) c mkM) (gn : Held (F := F) c nfM)
  (arg0 : Memref sig .tc .smem S4x2 .f32) (harg0 : arg0.IsWhole)
  (arg3 : Memref sig .tc .vmem S4096x128 .f32) (harg3 : arg3.IsWhole)
  (arg4 : Memref sig .tc .vmem S1x4096 .f32) (harg4 : arg4.IsWhole)
  (v3 : Elt F .f32) (v5 : FVec F S1x4096 .f32) (v6 : F .f32)

abbrev body2 (v28 z : BitVec 32) (k : Fin k0_t2_loop.trips) (acc : BitVec 32 × BitVec 32 × BitVec 32 × BitVec 32 × BitVec 32) :=
  k0_t2_body (F := F) arg0 harg0 (Memref.whole main_arg6) (Memref.isWhole_whole _) (Memref.whole main_arg7) (Memref.isWhole_whole _) arg3 harg3 arg4 harg4
    (Memref.whole main_v8_0) (Memref.isWhole_whole _) (Memref.whole main_v8_1) (Memref.isWhole_whole _) (Memref.whole main_v8_2) (Memref.isWhole_whole _)
    (Memref.whole main_v8_3) (Memref.isWhole_whole _) (Memref.whole main_v8_4) (Memref.isWhole_whole _) (Memref.whole main_v8_5) (Memref.isWhole_whole _)
    mkM hmk nfM hnf (Memref.whole cc0_scoped0) (Memref.isWhole_whole _) cc0_scoped1
    (Memref.whole cc0_scoped2) (Memref.isWhole_whole _) cc0_scoped3 (Memref.whole cc0_scoped4) (Memref.isWhole_whole _) cc0_scoped5
    (Memref.whole cc0_scoped6) (Memref.isWhole_whole _) cc0_scoped7 (Memref.whole cc0_scoped8) (Memref.isWhole_whole _) cc0_scoped9
    (Memref.whole cc0_scoped10) (Memref.isWhole_whole _) cc0_scoped11 (Memref.whole cc0_scoped12) (Memref.isWhole_whole _) cc0_scoped13
    (Memref.whole cc0_scoped14) (Memref.isWhole_whole _) cc0_scoped15 v3 v5 v6 v28 z k acc

/-- The edge probabilities the pipeline leaves. -/
abbrev edgeArr : Held (F := F) c epM :=
  wide (edgeBlk v3 v5 v6 (mkM.view.read (Elt F) gm) (nfM.view.read (Elt F) gn) (thM.view.read (Elt F) XT))

/-- What the body stores in its output slot and reads back is block `k` of the edge probabilities. -/
theorem stored_eq (k : ℕ) (hk : k < 8) (h72 h73 h74 h75) (f0 : Held (F := F) c tB) (g1 : Held (F := F) c oB) :
    (slotW oB (sl 2 k)).view.read (Elt F)
      (View.write (Elt F) (oB.access (Rect.unit (s := S2x512x4096) (k0_off75 (wCur k)) S1x512x4096.size h75)) g1
        (k0_pay16 v5 (k0_pay15 v3 v6
          (mkM.view.readAt (Elt F) (Rect.unit (s := S4096x4096) (k0_off72 (wIdx k)) S512x4096.size h72).toLoadRect gm)
          (nfM.view.readAt (Elt F) (Rect.unit (s := S4096x128) (k0_off73 (wIdx k)) S512x128.size h73).toLoadRect gn)
          (nfM.view.readAt (Elt F) (Rect.unit (s := S4096x128) ![0, 0] S4096x128.size inb_S4096x128_S4096x128_0_0).toLoadRect gn)
          (tB.view.readAt (Elt F) (Rect.unit (s := S2x512x4096) (k0_off74 (wCur k)) S1x512x4096.size h74).toLoadRect (landedW c thM tB XT (sl 2 k) (bk 8 k) f0))))
        Finset.univ)
      = (blkW epM (bk 8 k)).view.read (Elt F) (edgeArr c XT mkM nfM gm gn v3 v5 v6) := by
  have hb : k0_off72 (wIdx k) = blkOff (bk 8 k) := (row_cur k hk).trans (row_bk k hk)
  have hs : k0_off74 (wCur k) = slotOff (sl 2 k) := slot_cur k hk
  rw [pay16_eq, slotW_stored oB (s := sl 2 k) (show k0_off75 (wCur k) = slotOff (sl 2 k) from slot_cur k hk), read_blkW]
  refine Eq.trans ?_ (winW_wide (edgeBlk v3 v5 v6 (mkM.view.read (Elt F) gm) (nfM.view.read (Elt F) gn) (thM.view.read (Elt F) XT)) (bk 8 k)).symm
  unfold edgeBlk
  rw [View.readAt_unit mkM.view gm h72 hb (blkW_inb _), View.readAt_unit nfM.view gn h73 hb (blkN_inb _), View.readAt_full nfM.view gn,
    slotW_load tB hs h74 _ _ shapeCasts_S512x4096_S1x512x4096 (View.read_writes_whole (slotW tB (sl 2 k)).view f0 _)]
  rfl

abbrev keep2 : sProp 𝕄 := iprop(memP c mkM gm ∗ memP c nfM gn ∗ owesP c)

set_option backward.proofsInPublic true in
/-- The first trip: nothing to wait for on the way out. -/
theorem trip2_first (v28 z : BitVec 32) (k : Fin k0_t2_loop.trips) (h0 : k.val = 0) :
    iprop(keep2 c mkM nfM gm gn ∗ fillW c thM tB cc0_scoped13 XT (sl 2 k.val) (bk 8 k.val) ∗ freeW c tB cc0_scoped13 (sl 2 (k.val + 1)) ∗ blkWP c thM XT (bk 8 (k.val + 1))
      ∗ freeW c oB cc0_scoped15 (sl 2 k.val) ∗ aheadW c epM (bk 8 k.val))
      ⊢ wp frame (wpE (defs₀ (F := F)) 𝒱₀ (c : Thread nD τ) none) Set.univ
          (body2 mkM hmk nfM hnf arg0 harg0 arg3 harg3 arg4 harg4 v3 v5 v6 v28 z k (words2 k.val))
          (fun acc => iprop(⌜acc = words2 (k.val + 1)⌝ ∗ keep2 c mkM nfM gm gn
            ∗ fillW c thM tB cc0_scoped13 XT (sl 2 (k.val + 1)) (bk 8 (k.val + 1)) ∗ freeW c tB cc0_scoped13 (sl 2 k.val) ∗ blkWP c thM XT (bk 8 k.val)
            ∗ drainW c epM oB cc0_scoped15 (edgeArr c XT mkM nfM gm gn v3 v5 v6) (sl 2 k.val) (bk 8 k.val))) := by
  have hk : k.val < 8 := lt2 k
  have c20 := fetch2 k (by omega)
  have c21 := (always2 k).1
  have c24 := (always2 k).2
  have c26 := nodrain2 k (by omega)
  have w14 := chk14 k
  have w15 := (chk15_16 k).1
  have w16 := (chk15_16 k).2
  iintro ⟨⟨Hm, Hn, ⟨%W, HW⟩⟩, ⟨%f0, HT⟩, ⟨Hc1, ⟨%f1, Hs1⟩⟩, Hb1, ⟨Ho, ⟨%g1, Hos⟩⟩, ⟨%XE, Hob⟩⟩
  dsimp only [body2, words2]
  sl_unfold [k0_t2_body]
  sl_exec (disch := first | sl_exact c20 | sl_exact c21 | sl_exact c24 | sl_exact c26)
  sl_step
  have hp : trip2_first.sl.dma6 c XT mkM nfM gm gn v3 v5 v6 k w14 w15 w16 g1 = (blkW epM (bk 8 k.val)).view.read (Elt F) (edgeArr c XT mkM nfM gm gn v3 v5 v6) :=
    stored_eq c XT mkM nfM gm gn v3 v5 v6 k.val hk _ _ _ _ _ g1
  have hw : ∀ k : Fin k0_t2_loop.trips, (trip2_first.sl.v85_r1 k, trip2_first.sl.v147_r1 k, trip2_first.sl.v147_r1 k, trip2_first.sl.v161_r1 k, trip2_first.sl.v69_r1 k) = words2 (k.val + 1) := by decide
  isplitr
  · ipureintro
    exact hw k
  isplitl [Hm Hn HW]
  · isplitl [Hm]; · iexact Hm
    isplitl [Hn]; · iexact Hn
    iexists _; iexact HW
  isplitl [Hc1]; · iexists f1; iexact Hc1
  isplitl [HT HT_dst]
  · isplitl [HT]; · iexact HT
    iexists _; iexact HT_dst
  isplitl [HT_src]; · iexact HT_src
  iexists _
  irw [← drainedW c epM (X := XE) hp]
  iexact Ho

set_option backward.proofsInPublic true in
/-- A trip between the first and the last. -/
theorem trip2_mid (v28 z : BitVec 32) (k : Fin k0_t2_loop.trips) (h1 : 1 ≤ k.val) (h8 : k.val + 1 < 8) :
    iprop(keep2 c mkM nfM gm gn ∗ fillW c thM tB cc0_scoped13 XT (sl 2 k.val) (bk 8 k.val) ∗ freeW c tB cc0_scoped13 (sl 2 (k.val + 1)) ∗ blkWP c thM XT (bk 8 (k.val + 1))
      ∗ freeW c oB cc0_scoped15 (sl 2 k.val) ∗ aheadW c epM (bk 8 k.val)
      ∗ drainW c epM oB cc0_scoped15 (edgeArr c XT mkM nfM gm gn v3 v5 v6) (sl 2 (k.val + 1)) (bk 8 (k.val - 1)))
      ⊢ wp frame (wpE (defs₀ (F := F)) 𝒱₀ (c : Thread nD τ) none) Set.univ
          (body2 mkM hmk nfM hnf arg0 harg0 arg3 harg3 arg4 harg4 v3 v5 v6 v28 z k (words2 k.val))
          (fun acc => iprop(⌜acc = words2 (k.val + 1)⌝ ∗ keep2 c mkM nfM gm gn
            ∗ fillW c thM tB cc0_scoped13 XT (sl 2 (k.val + 1)) (bk 8 (k.val + 1)) ∗ freeW c tB cc0_scoped13 (sl 2 k.val) ∗ blkWP c thM XT (bk 8 k.val)
            ∗ drainW c epM oB cc0_scoped15 (edgeArr c XT mkM nfM gm gn v3 v5 v6) (sl 2 k.val) (bk 8 k.val)
            ∗ freeW c oB cc0_scoped15 (sl 2 (k.val + 1)) ∗ blkWP c epM (edgeArr c XT mkM nfM gm gn v3 v5 v6) (bk 8 (k.val - 1)))) := by
  have hk : k.val < 8 := lt2 k
  have c20 := fetch2 k h8
  have c21 := (always2 k).1
  have c24 := (always2 k).2
  have c26 := drain2 k h1
  have w14 := chk14 k
  have w15 := (chk15_16 k).1
  have w16 := (chk15_16 k).2
  iintro ⟨⟨Hm, Hn, ⟨%W, HW⟩⟩, ⟨%f0, HT⟩, ⟨Hc1, ⟨%f1, Hs1⟩⟩, Hb1, ⟨Ho, ⟨%g1, Hos⟩⟩, ⟨%XE, Hob⟩, ⟨%g0, HO⟩⟩
  dsimp only [body2, words2]
  sl_unfold [k0_t2_body]
  sl_exec (disch := first | sl_exact c20 | sl_exact c21 | sl_exact c24 | sl_exact c26)
  sl_step
  have hp : trip2_mid.sl.dma6 c XT mkM nfM gm gn v3 v5 v6 k w14 w15 w16 g1 = (blkW epM (bk 8 k.val)).view.read (Elt F) (edgeArr c XT mkM nfM gm gn v3 v5 v6) :=
    stored_eq c XT mkM nfM gm gn v3 v5 v6 k.val hk _ _ _ _ _ g1
  have hw : ∀ k : Fin k0_t2_loop.trips, (trip2_mid.sl.v85_r1 k, trip2_mid.sl.v147_r1 k, trip2_mid.sl.v147_r1 k, trip2_mid.sl.v161_r1 k, trip2_mid.sl.v69_r1 k) = words2 (k.val + 1) := by decide
  isplitr
  · ipureintro
    exact hw k
  isplitl [Hm Hn HW]
  · isplitl [Hm]; · iexact Hm
    isplitl [Hn]; · iexact Hn
    iexists _; iexact HW
  isplitl [Hc1]; · iexists f1; iexact Hc1
  isplitl [HT HT_dst]
  · isplitl [HT]; · iexact HT
    iexists _; iexact HT_dst
  isplitl [HT_src]; · iexact HT_src
  isplitl [Ho]
  · iexists _
    irw [← drainedW c epM (X := XE) hp]
    iexact Ho
  isplitl [HO HO_src]
  · isplitl [HO]; · iexact HO
    iexists _; iexact HO_src
  iexact HO_dst

set_option backward.proofsInPublic true in
/-- The last trip: nothing left to fetch. -/
theorem trip2_last (v28 z : BitVec 32) (k : Fin k0_t2_loop.trips) (h7 : k.val = 7) :
    iprop(keep2 c mkM nfM gm gn ∗ fillW c thM tB cc0_scoped13 XT (sl 2 k.val) (bk 8 k.val)
      ∗ freeW c oB cc0_scoped15 (sl 2 k.val) ∗ aheadW c epM (bk 8 k.val)
      ∗ drainW c epM oB cc0_scoped15 (edgeArr c XT mkM nfM gm gn v3 v5 v6) (sl 2 (k.val + 1)) (bk 8 (k.val - 1)))
      ⊢ wp frame (wpE (defs₀ (F := F)) 𝒱₀ (c : Thread nD τ) none) Set.univ
          (body2 mkM hmk nfM hnf arg0 harg0 arg3 harg3 arg4 harg4 v3 v5 v6 v28 z k (words2 k.val))
          (fun acc => iprop(⌜acc = words2 (k.val + 1)⌝ ∗ keep2 c mkM nfM gm gn
            ∗ freeW c tB cc0_scoped13 (sl 2 k.val) ∗ blkWP c thM XT (bk 8 k.val)
            ∗ drainW c epM oB cc0_scoped15 (edgeArr c XT mkM nfM gm gn v3 v5 v6) (sl 2 k.val) (bk 8 k.val)
            ∗ freeW c oB cc0_scoped15 (sl 2 (k.val + 1)) ∗ blkWP c epM (edgeArr c XT mkM nfM gm gn v3 v5 v6) (bk 8 (k.val - 1)))) := by
  have hk : k.val < 8 := lt2 k
  have c20 := nofetch2 k (by omega)
  have c21 := (always2 k).1
  have c24 := (always2 k).2
  have c26 := drain2 k (by omega)
  have w14 := chk14 k
  have w15 := (chk15_16 k).1
  have w16 := (chk15_16 k).2
  iintro ⟨⟨Hm, Hn, ⟨%W, HW⟩⟩, ⟨%f0, HT⟩, ⟨Ho, ⟨%g1, Hos⟩⟩, ⟨%XE, Hob⟩, ⟨%g0, HO⟩⟩
  dsimp only [body2, words2]
  sl_unfold [k0_t2_body]
  sl_exec (disch := first | sl_exact c20 | sl_exact c21 | sl_exact c24 | sl_exact c26)
  sl_step
  have hp : trip2_last.sl.dma6 c XT mkM nfM gm gn v3 v5 v6 k w14 w15 w16 g1 = (blkW epM (bk 8 k.val)).view.read (Elt F) (edgeArr c XT mkM nfM gm gn v3 v5 v6) :=
    stored_eq c XT mkM nfM gm gn v3 v5 v6 k.val hk _ _ _ _ _ g1
  have hw : ∀ k : Fin k0_t2_loop.trips, (trip2_last.sl.v85_r1 k, trip2_last.sl.v147_r1 k, trip2_last.sl.v147_r1 k, trip2_last.sl.v161_r1 k, trip2_last.sl.v69_r1 k) = words2 (k.val + 1) := by decide
  isplitr
  · ipureintro
    exact hw k
  isplitl [Hm Hn HW]
  · isplitl [Hm]; · iexact Hm
    isplitl [Hn]; · iexact Hn
    iexists _; iexact HW
  isplitl [HT HT_dst]
  · isplitl [HT]; · iexact HT
    iexists _; iexact HT_dst
  isplitl [HT_src]; · iexact HT_src
  isplitl [Ho]
  · iexists _
    irw [← drainedW c epM (X := XE) hp]
    iexact Ho
  isplitl [HO HO_src]
  · isplitl [HO]; · iexact HO
    iexists _; iexact HO_src
  iexact HO_dst

end Trip
end Cert.Proof.Trip2

end
-- ==== Proof.Trip1.lean ====
module

public import proofs.«01_k».proof.Proof.Trip2
public import Idealize.ShloMosaic.Lib.WritesUnit
public import Idealize.ShloMosaic.Lib.Pipeline.Value

/-! # One trip of the feature pipeline

Trip `k` has block `k` of the adjacency matrix in flight in slot `k % 2`; it fetches block `k + 1` (unless it is the
last), computes block `k` of the five feature arrays into their output slots `k % 2` and of the edge mask and the
normalised features into the scratch arrays, sets the five slots draining and (unless it is the first) waits for the
five blocks `k - 1` to have drained. -/

@[expose] public section

noncomputable section

namespace Cert.Proof.Trip1

open Cert.KernelIdeal Cert.KernelIdeal.Gen Cert.Proof.Names Cert.Proof.Blocks Cert.Proof.Pieces
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring

variable {F : FTy → Type} [FloatOps F] [Named F]

local notation "𝕄" => MT nD τ sig Unit (Elt F) ℕ (UU nD τ) ℕ

abbrev edM : Memref sig .tc .hbm S4096x4096 .f32 := Memref.whole main_arg6
abbrev apM : Memref sig .tc .hbm S4096x128 .f32 := Memref.whole main_v8_1
abbrev sgM : Memref sig .tc .hbm S4096x128 .f32 := Memref.whole main_v8_2
abbrev ftM : Memref sig .tc .hbm S4096x128 .f32 := Memref.whole main_v8_3
abbrev saM : Memref sig .tc .hbm S4096x128 .f32 := Memref.whole main_v8_4
abbrev snM : Memref sig .tc .hbm S4096x128 .f32 := Memref.whole main_v8_5
abbrev eB : Memref sig .tc .vmem S2x512x4096 .f32 := Memref.whole cc0_scoped0
abbrev apB : Memref sig .tc .vmem S2x512x128 .f32 := Memref.whole cc0_scoped2
abbrev sgB : Memref sig .tc .vmem S2x512x128 .f32 := Memref.whole cc0_scoped4
abbrev ftB : Memref sig .tc .vmem S2x512x128 .f32 := Memref.whole cc0_scoped6
abbrev saB : Memref sig .tc .vmem S2x512x128 .f32 := Memref.whole cc0_scoped8
abbrev snB : Memref sig .tc .vmem S2x512x128 .f32 := Memref.whole cc0_scoped10

/-! ## The blocks a trip computes -/

section Values
variable (v0 v1 : Elt F .f32) (ed : S4096x4096.Idx → F .f32) (at' : S4096x128.Idx → F .f32) (ps : S1x4096.Idx → F .f32)

abbrev edSlot (b : Fin 8) : Vec F S1x512x4096 .f32 := shapeCast S1x512x4096 (winW ed b) shapeCasts_S512x4096_S1x512x4096
/-- Block `b` of the neighbours' features, the edge mask, the two scaled features, the next features, their
    normalisation and their sigmoid. -/
def neighBlk (b : Fin 8) : S512x128.Idx → F .f32 := k0_pay3 (edSlot ed b) at'
def maskBlk (b : Fin 8) : S512x4096.Idx → Elt F .i8 := k0_pay2 (edSlot ed b)
def saBlk (b : Fin 8) : S512x128.Idx → F .f32 := k0_pay4 v0 (winN at' b)
def snBlk (b : Fin 8) : S512x128.Idx → F .f32 := k0_pay5 v0 v1 (neighBlk ed at' b)
def ftBlk (b : Fin 8) : S512x128.Idx → F .f32 := k0_pay6 v0 v1 (neighBlk ed at' b) (winN at' b)
def nfBlk (b : Fin 8) : S512x128.Idx → F .f32 := k0_pay7 v0 v1 (neighBlk ed at' b) (winN at' b)
def sgBlk (b : Fin 8) : S512x128.Idx → F .f32 := k0_pay8 v0 v1 (neighBlk ed at' b) (winN at' b)
/-- A block of sigmoids times the personas' row. -/
def scaleRows (x : FVec F S512x128 .f32) (p : Vec F S1x512 .f32) : FVec F S512x128 .f32 :=
  mulf x (broadcastTo S512x128 (shapeCast S512x1 (shapeCast S1x512 p shapeCasts_S1x512_S1x512) shapeCasts_S1x512_S512x1) broadcasts_S512x1_S512x128)
def apBlk (b : Fin 8) : S512x128.Idx → F .f32 := scaleRows (sgBlk v0 v1 ed at' b) (winC ps b)
end Values

/-- Filling one more block of rows of a scratch array. -/
theorem fillW_rows {Val : EltTy → Type} {e : EltTy} (M : Memref sig .tc .vmem S4096x4096 e) (P : Fin 8 → S512x4096.Idx → Val e) (k : ℕ) (hk : k < 8)
    (g : M.view.ty.Contents Val) {off : Fin 2 → ℕ} (h : off = ![512 * k, 0]) (inb : ∀ a, off a + S512x4096.size a ≤ S4096x4096.size a)
    (w : S512x4096.Idx → Val e) (hw : w = P (bk 8 k)) (hg : ∀ i : S4096x4096.Idx, (i 0).val < 512 * k → M.view.read Val g i = wide P i) :
    ∀ i : S4096x4096.Idx, (i 0).val < 512 * (k + 1) →
      M.view.read Val (M.view.writes Val g [⟨Rect.unit (s := S4096x4096) off S512x4096.size inb, w⟩]) i = wide P i := by
  subst hw
  intro i hi
  by_cases hlt : (i 0).val < 512 * k
  · exact (View.read_writes_cons_rows_of_not_mem M.view g inb _ [] i h rfl (Or.inl hlt)).trans (hg i hlt)
  · let x : S512x4096.Idx := ValueIdx.ix2 ⟨(i 0).val - 512 * k, by omega⟩ (i 1)
    have hx0 : (i 0).val = 512 * k + (x 0).val := by show (i 0).val = 512 * k + ((i 0).val - 512 * k); omega
    refine (View.read_writes_cons_rows_of_mem M.view g inb _ [] i x h hx0 rfl).trans (wide_at P i (bk 8 k) x ?_ rfl).symm
    rw [bk_val hk]; exact hx0
theorem fillN_rows {Val : EltTy → Type} {e : EltTy} (M : Memref sig .tc .vmem S4096x128 e) (P : Fin 8 → S512x128.Idx → Val e) (k : ℕ) (hk : k < 8)
    (g : M.view.ty.Contents Val) {off : Fin 2 → ℕ} (h : off = ![512 * k, 0]) (inb : ∀ a, off a + S512x128.size a ≤ S4096x128.size a)
    (w : S512x128.Idx → Val e) (hw : w = P (bk 8 k)) (hg : ∀ i : S4096x128.Idx, (i 0).val < 512 * k → M.view.read Val g i = narrow P i) :
    ∀ i : S4096x128.Idx, (i 0).val < 512 * (k + 1) →
      M.view.read Val (M.view.writes Val g [⟨Rect.unit (s := S4096x128) off S512x128.size inb, w⟩]) i = narrow P i := by
  subst hw
  intro i hi
  by_cases hlt : (i 0).val < 512 * k
  · exact (View.read_writes_cons_rows_of_not_mem M.view g inb _ [] i h rfl (Or.inl hlt)).trans (hg i hlt)
  · let x : S512x128.Idx := ValueIdx.ix2 ⟨(i 0).val - 512 * k, by omega⟩ (i 1)
    have hx0 : (i 0).val = 512 * k + (x 0).val := by show (i 0).val = 512 * k + ((i 0).val - 512 * k); omega
    refine (View.read_writes_cons_rows_of_mem M.view g inb _ [] i x h hx0 rfl).trans (narrow_at P i (bk 8 k) x ?_ rfl).symm
    rw [bk_val hk]; exact hx0

/-- What drains from a slot the body stored block `b` in. -/
theorem storedN {Val : EltTy → Type} (M : Memref sig .tc .vmem S2x512x128 .f32) (A : Memref sig .tc .hbm S4096x128 .f32) {s : Fin 2} {off : Fin 3 → ℕ} (h : off = slotOff s)
    (inb : ∀ a, off a + S1x512x128.size a ≤ S2x512x128.size a) (g : M.view.ty.Contents Val) (y : S512x128.Idx → Val .f32) (hc : S512x128.ShapeCasts S1x512x128)
    (X : A.view.ty.Contents Val) (P : Fin 8 → S512x128.Idx → Val .f32) (hX : A.view.read Val X = narrow P) (b : Fin 8) (hy : y = P b) :
    (slotN M s).view.read Val (View.write Val (M.access (Rect.unit (s := S2x512x128) off S1x512x128.size inb)) g (shapeCast S1x512x128 y hc) Finset.univ)
      = (blkN A b).view.read Val X := by
  rw [slotN_stored M h inb g y hc, read_blkN, hX, hy]
  exact (winN_narrow P b).symm

abbrev W13 : Type := BitVec 32 × BitVec 32 × BitVec 32 × BitVec 32 × BitVec 32 × BitVec 32 × BitVec 32 × BitVec 32 × BitVec 32 × BitVec 32 × BitVec 32 × BitVec 32 × BitVec 32
/-- The words the loop carries into trip `k`. -/
abbrev words1 (k : ℕ) : W13 :=
  (wIss k, wCur k, wCur k, wPrv k, wCur k, wPrv k, wCur k, wPrv k, wCur k, wPrv k, wCur k, wPrv k, wIdx k)

section Trip
variable (c : Dev nD) (XA : Held (F := F) c edM)
  (mkM : Memref sig .tc .vmem S4096x4096 .i8) (hmk : mkM.IsWhole) (nfM : Memref sig .tc .vmem S4096x128 .f32) (hnf : nfM.IsWhole)
  (gm : Held (F := F) c mkM) (gn : Held (F := F) c nfM)
  (arg0 : Memref sig .tc .smem S4x2 .f32) (harg0 : arg0.IsWhole)
  (arg3 : Memref sig .tc .vmem S4096x128 .f32) (harg3 : arg3.IsWhole)
  (arg4 : Memref sig .tc .vmem S1x4096 .f32) (harg4 : arg4.IsWhole)
  (g3 : Held (F := F) c arg3) (g4 : Held (F := F) c arg4)
  (v0 v1 : Elt F .f32)

abbrev body1 (v32 z z' : BitVec 32) (k : Fin k0_t1_loop.trips) (acc : W13) :=
  k0_t1_body (F := F) arg0 harg0 (Memref.whole main_arg6) (Memref.isWhole_whole _) (Memref.whole main_arg7) (Memref.isWhole_whole _) arg3 harg3 arg4 harg4
    (Memref.whole main_v8_0) (Memref.isWhole_whole _) (Memref.whole main_v8_1) (Memref.isWhole_whole _) (Memref.whole main_v8_2) (Memref.isWhole_whole _)
    (Memref.whole main_v8_3) (Memref.isWhole_whole _) (Memref.whole main_v8_4) (Memref.isWhole_whole _) (Memref.whole main_v8_5) (Memref.isWhole_whole _)
    mkM hmk nfM hnf (Memref.whole cc0_scoped0) (Memref.isWhole_whole _) cc0_scoped1
    (Memref.whole cc0_scoped2) (Memref.isWhole_whole _) cc0_scoped3 (Memref.whole cc0_scoped4) (Memref.isWhole_whole _) cc0_scoped5
    (Memref.whole cc0_scoped6) (Memref.isWhole_whole _) cc0_scoped7 (Memref.whole cc0_scoped8) (Memref.isWhole_whole _) cc0_scoped9
    (Memref.whole cc0_scoped10) (Memref.isWhole_whole _) cc0_scoped11 (Memref.whole cc0_scoped12) (Memref.isWhole_whole _) cc0_scoped13
    (Memref.whole cc0_scoped14) (Memref.isWhole_whole _) cc0_scoped15 v0 v1 v32 z z' k acc

abbrev edA : S4096x4096.Idx → F .f32 := edM.view.read (Elt F) XA
abbrev atA : S4096x128.Idx → F .f32 := arg3.view.read (Elt F) g3
abbrev psA : S1x4096.Idx → F .f32 := arg4.view.read (Elt F) g4

/-- The five arrays the pipeline leaves, and what it leaves in the two scratch arrays. -/
abbrev apArr : Held (F := F) c apM := narrow (apBlk v0 v1 (edA c XA) (atA c arg3 g3) (psA c arg4 g4))
abbrev sgArr : Held (F := F) c sgM := narrow (sgBlk v0 v1 (edA c XA) (atA c arg3 g3))
abbrev ftArr : Held (F := F) c ftM := narrow (ftBlk v0 v1 (edA c XA) (atA c arg3 g3))
abbrev saArr : Held (F := F) c saM := narrow (saBlk v0 (atA c arg3 g3))
abbrev snArr : Held (F := F) c snM := narrow (snBlk v0 v1 (edA c XA) (atA c arg3 g3))
abbrev mkFn : S4096x4096.Idx → Elt F .i8 := wide (maskBlk (edA c XA))
abbrev nfFn : S4096x128.Idx → F .f32 := narrow (nfBlk v0 v1 (edA c XA) (atA c arg3 g3))

section Stored
variable (k : ℕ) (hk : k < 8) (f0 : Held (F := F) c eB)

/-- The body's four loads: the landed block of the adjacency matrix, all attributes, the block's own, the personas'. -/
abbrev ldE (h9 : ∀ a, k0_off9 (wCur k) a + S1x512x4096.size a ≤ S2x512x4096.size a) : Vec F S1x512x4096 .f32 :=
  eB.view.readAt (Elt F) (Rect.unit (s := S2x512x4096) (k0_off9 (wCur k)) S1x512x4096.size h9).toLoadRect (landedW c edM eB XA (sl 2 k) (bk 8 k) f0)
abbrev ldA : Vec F S4096x128 .f32 :=
  arg3.view.readAt (Elt F) (Rect.unit (s := S4096x128) ![0, 0] S4096x128.size inb_S4096x128_S4096x128_0_0).toLoadRect g3
abbrev ldR (h11 : ∀ a, k0_off11 (wIdx k) a + S512x128.size a ≤ S4096x128.size a) : Vec F S512x128 .f32 :=
  arg3.view.readAt (Elt F) (Rect.unit (s := S4096x128) (k0_off11 (wIdx k)) S512x128.size h11).toLoadRect g3
abbrev ldP (h12 : ∀ a, k0_off12 (wIdx k) a + S1x512.size a ≤ S1x4096.size a) : Vec F S1x512 .f32 :=
  arg4.view.readAt (Elt F) (Rect.unit (s := S1x4096) (k0_off12 (wIdx k)) S1x512.size h12).toLoadRect g4

theorem ldA_eq : ldA c arg3 g3 = atA c arg3 g3 := View.readAt_full arg3.view g3 _
include hk
theorem ldE_eq (h9) : ldE c XA k f0 h9 = edSlot (edA c XA) (bk 8 k) :=
  slotW_load eB (slot_cur k hk) h9 _ _ shapeCasts_S512x4096_S1x512x4096 (View.read_writes_whole (slotW eB (sl 2 k)).view f0 _)
theorem ldR_eq (h11) : ldR c arg3 g3 k h11 = winN (atA c arg3 g3) (bk 8 k) :=
  View.readAt_unit arg3.view g3 h11 ((row_cur k hk).trans (Trip2.row_bk k hk)) (blkN_inb _)
theorem ldP_eq (h12) : ldP c arg4 g4 k h12 = winC (psA c arg4 g4) (bk 8 k) :=
  View.readAt_unit arg4.view g4 h12 ((col_cur k hk).trans (by rw [show colOff (bk 8 k) = ![0, 512 * (bk 8 k).val] from rfl, bk_val hk])) (col_inb _)

/-- What drains from the five slots. -/
theorem ap_eq (h9 h11 h12 h13) (g : Held (F := F) c apB) :
    (slotN apB (sl 2 k)).view.read (Elt F) (View.write (Elt F) (apB.access (Rect.unit (s := S2x512x128) (k0_off13 (wCur k)) S1x512x128.size h13)) g
      (k0_pay9 v0 v1 (k0_pay3 (ldE c XA k f0 h9) (ldA c arg3 g3)) (ldR c arg3 g3 k h11) (ldP c arg4 g4 k h12)) Finset.univ)
      = (blkN apM (bk 8 k)).view.read (Elt F) (apArr c XA arg3 arg4 g3 g4 v0 v1) := by
  rw [ldE_eq c XA k hk, ldA_eq, ldR_eq c arg3 g3 k hk, ldP_eq c arg4 g4 k hk]
  exact storedN apB apM (slot_cur k hk) h13 g _ shapeCasts_S512x128_S1x512x128 _ (apBlk v0 v1 (edA c XA) (atA c arg3 g3) (psA c arg4 g4)) rfl _ rfl
theorem sg_eq (h9 h11 h14) (g : Held (F := F) c sgB) :
    (slotN sgB (sl 2 k)).view.read (Elt F) (View.write (Elt F) (sgB.access (Rect.unit (s := S2x512x128) (k0_off14 (wCur k)) S1x512x128.size h14)) g
      (k0_pay10 v0 v1 (k0_pay3 (ldE c XA k f0 h9) (ldA c arg3 g3)) (ldR c arg3 g3 k h11)) Finset.univ)
      = (blkN sgM (bk 8 k)).view.read (Elt F) (sgArr c XA arg3 g3 v0 v1) := by
  rw [ldE_eq c XA k hk, ldA_eq, ldR_eq c arg3 g3 k hk]
  exact storedN sgB sgM (slot_cur k hk) h14 g _ shapeCasts_S512x128_S1x512x128 _ (sgBlk v0 v1 (edA c XA) (atA c arg3 g3)) rfl _ rfl
theorem ft_eq (h9 h11 h15) (g : Held (F := F) c ftB) :
    (slotN ftB (sl 2 k)).view.read (Elt F) (View.write (Elt F) (ftB.access (Rect.unit (s := S2x512x128) (k0_off15 (wCur k)) S1x512x128.size h15)) g
      (k0_pay11 v0 v1 (k0_pay3 (ldE c XA k f0 h9) (ldA c arg3 g3)) (ldR c arg3 g3 k h11)) Finset.univ)
      = (blkN ftM (bk 8 k)).view.read (Elt F) (ftArr c XA arg3 g3 v0 v1) := by
  rw [ldE_eq c XA k hk, ldA_eq, ldR_eq c arg3 g3 k hk]
  exact storedN ftB ftM (slot_cur k hk) h15 g _ shapeCasts_S512x128_S1x512x128 _ (ftBlk v0 v1 (edA c XA) (atA c arg3 g3)) rfl _ rfl
theorem sa_eq (h11 h16) (g : Held (F := F) c saB) :
    (slotN saB (sl 2 k)).view.read (Elt F) (View.write (Elt F) (saB.access (Rect.unit (s := S2x512x128) (k0_off16 (wCur k)) S1x512x128.size h16)) g
      (k0_pay12 (k0_pay4 v0 (ldR c arg3 g3 k h11))) Finset.univ)
      = (blkN saM (bk 8 k)).view.read (Elt F) (saArr c arg3 g3 v0) := by
  rw [ldR_eq c arg3 g3 k hk]
  exact storedN saB saM (slot_cur k hk) h16 g _ shapeCasts_S512x128_S1x512x128 _ (saBlk v0 (atA c arg3 g3)) rfl _ rfl
theorem sn_eq (h9 h17) (g : Held (F := F) c snB) :
    (slotN snB (sl 2 k)).view.read (Elt F) (View.write (Elt F) (snB.access (Rect.unit (s := S2x512x128) (k0_off17 (wCur k)) S1x512x128.size h17)) g
      (k0_pay13 (k0_pay5 v0 v1 (k0_pay3 (ldE c XA k f0 h9) (ldA c arg3 g3)))) Finset.univ)
      = (blkN snM (bk 8 k)).view.read (Elt F) (snArr c XA arg3 g3 v0 v1) := by
  rw [ldE_eq c XA k hk, ldA_eq]
  exact storedN snB snM (slot_cur k hk) h17 g _ shapeCasts_S512x128_S1x512x128 _ (snBlk v0 v1 (edA c XA) (atA c arg3 g3)) rfl _ rfl
/-- What the body stores in the two scratch arrays. -/
theorem mk_eq (h9) : k0_pay2 (ldE c XA k f0 h9) = maskBlk (edA c XA) (bk 8 k) := by
  rw [ldE_eq c XA k hk]; rfl
theorem nf_eq (h9 h11) : k0_pay14 (k0_pay7 v0 v1 (k0_pay3 (ldE c XA k f0 h9) (ldA c arg3 g3)) (ldR c arg3 g3 k h11))
    = nfBlk v0 v1 (edA c XA) (atA c arg3 g3) (bk 8 k) := by
  rw [ldE_eq c XA k hk, ldA_eq, ldR_eq c arg3 g3 k hk]
  unfold k0_pay14
  exact Idealize.ShloMosaic.shapeCast_self _ _
end Stored

/-- Scratch arrays filled up to block `k`. -/
abbrev mkUpto (k : ℕ) : sProp 𝕄 :=
  iprop(∃ g, ⌜∀ i : S4096x4096.Idx, (i 0).val < 512 * k → mkM.view.read (Elt F) g i = mkFn c XA i⌝ ∗ memP c mkM g)
abbrev nfUpto (k : ℕ) : sProp 𝕄 :=
  iprop(∃ g, ⌜∀ i : S4096x128.Idx, (i 0).val < 512 * k → nfM.view.read (Elt F) g i = nfFn c XA arg3 g3 v0 v1 i⌝ ∗ memP c nfM g)

abbrev keep1 (k : ℕ) : sProp 𝕄 :=
  iprop(mkUpto c XA mkM k ∗ nfUpto c XA nfM arg3 g3 v0 v1 k ∗ memP c arg3 g3 ∗ memP c arg4 g4 ∗ owesP (F := F) c)

section OutRings
variable (A : Memref sig .tc .hbm S4096x128 .f32) (B : Memref sig .tc .vmem S2x512x128 .f32) (S : DmaSems sig S2) (G : Held (F := F) c A) (k : ℕ)
/-- An output ring before trip `k`'s store: its slot free and block `k` unwritten; and after: the slot draining. -/
abbrev newN : sProp 𝕄 := iprop(freeN c B S (sl 2 k) ∗ aheadN c A (bk 8 k))
abbrev oldN : sProp 𝕄 := drainN c A B S G (sl 2 (k + 1)) (bk 8 (k - 1))
abbrev nowN : sProp 𝕄 := drainN c A B S G (sl 2 k) (bk 8 k)
/-- Block `k - 1` has drained. -/
abbrev outN : sProp 𝕄 := iprop(freeN c B S (sl 2 (k + 1)) ∗ blkNP c A G (bk 8 (k - 1)))
end OutRings

abbrev news1 (k : ℕ) : sProp 𝕄 := iprop(newN c apM apB cc0_scoped3 k
      ∗ newN c sgM sgB cc0_scoped5 k
      ∗ newN c ftM ftB cc0_scoped7 k
      ∗ newN c saM saB cc0_scoped9 k
      ∗ newN c snM snB cc0_scoped11 k)
abbrev olds1 (k : ℕ) : sProp 𝕄 := iprop(oldN c apM apB cc0_scoped3 (apArr c XA arg3 arg4 g3 g4 v0 v1) k
      ∗ oldN c sgM sgB cc0_scoped5 (sgArr c XA arg3 g3 v0 v1) k
      ∗ oldN c ftM ftB cc0_scoped7 (ftArr c XA arg3 g3 v0 v1) k
      ∗ oldN c saM saB cc0_scoped9 (saArr c arg3 g3 v0) k
      ∗ oldN c snM snB cc0_scoped11 (snArr c XA arg3 g3 v0 v1) k)
abbrev nows1 (k : ℕ) : sProp 𝕄 := iprop(nowN c apM apB cc0_scoped3 (apArr c XA arg3 arg4 g3 g4 v0 v1) k
      ∗ nowN c sgM sgB cc0_scoped5 (sgArr c XA arg3 g3 v0 v1) k
      ∗ nowN c ftM ftB cc0_scoped7 (ftArr c XA arg3 g3 v0 v1) k
      ∗ nowN c saM saB cc0_scoped9 (saArr c arg3 g3 v0) k
      ∗ nowN c snM snB cc0_scoped11 (snArr c XA arg3 g3 v0 v1) k)
abbrev outs1 (k : ℕ) : sProp 𝕄 := iprop(outN c apM apB cc0_scoped3 (apArr c XA arg3 arg4 g3 g4 v0 v1) k
      ∗ outN c sgM sgB cc0_scoped5 (sgArr c XA arg3 g3 v0 v1) k
      ∗ outN c ftM ftB cc0_scoped7 (ftArr c XA arg3 g3 v0 v1) k
      ∗ outN c saM saB cc0_scoped9 (saArr c arg3 g3 v0) k
      ∗ outN c snM snB cc0_scoped11 (snArr c XA arg3 g3 v0 v1) k)

set_option backward.proofsInPublic true in
/-- The first trip: nothing to wait for on the way out. -/
theorem trip1_first (v32 z z' : BitVec 32) (k : Fin k0_t1_loop.trips) (h0 : k.val = 0) :
    iprop(keep1 c XA mkM nfM arg3 arg4 g3 g4 v0 v1 k.val ∗ fillW c edM eB cc0_scoped1 XA (sl 2 k.val) (bk 8 k.val)
      ∗ freeW c eB cc0_scoped1 (sl 2 (k.val + 1)) ∗ blkWP c edM XA (bk 8 (k.val + 1))
      ∗ news1 c k.val)
      ⊢ wp frame (wpE (defs₀ (F := F)) 𝒱₀ (c : Thread nD τ) none) Set.univ
          (body1 mkM hmk nfM hnf arg0 harg0 arg3 harg3 arg4 harg4 v0 v1 v32 z z' k (words1 k.val))
          (fun acc => iprop(⌜acc = words1 (k.val + 1)⌝ ∗ keep1 c XA mkM nfM arg3 arg4 g3 g4 v0 v1 (k.val + 1)
            ∗ fillW c edM eB cc0_scoped1 XA (sl 2 (k.val + 1)) (bk 8 (k.val + 1)) ∗ freeW c eB cc0_scoped1 (sl 2 k.val) ∗ blkWP c edM XA (bk 8 k.val)
            ∗ nows1 c XA arg3 arg4 g3 g4 v0 v1 k.val)) := by
  have hk : k.val < 8 := lt1 k
  have c1 := fetch1 k (by omega)
  obtain ⟨c2, c9, c10, c11, c12, c13⟩ := always1 k
  obtain ⟨c15, c16, c17, c18, c19⟩ := nodrain1 k (by omega)
  have w1 := chk1 k
  obtain ⟨w2, w3, w4, w5, w6, w7⟩ := chk2_7 k
  iintro ⟨⟨⟨%gm, %hgm, Hm⟩, ⟨%gn, %hgn, Hn⟩, H3, H4, ⟨%W, HW⟩⟩, ⟨%f0, HT⟩, ⟨Hc1, ⟨%f1, Hs1⟩⟩, Hb1,
    ⟨⟨⟨Ho1, ⟨%e1, Hos1⟩⟩, ⟨%X1, Hob1⟩⟩, ⟨⟨Ho2, ⟨%e2, Hos2⟩⟩, ⟨%X2, Hob2⟩⟩, ⟨⟨Ho3, ⟨%e3, Hos3⟩⟩, ⟨%X3, Hob3⟩⟩, ⟨⟨Ho4, ⟨%e4, Hos4⟩⟩, ⟨%X4, Hob4⟩⟩, ⟨⟨Ho5, ⟨%e5, Hos5⟩⟩, ⟨%X5, Hob5⟩⟩⟩⟩
  dsimp only [body1, words1]
  sl_unfold [k0_t1_body]
  sl_exec (disch := first | sl_exact c1 | sl_exact c2 | sl_exact c9 | sl_exact c10 | sl_exact c11 | sl_exact c12 | sl_exact c13 | sl_exact c15 | sl_exact c16 | sl_exact c17 | sl_exact c18 | sl_exact c19)
  sl_step
  have hp1 : trip1_first.sl.dma18 c XA arg3 arg4 g3 g4 v0 v1 k w1 w2 w3 e1 = (blkN apM (bk 8 k.val)).view.read (Elt F) (apArr c XA arg3 arg4 g3 g4 v0 v1) :=
    ap_eq c XA arg3 arg4 g3 g4 v0 v1 k.val hk _ _ _ _ _ e1
  have hp2 : trip1_first.sl.dma18_1 c XA arg3 g3 v0 v1 k w1 w2 w4 e2 = (blkN sgM (bk 8 k.val)).view.read (Elt F) (sgArr c XA arg3 g3 v0 v1) :=
    sg_eq c XA arg3 g3 v0 v1 k.val hk _ _ _ _ e2
  have hp3 : trip1_first.sl.dma18_2 c XA arg3 g3 v0 v1 k w1 w2 w5 e3 = (blkN ftM (bk 8 k.val)).view.read (Elt F) (ftArr c XA arg3 g3 v0 v1) :=
    ft_eq c XA arg3 g3 v0 v1 k.val hk _ _ _ _ e3
  have hp4 : trip1_first.sl.dma18_3 c arg3 g3 v0 k w1 w6 e4 = (blkN saM (bk 8 k.val)).view.read (Elt F) (saArr c arg3 g3 v0) :=
    sa_eq c arg3 g3 v0 k.val hk _ _ e4
  have hp5 : trip1_first.sl.dma18_4 c XA arg3 g3 v0 v1 k w2 w7 e5 = (blkN snM (bk 8 k.val)).view.read (Elt F) (snArr c XA arg3 g3 v0 v1) :=
    sn_eq c XA arg3 g3 v0 v1 k.val hk _ _ _ e5
  isplitr
  · ipureintro
    clear * - k
    revert k
    set_option synthInstance.maxSize 100000 in set_option synthInstance.maxHeartbeats 0 in decide
  isplitl [Hm Hn H3 H4 HW]
  · isplitl [Hm]
    · iexists _
      isplitr
      rotate_left
      · iexact Hm
      ipureintro
      exact fillW_rows mkM (maskBlk (edA c XA)) k.val hk gm (row_cur k.val hk) _ _ (mk_eq c XA k.val hk _ _) hgm
    isplitl [Hn]
    · iexists _
      isplitr
      rotate_left
      · iexact Hn
      ipureintro
      exact fillN_rows nfM (nfBlk v0 v1 (edA c XA) (atA c arg3 g3)) k.val hk gn (row_cur k.val hk) _ _ (nf_eq c XA arg3 g3 v0 v1 k.val hk _ _ _) hgn
    isplitl [H3]; · iexact H3
    isplitl [H4]; · iexact H4
    iexists _; iexact HW
  isplitl [Hc1]; · iexists f1; iexact Hc1
  isplitl [HT HT_dst]
  · isplitl [HT]; · iexact HT
    iexists _; iexact HT_dst
  isplitl [HT_src]; · iexact HT_src
  isplitl [Ho1]
  · iexists _
    irw [← drainedN c apM (X := X1) hp1]
    iexact Ho1
  isplitl [Ho2]
  · iexists _
    irw [← drainedN c sgM (X := X2) hp2]
    iexact Ho2
  isplitl [Ho3]
  · iexists _
    irw [← drainedN c ftM (X := X3) hp3]
    iexact Ho3
  isplitl [Ho4]
  · iexists _
    irw [← drainedN c saM (X := X4) hp4]
    iexact Ho4
  iexists _
  irw [← drainedN c snM (X := X5) hp5]
  iexact Ho5

set_option backward.proofsInPublic true in
/-- A trip that neither starts nor ends the pipeline. -/
theorem trip1_mid (v32 z z' : BitVec 32) (k : Fin k0_t1_loop.trips) (h1 : 1 ≤ k.val) (h8 : k.val + 1 < 8) :
    iprop(keep1 c XA mkM nfM arg3 arg4 g3 g4 v0 v1 k.val ∗ fillW c edM eB cc0_scoped1 XA (sl 2 k.val) (bk 8 k.val)
      ∗ freeW c eB cc0_scoped1 (sl 2 (k.val + 1)) ∗ blkWP c edM XA (bk 8 (k.val + 1))
      ∗ news1 c k.val ∗ olds1 c XA arg3 arg4 g3 g4 v0 v1 k.val)
      ⊢ wp frame (wpE (defs₀ (F := F)) 𝒱₀ (c : Thread nD τ) none) Set.univ
          (body1 mkM hmk nfM hnf arg0 harg0 arg3 harg3 arg4 harg4 v0 v1 v32 z z' k (words1 k.val))
          (fun acc => iprop(⌜acc = words1 (k.val + 1)⌝ ∗ keep1 c XA mkM nfM arg3 arg4 g3 g4 v0 v1 (k.val + 1)
            ∗ fillW c edM eB cc0_scoped1 XA (sl 2 (k.val + 1)) (bk 8 (k.val + 1)) ∗ freeW c eB cc0_scoped1 (sl 2 k.val) ∗ blkWP c edM XA (bk 8 k.val)
            ∗ nows1 c XA arg3 arg4 g3 g4 v0 v1 k.val ∗ outs1 c XA arg3 arg4 g3 g4 v0 v1 k.val)) := by
  have hk : k.val < 8 := lt1 k
  have c1 := fetch1 k (by omega)
  obtain ⟨c2, c9, c10, c11, c12, c13⟩ := always1 k
  obtain ⟨c15, c16, c17, c18, c19⟩ := drain1 k (by omega)
  have w1 := chk1 k
  obtain ⟨w2, w3, w4, w5, w6, w7⟩ := chk2_7 k
  iintro ⟨⟨⟨%gm, %hgm, Hm⟩, ⟨%gn, %hgn, Hn⟩, H3, H4, ⟨%W, HW⟩⟩, ⟨%f0, HT⟩, ⟨Hc1, ⟨%f1, Hs1⟩⟩, Hb1,
    ⟨⟨⟨Ho1, ⟨%e1, Hos1⟩⟩, ⟨%X1, Hob1⟩⟩, ⟨⟨Ho2, ⟨%e2, Hos2⟩⟩, ⟨%X2, Hob2⟩⟩, ⟨⟨Ho3, ⟨%e3, Hos3⟩⟩, ⟨%X3, Hob3⟩⟩, ⟨⟨Ho4, ⟨%e4, Hos4⟩⟩, ⟨%X4, Hob4⟩⟩, ⟨⟨Ho5, ⟨%e5, Hos5⟩⟩, ⟨%X5, Hob5⟩⟩⟩,
    ⟨⟨%d1, HO1⟩, ⟨%d2, HO2⟩, ⟨%d3, HO3⟩, ⟨%d4, HO4⟩, ⟨%d5, HO5⟩⟩⟩
  dsimp only [body1, words1]
  sl_unfold [k0_t1_body]
  sl_exec (disch := first | sl_exact c1 | sl_exact c2 | sl_exact c9 | sl_exact c10 | sl_exact c11 | sl_exact c12 | sl_exact c13 | sl_exact c15 | sl_exact c16 | sl_exact c17 | sl_exact c18 | sl_exact c19)
  sl_step
  have hp1 : trip1_mid.sl.dma18 c XA arg3 arg4 g3 g4 v0 v1 k w1 w2 w3 e1 = (blkN apM (bk 8 k.val)).view.read (Elt F) (apArr c XA arg3 arg4 g3 g4 v0 v1) :=
    ap_eq c XA arg3 arg4 g3 g4 v0 v1 k.val hk _ _ _ _ _ e1
  have hp2 : trip1_mid.sl.dma18_1 c XA arg3 g3 v0 v1 k w1 w2 w4 e2 = (blkN sgM (bk 8 k.val)).view.read (Elt F) (sgArr c XA arg3 g3 v0 v1) :=
    sg_eq c XA arg3 g3 v0 v1 k.val hk _ _ _ _ e2
  have hp3 : trip1_mid.sl.dma18_2 c XA arg3 g3 v0 v1 k w1 w2 w5 e3 = (blkN ftM (bk 8 k.val)).view.read (Elt F) (ftArr c XA arg3 g3 v0 v1) :=
    ft_eq c XA arg3 g3 v0 v1 k.val hk _ _ _ _ e3
  have hp4 : trip1_mid.sl.dma18_3 c arg3 g3 v0 k w1 w6 e4 = (blkN saM (bk 8 k.val)).view.read (Elt F) (saArr c arg3 g3 v0) :=
    sa_eq c arg3 g3 v0 k.val hk _ _ e4
  have hp5 : trip1_mid.sl.dma18_4 c XA arg3 g3 v0 v1 k w2 w7 e5 = (blkN snM (bk 8 k.val)).view.read (Elt F) (snArr c XA arg3 g3 v0 v1) :=
    sn_eq c XA arg3 g3 v0 v1 k.val hk _ _ _ e5
  isplitr
  · ipureintro
    clear * - k
    revert k
    set_option synthInstance.maxSize 100000 in set_option synthInstance.maxHeartbeats 0 in decide
  isplitl [Hm Hn H3 H4 HW]
  · isplitl [Hm]
    · iexists _
      isplitr
      rotate_left
      · iexact Hm
      ipureintro
      exact fillW_rows mkM (maskBlk (edA c XA)) k.val hk gm (row_cur k.val hk) _ _ (mk_eq c XA k.val hk _ _) hgm
    isplitl [Hn]
    · iexists _
      isplitr
      rotate_left
      · iexact Hn
      ipureintro
      exact fillN_rows nfM (nfBlk v0 v1 (edA c XA) (atA c arg3 g3)) k.val hk gn (row_cur k.val hk) _ _ (nf_eq c XA arg3 g3 v0 v1 k.val hk _ _ _) hgn
    isplitl [H3]; · iexact H3
    isplitl [H4]; · iexact H4
    iexists _; iexact HW
  isplitl [Hc1]; · iexists f1; iexact Hc1
  isplitl [HT HT_dst]
  · isplitl [HT]; · iexact HT
    iexists _; iexact HT_dst
  isplitl [HT_src]; · iexact HT_src
  isplitl [Ho1 Ho2 Ho3 Ho4 Ho5]
  · isplitl [Ho1]
    · iexists _
      irw [← drainedN c apM (X := X1) hp1]
      iexact Ho1
    isplitl [Ho2]
    · iexists _
      irw [← drainedN c sgM (X := X2) hp2]
      iexact Ho2
    isplitl [Ho3]
    · iexists _
      irw [← drainedN c ftM (X := X3) hp3]
      iexact Ho3
    isplitl [Ho4]
    · iexists _
      irw [← drainedN c saM (X := X4) hp4]
      iexact Ho4
    iexists _
    irw [← drainedN c snM (X := X5) hp5]
    iexact Ho5
  isplitl [HO1 HO1_src HO1_dst]
  · isplitl [HO1 HO1_src]
    · isplitl [HO1]; · iexact HO1
      iexists _; iexact HO1_src
    iexact HO1_dst
  isplitl [HO2 HO2_src HO2_dst]
  · isplitl [HO2 HO2_src]
    · isplitl [HO2]; · iexact HO2
      iexists _; iexact HO2_src
    iexact HO2_dst
  isplitl [HO3 HO3_src HO3_dst]
  · isplitl [HO3 HO3_src]
    · isplitl [HO3]; · iexact HO3
      iexists _; iexact HO3_src
    iexact HO3_dst
  isplitl [HO4 HO4_src HO4_dst]
  · isplitl [HO4 HO4_src]
    · isplitl [HO4]; · iexact HO4
      iexists _; iexact HO4_src
    iexact HO4_dst
  isplitl [HO5 HO5_src]
  · isplitl [HO5]; · iexact HO5
    iexists _; iexact HO5_src
  iexact HO5_dst

set_option backward.proofsInPublic true in
/-- The last trip: nothing left to fetch. -/
theorem trip1_last (v32 z z' : BitVec 32) (k : Fin k0_t1_loop.trips) (h7 : k.val = 7) :
    iprop(keep1 c XA mkM nfM arg3 arg4 g3 g4 v0 v1 k.val ∗ fillW c edM eB cc0_scoped1 XA (sl 2 k.val) (bk 8 k.val)
      ∗ news1 c k.val ∗ olds1 c XA arg3 arg4 g3 g4 v0 v1 k.val)
      ⊢ wp frame (wpE (defs₀ (F := F)) 𝒱₀ (c : Thread nD τ) none) Set.univ
          (body1 mkM hmk nfM hnf arg0 harg0 arg3 harg3 arg4 harg4 v0 v1 v32 z z' k (words1 k.val))
          (fun acc => iprop(⌜acc = words1 (k.val + 1)⌝ ∗ keep1 c XA mkM nfM arg3 arg4 g3 g4 v0 v1 (k.val + 1)
            ∗ freeW c eB cc0_scoped1 (sl 2 k.val) ∗ blkWP c edM XA (bk 8 k.val)
            ∗ nows1 c XA arg3 arg4 g3 g4 v0 v1 k.val ∗ outs1 c XA arg3 arg4 g3 g4 v0 v1 k.val)) := by
  have hk : k.val < 8 := lt1 k
  have c1 := nofetch1 k (by omega)
  obtain ⟨c2, c9, c10, c11, c12, c13⟩ := always1 k
  obtain ⟨c15, c16, c17, c18, c19⟩ := drain1 k (by omega)
  have w1 := chk1 k
  obtain ⟨w2, w3, w4, w5, w6, w7⟩ := chk2_7 k
  iintro ⟨⟨⟨%gm, %hgm, Hm⟩, ⟨%gn, %hgn, Hn⟩, H3, H4, ⟨%W, HW⟩⟩, ⟨%f0, HT⟩,
    ⟨⟨⟨Ho1, ⟨%e1, Hos1⟩⟩, ⟨%X1, Hob1⟩⟩, ⟨⟨Ho2, ⟨%e2, Hos2⟩⟩, ⟨%X2, Hob2⟩⟩, ⟨⟨Ho3, ⟨%e3, Hos3⟩⟩, ⟨%X3, Hob3⟩⟩, ⟨⟨Ho4, ⟨%e4, Hos4⟩⟩, ⟨%X4, Hob4⟩⟩, ⟨⟨Ho5, ⟨%e5, Hos5⟩⟩, ⟨%X5, Hob5⟩⟩⟩,
    ⟨⟨%d1, HO1⟩, ⟨%d2, HO2⟩, ⟨%d3, HO3⟩, ⟨%d4, HO4⟩, ⟨%d5, HO5⟩⟩⟩
  dsimp only [body1, words1]
  sl_unfold [k0_t1_body]
  sl_exec (disch := first | sl_exact c1 | sl_exact c2 | sl_exact c9 | sl_exact c10 | sl_exact c11 | sl_exact c12 | sl_exact c13 | sl_exact c15 | sl_exact c16 | sl_exact c17 | sl_exact c18 | sl_exact c19)
  sl_step
  have hp1 : trip1_last.sl.dma18 c XA arg3 arg4 g3 g4 v0 v1 k w1 w2 w3 e1 = (blkN apM (bk 8 k.val)).view.read (Elt F) (apArr c XA arg3 arg4 g3 g4 v0 v1) :=
    ap_eq c XA arg3 arg4 g3 g4 v0 v1 k.val hk _ _ _ _ _ e1
  have hp2 : trip1_last.sl.dma18_1 c XA arg3 g3 v0 v1 k w1 w2 w4 e2 = (blkN sgM (bk 8 k.val)).view.read (Elt F) (sgArr c XA arg3 g3 v0 v1) :=
    sg_eq c XA arg3 g3 v0 v1 k.val hk _ _ _ _ e2
  have hp3 : trip1_last.sl.dma18_2 c XA arg3 g3 v0 v1 k w1 w2 w5 e3 = (blkN ftM (bk 8 k.val)).view.read (Elt F) (ftArr c XA arg3 g3 v0 v1) :=
    ft_eq c XA arg3 g3 v0 v1 k.val hk _ _ _ _ e3
  have hp4 : trip1_last.sl.dma18_3 c arg3 g3 v0 k w1 w6 e4 = (blkN saM (bk 8 k.val)).view.read (Elt F) (saArr c arg3 g3 v0) :=
    sa_eq c arg3 g3 v0 k.val hk _ _ e4
  have hp5 : trip1_last.sl.dma18_4 c XA arg3 g3 v0 v1 k w2 w7 e5 = (blkN snM (bk 8 k.val)).view.read (Elt F) (snArr c XA arg3 g3 v0 v1) :=
    sn_eq c XA arg3 g3 v0 v1 k.val hk _ _ _ e5
  isplitr
  · ipureintro
    clear * - k
    revert k
    set_option synthInstance.maxSize 100000 in set_option synthInstance.maxHeartbeats 0 in decide
  isplitl [Hm Hn H3 H4 HW]
  · isplitl [Hm]
    · iexists _
      isplitr
      rotate_left
      · iexact Hm
      ipureintro
      exact fillW_rows mkM (maskBlk (edA c XA)) k.val hk gm (row_cur k.val hk) _ _ (mk_eq c XA k.val hk _ _) hgm
    isplitl [Hn]
    · iexists _
      isplitr
      rotate_left
      · iexact Hn
      ipureintro
      exact fillN_rows nfM (nfBlk v0 v1 (edA c XA) (atA c arg3 g3)) k.val hk gn (row_cur k.val hk) _ _ (nf_eq c XA arg3 g3 v0 v1 k.val hk _ _ _) hgn
    isplitl [H3]; · iexact H3
    isplitl [H4]; · iexact H4
    iexists _; iexact HW
  isplitl [HT HT_dst]
  · isplitl [HT]; · iexact HT
    iexists _; iexact HT_dst
  isplitl [HT_src]; · iexact HT_src
  isplitl [Ho1 Ho2 Ho3 Ho4 Ho5]
  · isplitl [Ho1]
    · iexists _
      irw [← drainedN c apM (X := X1) hp1]
      iexact Ho1
    isplitl [Ho2]
    · iexists _
      irw [← drainedN c sgM (X := X2) hp2]
      iexact Ho2
    isplitl [Ho3]
    · iexists _
      irw [← drainedN c ftM (X := X3) hp3]
      iexact Ho3
    isplitl [Ho4]
    · iexists _
      irw [← drainedN c saM (X := X4) hp4]
      iexact Ho4
    iexists _
    irw [← drainedN c snM (X := X5) hp5]
    iexact Ho5
  isplitl [HO1 HO1_src HO1_dst]
  · isplitl [HO1 HO1_src]
    · isplitl [HO1]; · iexact HO1
      iexists _; iexact HO1_src
    iexact HO1_dst
  isplitl [HO2 HO2_src HO2_dst]
  · isplitl [HO2 HO2_src]
    · isplitl [HO2]; · iexact HO2
      iexists _; iexact HO2_src
    iexact HO2_dst
  isplitl [HO3 HO3_src HO3_dst]
  · isplitl [HO3 HO3_src]
    · isplitl [HO3]; · iexact HO3
      iexists _; iexact HO3_src
    iexact HO3_dst
  isplitl [HO4 HO4_src HO4_dst]
  · isplitl [HO4 HO4_src]
    · isplitl [HO4]; · iexact HO4
      iexists _; iexact HO4_src
    iexact HO4_dst
  isplitl [HO5 HO5_src]
  · isplitl [HO5]; · iexact HO5
    iexists _; iexact HO5_src
  iexact HO5_dst

end Trip
end Cert.Proof.Trip1

end
-- ==== Proof.Loop2.lean ====
module

public import proofs.«01_k».proof.Proof.Trip2

/-! # The edge pipeline's loop

Before trip `k` the read ring has block `k` in flight (none after the last trip) and every other block of the
two-hop weights home; the output ring has blocks up to `k - 2` at the edge probabilities and block `k - 1` draining. -/

@[expose] public section

noncomputable section

namespace Cert.Proof.Loop2

open Cert.KernelIdeal Cert.KernelIdeal.Gen Cert.Proof.Names Cert.Proof.Blocks Cert.Proof.Pieces Cert.Proof.Trip2
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring

variable {F : FTy → Type} [FloatOps F] [Named F]

local notation "𝕄" => MT nD τ sig Unit (Elt F) ℕ (UU nD τ) ℕ

theorem sl_two (k : ℕ) : sl 2 (k + 1 + 1) = sl 2 k := by rw [show k + 1 + 1 = k + 2 from rfl, sl_add]

section Homes

theorem homes_here (H : Fin 8 → sProp 𝕄) (k : ℕ) (hk : k + 1 < 8) :
    bigSep (homeSet 1 k) H = iprop(H (bk 8 (k + 1)) ∗ bigSep ((homeSet 1 k).erase (bk 8 (k + 1))) H) := by
  conv_lhs => rw [homeSet_out 1 k hk, bigSep_insert (bkL_not_mem_erase 1 k)]
  rfl
theorem homes_next (H : Fin 8 → sProp 𝕄) (k : ℕ) (hk : k + 1 < 8) :
    bigSep (homeSet 1 (k + 1)) H = iprop(H (bk 8 k) ∗ bigSep ((homeSet 1 k).erase (bk 8 (k + 1))) H) := by
  conv_lhs => rw [homeSet_succ 1 k hk, bigSep_insert (bk_not_mem_erase 1 k (by omega) (by decide))]
  rfl
theorem homes_last (H : Fin 8 → sProp 𝕄) (k : ℕ) (hk : k = 7) :
    bigSep (homeSet 1 (k + 1)) H = iprop(H (bk 8 k) ∗ bigSep (homeSet 1 k) H) := by
  conv_lhs => rw [homeSet_succ_tail 1 k (by omega) (by omega), bigSep_insert (bk_not_mem_homeSet 1 k (by omega) (by decide))]
  rfl
end Homes

section Loop
variable (c : Dev nD) (XT : Held (F := F) c thM)
  (mkM : Memref sig .tc .vmem S4096x4096 .i8) (hmk : mkM.IsWhole) (nfM : Memref sig .tc .vmem S4096x128 .f32) (hnf : nfM.IsWhole)
  (gm : Held (F := F) c mkM) (gn : Held (F := F) c nfM)
  (arg0 : Memref sig .tc .smem S4x2 .f32) (harg0 : arg0.IsWhole)
  (arg3 : Memref sig .tc .vmem S4096x128 .f32) (harg3 : arg3.IsWhole)
  (arg4 : Memref sig .tc .vmem S1x4096 .f32) (harg4 : arg4.IsWhole)
  (v3 : Elt F .f32) (v5 : FVec F S1x4096 .f32) (v6 : F .f32)

/-- The output ring before trip `k`. -/
abbrev out2 (k : ℕ) : sProp 𝕄 :=
  AtB 1 (freeW (F := F) c oB cc0_scoped15) (drainW c epM oB cc0_scoped15 (edgeArr c XT mkM nfM gm gn v3 v5 v6)) (aheadW (F := F) c epM)
    (blkWP c epM (edgeArr c XT mkM nfM gm gn v3 v5 v6)) k

/-- What the loop holds before trip `k`. -/
def res2 (k : ℕ) : sProp 𝕄 :=
  iprop(keep2 c mkM nfM gm gn ∗ bigSep (homeSet 1 k) (blkWP c thM XT)
    ∗ roleAt (freeW (F := F) c tB cc0_scoped13 (sl 2 k)) (fillW c thM tB cc0_scoped13 XT (sl 2 k)) k
    ∗ freeW (F := F) c tB cc0_scoped13 (sl 2 (k + 1)) ∗ out2 c XT mkM nfM gm gn v3 v5 v6 k)

theorem step2 (v28 z : BitVec 32) (k : Fin k0_t2_loop.trips) :
    res2 c XT mkM nfM gm gn v3 v5 v6 k.val
      ⊢ wp frame (wpE (defs₀ (F := F)) 𝒱₀ (c : Thread nD τ) none) Set.univ
          (body2 mkM hmk nfM hnf arg0 harg0 arg3 harg3 arg4 harg4 v3 v5 v6 v28 z k (words2 k.val))
          (fun acc => iprop(⌜acc = words2 (k.val + 1)⌝ ∗ res2 c XT mkM nfM gm gn v3 v5 v6 (k.val + 1))) := by
  have hk : k.val < 8 := lt2 k
  unfold res2 out2
  rcases Nat.eq_zero_or_pos k.val with h0 | h1
  · rw [homes_here _ k.val (by omega), homes_next _ k.val (by omega), roleAt_of_lt _ _ _ hk, roleAt_of_lt _ _ _ (show k.val + 1 < 8 by omega), sl_two,
      AtB2_zero' _ _ _ _ _ _ h0, AtB21_next_zero' _ _ _ _ _ h0]
    iintro ⟨Hk, ⟨Hh, Hr⟩, HT, Hf, ⟨⟨Ha, Har⟩, Ho, Ho1⟩⟩
    iapply (wp_wand_r Idealize.ShloMosaic.frame (wpE (defs₀ (F := F)) 𝒱₀ (c : Thread nD τ) none) Set.univ)
    isplitl [Hk Hh HT Hf Ho Ha]
    · iapply (trip2_first c XT mkM hmk nfM hnf gm gn arg0 harg0 arg3 harg3 arg4 harg4 v3 v5 v6 v28 z k h0)
      iframe
    · iintro %acc ⟨%ha, Hk, HT, Hf, Hh, HO⟩
      isplitr; · ipureintro; exact ha
      iframe
  rcases Nat.lt_or_ge (k.val + 1) 8 with h8 | h8
  · rw [homes_here _ k.val (by omega), homes_next _ k.val (by omega), roleAt_of_lt _ _ _ hk, roleAt_of_lt _ _ _ (show k.val + 1 < 8 by omega), sl_two,
      AtB21_here _ _ _ _ _ h1 hk, AtB21_next _ _ _ _ _ h1 hk]
    iintro ⟨Hk, ⟨Hh, Hr⟩, HT, Hf, ⟨⟨Ha, Har⟩, Hb, Ho, Ho1⟩⟩
    iapply (wp_wand_r Idealize.ShloMosaic.frame (wpE (defs₀ (F := F)) 𝒱₀ (c : Thread nD τ) none) Set.univ)
    isplitl [Hk Hh HT Hf Ho Ha Ho1]
    · iapply (trip2_mid c XT mkM hmk nfM hnf gm gn arg0 harg0 arg3 harg3 arg4 harg4 v3 v5 v6 v28 z k h1 h8)
      iframe
    · iintro %acc ⟨%ha, Hk, HT, Hf, Hh, HO, Hof, Hbb⟩
      isplitr; · ipureintro; exact ha
      iframe
  · rw [homes_last _ k.val (by omega), roleAt_of_lt _ _ _ hk, roleAt_of_le _ _ _ h8, sl_two,
      AtB21_here _ _ _ _ _ h1 hk, AtB21_next _ _ _ _ _ h1 hk]
    iintro ⟨Hk, Hr, HT, Hf1, ⟨⟨Ha, Har⟩, Hb, Ho, Ho1⟩⟩
    iapply (wp_wand_r Idealize.ShloMosaic.frame (wpE (defs₀ (F := F)) 𝒱₀ (c : Thread nD τ) none) Set.univ)
    isplitl [Hk HT Ho Ha Ho1]
    · iapply (trip2_last c XT mkM hmk nfM hnf gm gn arg0 harg0 arg3 harg3 arg4 harg4 v3 v5 v6 v28 z k (by omega))
      iframe
    · iintro %acc ⟨%ha, Hk, Hf, Hh, HO, Hof, Hbb⟩
      isplitr; · ipureintro; exact ha
      iframe

set_option warn.classDefReducibility false in
/-- The loop's invariant. -/
@[sl_loop] def loopInv2 (v28 z : BitVec 32) (init : BitVec 32 × BitVec 32 × BitVec 32 × BitVec 32 × BitVec 32) :
    LoopInvTy_k0_t2 (F := F) Unit ℕ (UU nD τ) ℕ 𝒱₀ c none Set.univ arg0 harg0 (Memref.whole main_arg6) (Memref.isWhole_whole _) (Memref.whole main_arg7) (Memref.isWhole_whole _) arg3 harg3 arg4 harg4
    (Memref.whole main_v8_0) (Memref.isWhole_whole _) (Memref.whole main_v8_1) (Memref.isWhole_whole _) (Memref.whole main_v8_2) (Memref.isWhole_whole _)
    (Memref.whole main_v8_3) (Memref.isWhole_whole _) (Memref.whole main_v8_4) (Memref.isWhole_whole _) (Memref.whole main_v8_5) (Memref.isWhole_whole _)
    mkM hmk nfM hnf (Memref.whole cc0_scoped0) (Memref.isWhole_whole _) cc0_scoped1
    (Memref.whole cc0_scoped2) (Memref.isWhole_whole _) cc0_scoped3 (Memref.whole cc0_scoped4) (Memref.isWhole_whole _) cc0_scoped5
    (Memref.whole cc0_scoped6) (Memref.isWhole_whole _) cc0_scoped7 (Memref.whole cc0_scoped8) (Memref.isWhole_whole _) cc0_scoped9
    (Memref.whole cc0_scoped10) (Memref.isWhole_whole _) cc0_scoped11 (Memref.whole cc0_scoped12) (Memref.isWhole_whole _) cc0_scoped13
    (Memref.whole cc0_scoped14) (Memref.isWhole_whole _) cc0_scoped15 v3 v5 v6 v28 z init where
  inv k acc := iprop(⌜acc = words2 k⌝ ∗ res2 c XT mkM nfM gm gn v3 v5 v6 k)
  step k acc := by
    iintro ⟨%ha, H⟩
    subst ha
    iapply (step2 c XT mkM hmk nfM hnf gm gn arg0 harg0 arg3 harg3 arg4 harg4 v3 v5 v6 v28 z k)
    iexact H

end Loop
end Cert.Proof.Loop2

end
-- ==== Proof.Loop1.lean ====
module

public import proofs.«01_k».proof.Proof.Trip1
public import proofs.«01_k».proof.Proof.Loop2

/-! # The feature pipeline's loop

Before trip `k` the read ring has block `k` of the adjacency matrix in flight and every other block home; each of the
five output rings has blocks up to `k - 2` at its array and block `k - 1` draining; the two scratch arrays hold their
values in the rows before `512 k`. -/

@[expose] public section

noncomputable section

namespace Cert.Proof.Loop1

open Cert.KernelIdeal Cert.KernelIdeal.Gen Cert.Proof.Names Cert.Proof.Blocks Cert.Proof.Pieces Cert.Proof.Trip1 Cert.Proof.Loop2
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring

variable {F : FTy → Type} [FloatOps F] [Named F]

local notation "𝕄" => MT nD τ sig Unit (Elt F) ℕ (UU nD τ) ℕ

section Loop
variable (c : Dev nD) (XA : Held (F := F) c edM)
  (mkM : Memref sig .tc .vmem S4096x4096 .i8) (hmk : mkM.IsWhole) (nfM : Memref sig .tc .vmem S4096x128 .f32) (hnf : nfM.IsWhole)
  (arg0 : Memref sig .tc .smem S4x2 .f32) (harg0 : arg0.IsWhole)
  (arg3 : Memref sig .tc .vmem S4096x128 .f32) (harg3 : arg3.IsWhole)
  (arg4 : Memref sig .tc .vmem S1x4096 .f32) (harg4 : arg4.IsWhole)
  (g3 : Held (F := F) c arg3) (g4 : Held (F := F) c arg4)
  (v0 v1 : Elt F .f32)

/-- An output ring before trip `k`, its array ending at `G`. -/
abbrev ringN (A : Memref sig .tc .hbm S4096x128 .f32) (B : Memref sig .tc .vmem S2x512x128 .f32) (S : DmaSems sig S2) (G : Held (F := F) c A) (k : ℕ) : sProp 𝕄 :=
  AtB 1 (freeN (F := F) c B S) (drainN c A B S G) (aheadN (F := F) c A) (blkNP c A G) k
/-- The five output rings. -/
abbrev rings1 (k : ℕ) : sProp 𝕄 := iprop(ringN c apM apB cc0_scoped3 (apArr c XA arg3 arg4 g3 g4 v0 v1) k
    ∗ ringN c sgM sgB cc0_scoped5 (sgArr c XA arg3 g3 v0 v1) k
    ∗ ringN c ftM ftB cc0_scoped7 (ftArr c XA arg3 g3 v0 v1) k
    ∗ ringN c saM saB cc0_scoped9 (saArr c arg3 g3 v0) k
    ∗ ringN c snM snB cc0_scoped11 (snArr c XA arg3 g3 v0 v1) k)

/-- What the loop holds before trip `k`. -/
def res1 (k : ℕ) : sProp 𝕄 :=
  iprop(keep1 c XA mkM nfM arg3 arg4 g3 g4 v0 v1 k ∗ bigSep (homeSet 1 k) (blkWP c edM XA)
    ∗ roleAt (freeW (F := F) c eB cc0_scoped1 (sl 2 k)) (fillW c edM eB cc0_scoped1 XA (sl 2 k)) k
    ∗ freeW (F := F) c eB cc0_scoped1 (sl 2 (k + 1)) ∗ rings1 c XA arg3 arg4 g3 g4 v0 v1 k)

theorem step1 (v32 z z' : BitVec 32) (k : Fin k0_t1_loop.trips) :
    res1 c XA mkM nfM arg3 arg4 g3 g4 v0 v1 k.val
      ⊢ wp frame (wpE (defs₀ (F := F)) 𝒱₀ (c : Thread nD τ) none) Set.univ
          (body1 mkM hmk nfM hnf arg0 harg0 arg3 harg3 arg4 harg4 v0 v1 v32 z z' k (words1 k.val))
          (fun acc => iprop(⌜acc = words1 (k.val + 1)⌝ ∗ res1 c XA mkM nfM arg3 arg4 g3 g4 v0 v1 (k.val + 1))) := by
  have hk : k.val < 8 := lt1 k
  unfold res1
  rcases Nat.eq_zero_or_pos k.val with h0 | h1
  · rw [homes_here _ k.val (by omega), homes_next _ k.val (by omega), roleAt_of_lt _ _ _ hk, roleAt_of_lt _ _ _ (show k.val + 1 < 8 by omega), sl_two]
    unfold rings1 ringN
    rw [AtB2_zero' _ _ _ _ _ _ h0, AtB2_zero' _ _ _ _ _ _ h0, AtB2_zero' _ _ _ _ _ _ h0, AtB2_zero' _ _ _ _ _ _ h0, AtB2_zero' _ _ _ _ _ _ h0,
      AtB21_next_zero' _ _ _ _ _ h0, AtB21_next_zero' _ _ _ _ _ h0, AtB21_next_zero' _ _ _ _ _ h0, AtB21_next_zero' _ _ _ _ _ h0, AtB21_next_zero' _ _ _ _ _ h0]
    iintro ⟨Hk, ⟨Hh, Hr⟩, HT, Hf, ⟨⟨⟨Ha1, Har1⟩, Ho1, Hof1⟩, ⟨⟨Ha2, Har2⟩, Ho2, Hof2⟩, ⟨⟨Ha3, Har3⟩, Ho3, Hof3⟩, ⟨⟨Ha4, Har4⟩, Ho4, Hof4⟩, ⟨⟨Ha5, Har5⟩, Ho5, Hof5⟩⟩⟩
    iapply (wp_wand_r Idealize.ShloMosaic.frame (wpE (defs₀ (F := F)) 𝒱₀ (c : Thread nD τ) none) Set.univ)
    isplitl [Hk Hh HT Hf Ho1 Ha1 Ho2 Ha2 Ho3 Ha3 Ho4 Ha4 Ho5 Ha5]
    · iapply (trip1_first c XA mkM hmk nfM hnf arg0 harg0 arg3 harg3 arg4 harg4 g3 g4 v0 v1 v32 z z' k h0)
      unfold news1 newN
      iframe
    · iintro %acc ⟨%ha, Hk, HT, Hf, Hh, ⟨HO1, HO2, HO3, HO4, HO5⟩⟩
      isplitr; · ipureintro; exact ha
      iframe
  rcases Nat.lt_or_ge (k.val + 1) 8 with h8 | h8
  · rw [homes_here _ k.val (by omega), homes_next _ k.val (by omega), roleAt_of_lt _ _ _ hk, roleAt_of_lt _ _ _ (show k.val + 1 < 8 by omega), sl_two]
    unfold rings1 ringN
    rw [AtB21_here _ _ _ _ _ h1 hk, AtB21_here _ _ _ _ _ h1 hk, AtB21_here _ _ _ _ _ h1 hk, AtB21_here _ _ _ _ _ h1 hk, AtB21_here _ _ _ _ _ h1 hk,
      AtB21_next _ _ _ _ _ h1 hk, AtB21_next _ _ _ _ _ h1 hk, AtB21_next _ _ _ _ _ h1 hk, AtB21_next _ _ _ _ _ h1 hk, AtB21_next _ _ _ _ _ h1 hk]
    iintro ⟨Hk, ⟨Hh, Hr⟩, HT, Hf, ⟨⟨⟨Ha1, Har1⟩, Hb1, Ho1, Hp1⟩, ⟨⟨Ha2, Har2⟩, Hb2, Ho2, Hp2⟩, ⟨⟨Ha3, Har3⟩, Hb3, Ho3, Hp3⟩, ⟨⟨Ha4, Har4⟩, Hb4, Ho4, Hp4⟩, ⟨⟨Ha5, Har5⟩, Hb5, Ho5, Hp5⟩⟩⟩
    iapply (wp_wand_r Idealize.ShloMosaic.frame (wpE (defs₀ (F := F)) 𝒱₀ (c : Thread nD τ) none) Set.univ)
    isplitl [Hk Hh HT Hf Ho1 Ha1 Hp1 Ho2 Ha2 Hp2 Ho3 Ha3 Hp3 Ho4 Ha4 Hp4 Ho5 Ha5 Hp5]
    · iapply (trip1_mid c XA mkM hmk nfM hnf arg0 harg0 arg3 harg3 arg4 harg4 g3 g4 v0 v1 v32 z z' k h1 h8)
      unfold news1 olds1 newN oldN
      iframe
    · iintro %acc ⟨%ha, Hk, HT, Hf, Hh, ⟨HO1, HO2, HO3, HO4, HO5⟩, ⟨⟨Hof1, Hbb1⟩, ⟨Hof2, Hbb2⟩, ⟨Hof3, Hbb3⟩, ⟨Hof4, Hbb4⟩, ⟨Hof5, Hbb5⟩⟩⟩
      isplitr; · ipureintro; exact ha
      iframe
  · rw [homes_last _ k.val (by omega), roleAt_of_lt _ _ _ hk, roleAt_of_le _ _ _ h8, sl_two]
    unfold rings1 ringN
    rw [AtB21_here _ _ _ _ _ h1 hk, AtB21_here _ _ _ _ _ h1 hk, AtB21_here _ _ _ _ _ h1 hk, AtB21_here _ _ _ _ _ h1 hk, AtB21_here _ _ _ _ _ h1 hk,
      AtB21_next _ _ _ _ _ h1 hk, AtB21_next _ _ _ _ _ h1 hk, AtB21_next _ _ _ _ _ h1 hk, AtB21_next _ _ _ _ _ h1 hk, AtB21_next _ _ _ _ _ h1 hk]
    iintro ⟨Hk, Hr, HT, Hf1, ⟨⟨⟨Ha1, Har1⟩, Hb1, Ho1, Hp1⟩, ⟨⟨Ha2, Har2⟩, Hb2, Ho2, Hp2⟩, ⟨⟨Ha3, Har3⟩, Hb3, Ho3, Hp3⟩, ⟨⟨Ha4, Har4⟩, Hb4, Ho4, Hp4⟩, ⟨⟨Ha5, Har5⟩, Hb5, Ho5, Hp5⟩⟩⟩
    iapply (wp_wand_r Idealize.ShloMosaic.frame (wpE (defs₀ (F := F)) 𝒱₀ (c : Thread nD τ) none) Set.univ)
    isplitl [Hk HT Ho1 Ha1 Hp1 Ho2 Ha2 Hp2 Ho3 Ha3 Hp3 Ho4 Ha4 Hp4 Ho5 Ha5 Hp5]
    · iapply (trip1_last c XA mkM hmk nfM hnf arg0 harg0 arg3 harg3 arg4 harg4 g3 g4 v0 v1 v32 z z' k (by omega))
      unfold news1 olds1 newN oldN
      iframe
    · iintro %acc ⟨%ha, Hk, Hf, Hh, ⟨HO1, HO2, HO3, HO4, HO5⟩, ⟨⟨Hof1, Hbb1⟩, ⟨Hof2, Hbb2⟩, ⟨Hof3, Hbb3⟩, ⟨Hof4, Hbb4⟩, ⟨Hof5, Hbb5⟩⟩⟩
      isplitr; · ipureintro; exact ha
      iframe

set_option warn.classDefReducibility false in
/-- The loop's invariant. -/
@[sl_loop] def loopInv1 (v32 z z' : BitVec 32) (init : W13) :
    LoopInvTy_k0_t1 (F := F) Unit ℕ (UU nD τ) ℕ 𝒱₀ c none Set.univ arg0 harg0 (Memref.whole main_arg6) (Memref.isWhole_whole _) (Memref.whole main_arg7) (Memref.isWhole_whole _) arg3 harg3 arg4 harg4
    (Memref.whole main_v8_0) (Memref.isWhole_whole _) (Memref.whole main_v8_1) (Memref.isWhole_whole _) (Memref.whole main_v8_2) (Memref.isWhole_whole _)
    (Memref.whole main_v8_3) (Memref.isWhole_whole _) (Memref.whole main_v8_4) (Memref.isWhole_whole _) (Memref.whole main_v8_5) (Memref.isWhole_whole _)
    mkM hmk nfM hnf (Memref.whole cc0_scoped0) (Memref.isWhole_whole _) cc0_scoped1
    (Memref.whole cc0_scoped2) (Memref.isWhole_whole _) cc0_scoped3 (Memref.whole cc0_scoped4) (Memref.isWhole_whole _) cc0_scoped5
    (Memref.whole cc0_scoped6) (Memref.isWhole_whole _) cc0_scoped7 (Memref.whole cc0_scoped8) (Memref.isWhole_whole _) cc0_scoped9
    (Memref.whole cc0_scoped10) (Memref.isWhole_whole _) cc0_scoped11 (Memref.whole cc0_scoped12) (Memref.isWhole_whole _) cc0_scoped13
    (Memref.whole cc0_scoped14) (Memref.isWhole_whole _) cc0_scoped15 v0 v1 v32 z z' init where
  inv k acc := iprop(⌜acc = words1 k⌝ ∗ res1 c XA mkM nfM arg3 arg4 g3 g4 v0 v1 k)
  step k acc := by
    iintro ⟨%ha, H⟩
    subst ha
    iapply (step1 c XA mkM hmk nfM hnf arg0 harg0 arg3 harg3 arg4 harg4 g3 g4 v0 v1 v32 z z' k)
    iexact H

end Loop
end Cert.Proof.Loop1

end
-- ==== Proof.Body.lean ====
module

public import proofs.«01_k».proof.Proof.Loop1

/-! # The kernel's body

The first edge block is fetched, the feature pipeline runs its eight trips, its last five writes are waited for; then
the first two-hop block is fetched, the edge pipeline runs its eight trips, and its last write is waited for. -/

@[expose] public section

noncomputable section

namespace Cert.Proof.Body

open Cert.KernelIdeal Cert.KernelIdeal.Gen Cert.Proof.Names Cert.Proof.Blocks Cert.Proof.Pieces Cert.Proof.Trip1 Cert.Proof.Trip2 Cert.Proof.Loop1 Cert.Proof.Loop2
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring

variable {F : FTy → Type} [FloatOps F] [Named F]

local notation "𝕄" => MT nD τ sig Unit (Elt F) ℕ (UU nD τ) ℕ

section Body
variable (c : Dev nD) (XA : Held (F := F) c edM) (XT : Held (F := F) c thM)
  (mkM : Memref sig .tc .vmem S4096x4096 .i8) (hmk : mkM.IsWhole) (nfM : Memref sig .tc .vmem S4096x128 .f32) (hnf : nfM.IsWhole)
  (arg0 : Memref sig .tc .smem S4x2 .f32) (harg0 : arg0.IsWhole)
  (arg3 : Memref sig .tc .vmem S4096x128 .f32) (harg3 : arg3.IsWhole)
  (arg4 : Memref sig .tc .vmem S1x4096 .f32) (harg4 : arg4.IsWhole)
  (g0 : Held (F := F) c arg0) (g3 : Held (F := F) c arg3) (g4 : Held (F := F) c arg4)

/-- The body, its staging and scratch buffers given, the arrays and the two-slot buffers its own. -/
abbrev bodyG : Prog (TpuEff nD τ sig (Elt F) Λ₀ .tc) PUnit :=
  cc0__fused_kernel arg0 harg0 (Memref.whole main_arg6) (Memref.isWhole_whole _) (Memref.whole main_arg7) (Memref.isWhole_whole _) arg3 harg3 arg4 harg4
    (Memref.whole main_v8_0) (Memref.isWhole_whole _) (Memref.whole main_v8_1) (Memref.isWhole_whole _) (Memref.whole main_v8_2) (Memref.isWhole_whole _)
    (Memref.whole main_v8_3) (Memref.isWhole_whole _) (Memref.whole main_v8_4) (Memref.isWhole_whole _) (Memref.whole main_v8_5) (Memref.isWhole_whole _)
    mkM hmk nfM hnf (Memref.whole cc0_scoped0) (Memref.isWhole_whole _) cc0_scoped1
    (Memref.whole cc0_scoped2) (Memref.isWhole_whole _) cc0_scoped3 (Memref.whole cc0_scoped4) (Memref.isWhole_whole _) cc0_scoped5
    (Memref.whole cc0_scoped6) (Memref.isWhole_whole _) cc0_scoped7 (Memref.whole cc0_scoped8) (Memref.isWhole_whole _) cc0_scoped9
    (Memref.whole cc0_scoped10) (Memref.isWhole_whole _) cc0_scoped11 (Memref.whole cc0_scoped12) (Memref.isWhole_whole _) cc0_scoped13
    (Memref.whole cc0_scoped14) (Memref.isWhole_whole _) cc0_scoped15

/-- Row `j`, column 0. -/
abbrev ix (j : Fin 4) : S4x2.Idx := fun a => match a with | ⟨0, _⟩ => j | ⟨1, _⟩ => (0 : Fin 2)
/-- The parameter in row `j`, column 0 of the staged parameters. -/
abbrev prm (j : Fin 4) : Elt F .f32 := arg0.view.read (Elt F) g0 (ix j)

theorem prm_read (off : Fin 2 → ℕ) (h : ∀ a, off a + S1x1.size a ≤ S4x2.size a) (j : Fin 4) (ho : off = ![j.val, 0]) :
    arg0.view.readAt (Elt F) (Rect.unit (s := S4x2) off S1x1.size h).toLoadRect g0 (Shape.Idx.first (show 0 < S1x1.numel by decide)) = prm c arg0 g0 j := by
  subst ho
  show arg0.view.read (Elt F) g0 _ = arg0.view.read (Elt F) g0 (ix j)
  refine congrArg (arg0.view.read (Elt F) g0) (funext fun a => Fin.ext ?_)
  match a with
  | ⟨0, _⟩ => simp [Rect.unit, Shape.Idx.first, ix]
  | ⟨1, _⟩ => rfl

/-- An output ring before its first trip. -/
abbrev bootN (A : Memref sig .tc .hbm S4096x128 .f32) (B : Memref sig .tc .vmem S2x512x128 .f32) (S : DmaSems sig S2) : sProp 𝕄 :=
  AtB₀ (freeN (F := F) c B S) (aheadN (F := F) c A)
/-- An output ring after everything has drained, its array at `G`. -/
abbrev doneN (A : Memref sig .tc .hbm S4096x128 .f32) (B : Memref sig .tc .vmem S2x512x128 .f32) (S : DmaSems sig S2) (G : Held (F := F) c A) : sProp 𝕄 :=
  AtBEnd (freeN (F := F) c B S) (blkNP c A G)

/-- The edge probabilities the body leaves. -/
abbrev epArr : Held (F := F) c epM :=
  wide (edgeBlk (prm c arg0 g0 1) (k0_pay17 (psA c arg4 g4)) (k0_pay18 (prm c arg0 g0 0)) (mkFn c XA)
    (nfFn c XA arg3 g3 (prm c arg0 g0 2) (prm c arg0 g0 3)) (thM.view.read (Elt F) XT))

/-- A two-slot buffer, both slots free. -/
abbrev slotsW (B : Memref sig .tc .vmem S2x512x4096 .f32) (S : DmaSems sig S2) : sProp 𝕄 := bigSep Finset.univ (freeW (F := F) c B S)

/-- What the body holds before and after it runs, but for the outputs. -/
abbrev KEPT : sProp 𝕄 := iprop((memP c arg0 g0 ∗ memP c arg3 g3 ∗ memP c arg4 g4 ∗ (∃ g, memP c mkM g) ∗ (∃ g, memP c nfM g) ∗ owesP c)
  ∗ (bigSep Finset.univ (blkWP c edM XA) ∗ slotsW (F := F) c eB cc0_scoped1) ∗ (bigSep Finset.univ (blkWP c thM XT) ∗ slotsW (F := F) c tB cc0_scoped13))
/-- What the body is handed. -/
abbrev PRE : sProp 𝕄 := iprop(KEPT c XA XT mkM nfM arg0 arg3 arg4 g0 g3 g4
  ∗ (bootN c apM apB cc0_scoped3 ∗ bootN c sgM sgB cc0_scoped5 ∗ bootN c ftM ftB cc0_scoped7 ∗ bootN c saM saB cc0_scoped9 ∗ bootN c snM snB cc0_scoped11)
  ∗ AtB₀ (freeW (F := F) c oB cc0_scoped15) (aheadW (F := F) c epM))
/-- What the body hands back. -/
abbrev POST : sProp 𝕄 := iprop(KEPT c XA XT mkM nfM arg0 arg3 arg4 g0 g3 g4
  ∗ (doneN c apM apB cc0_scoped3 (apArr c XA arg3 arg4 g3 g4 (prm c arg0 g0 2) (prm c arg0 g0 3)) ∗ doneN c sgM sgB cc0_scoped5 (sgArr c XA arg3 g3 (prm c arg0 g0 2) (prm c arg0 g0 3))
    ∗ doneN c ftM ftB cc0_scoped7 (ftArr c XA arg3 g3 (prm c arg0 g0 2) (prm c arg0 g0 3)) ∗ doneN c saM saB cc0_scoped9 (saArr c arg3 g3 (prm c arg0 g0 2))
    ∗ doneN c snM snB cc0_scoped11 (snArr c XA arg3 g3 (prm c arg0 g0 2) (prm c arg0 g0 3)))
  ∗ AtBEnd (freeW (F := F) c oB cc0_scoped15) (blkWP c epM (epArr c XA XT arg0 arg3 arg4 g0 g3 g4)))

/-- Before the first trip block 0 is apart. -/
theorem homes_boot (H : Fin 8 → sProp 𝕄) : bigSep Finset.univ H = iprop(H (bk 8 0) ∗ bigSep (homeSet 1 0) H) := by
  rw [show (Finset.univ : Finset (Fin 8)) = insert (bk 8 0) (homeSet 1 0) by decide, bigSep_insert (by decide)]
  rfl
/-- After the last trip every block is home. -/
theorem homes_end (H : Fin 8 → sProp 𝕄) : bigSep (homeSet 1 8) H = bigSep Finset.univ H := by
  rw [show (Finset.univ : Finset (Fin 8)) = homeSet 1 8 by decide]
/-- Both slots, named by the trips that use them. -/
theorem slots_two (P : Fin 2 → sProp 𝕄) : bigSep Finset.univ P = iprop(P (sl 2 0) ∗ P (sl 2 (0 + 1))) := bigSep_fin2 P
theorem slots_end (P : Fin 2 → sProp 𝕄) : iprop(P (sl 2 8) ∗ P (sl 2 (8 + 1))) = bigSep Finset.univ P := (bigSep_fin2 P).symm

theorem rings1_zero (v0 v1 : Elt F .f32) : rings1 c XA arg3 arg4 g3 g4 v0 v1 0
    = iprop(bootN (F := F) c apM apB cc0_scoped3 ∗ bootN (F := F) c sgM sgB cc0_scoped5 ∗ bootN (F := F) c ftM ftB cc0_scoped7 ∗ bootN (F := F) c saM saB cc0_scoped9 ∗ bootN (F := F) c snM snB cc0_scoped11) := by
  unfold rings1 ringN
  rw [AtB_zero, AtB_zero, AtB_zero, AtB_zero, AtB_zero]

/-- An output ring whose last write is in flight. -/
abbrev lastN (A : Memref sig .tc .hbm S4096x128 .f32) (B : Memref sig .tc .vmem S2x512x128 .f32) (S : DmaSems sig S2) (G : Held (F := F) c A) : sProp 𝕄 :=
  iprop(bigSep (behindSet 1 8) (blkNP c A G) ∗ freeN (F := F) c B S (sl 2 8) ∗ drainN c A B S G (sl 2 (8 + 1)) (bk 8 (8 - 1)))
theorem lastN_eq (A : Memref sig .tc .hbm S4096x128 .f32) (B : Memref sig .tc .vmem S2x512x128 .f32) (S : DmaSems sig S2) (G : Held (F := F) c A) :
    ringN c A B S G 8 = lastN c A B S G := AtB21_end' _ _ _ _ 8 rfl (by decide)

/-- What the feature pipeline leaves. -/
theorem leave1 (v0 v1 : Elt F .f32) (n : ℕ) (hn : n = 8) : res1 c XA mkM nfM arg3 arg4 g3 g4 v0 v1 n
    ⊢ iprop(((∃ g, ⌜mkM.view.read (Elt F) g = mkFn c XA⌝ ∗ memP c mkM g) ∗ (∃ g, ⌜nfM.view.read (Elt F) g = nfFn c XA arg3 g3 v0 v1⌝ ∗ memP c nfM g)
        ∗ memP c arg3 g3 ∗ memP c arg4 g4 ∗ owesP c)
      ∗ bigSep (homeSet 1 8) (blkWP c edM XA) ∗ freeW (F := F) c eB cc0_scoped1 (sl 2 8) ∗ freeW (F := F) c eB cc0_scoped1 (sl 2 (8 + 1))
      ∗ lastN c apM apB cc0_scoped3 (apArr c XA arg3 arg4 g3 g4 v0 v1) ∗ lastN c sgM sgB cc0_scoped5 (sgArr c XA arg3 g3 v0 v1)
      ∗ lastN c ftM ftB cc0_scoped7 (ftArr c XA arg3 g3 v0 v1) ∗ lastN c saM saB cc0_scoped9 (saArr c arg3 g3 v0) ∗ lastN c snM snB cc0_scoped11 (snArr c XA arg3 g3 v0 v1)) := by
  subst hn
  unfold res1
  rw [roleAt_of_le _ _ _ (show 8 ≤ 8 by decide)]
  unfold rings1
  rw [lastN_eq, lastN_eq, lastN_eq, lastN_eq, lastN_eq]
  iintro ⟨⟨⟨%gm, %hm, Hmk⟩, ⟨%gn, %hn, Hnf⟩, H⟩, Hr⟩
  isplitr [Hr]; rotate_left; · iexact Hr
  isplitl [Hmk]
  · iexists gm; isplitr
    · ipureintro; exact funext fun i => hm i (i 0).isLt
    iexact Hmk
  isplitl [Hnf]
  · iexists gn; isplitr
    · ipureintro; exact funext fun i => hn i (i 0).isLt
    iexact Hnf
  iexact H

/-- The last write waited for, the ring is done. -/
theorem doneN_intro (A : Memref sig .tc .hbm S4096x128 .f32) (B : Memref sig .tc .vmem S2x512x128 .f32) (S : DmaSems sig S2) (G : Held (F := F) c A) (f : Held (F := F) c B) :
    iprop(bigSep (behindSet 1 8) (blkNP c A G) ∗ freeN (F := F) c B S (sl 2 8) ∗ blkNP c A G (bk 8 (8 - 1)) ∗ slotNP c B (sl 2 (8 + 1)) f ∗ cellP c S (sl 2 (8 + 1))) ⊢ doneN c A B S G := by
  unfold doneN
  rw [AtB21_epilogue' (freeN (F := F) c B S) (blkNP c A G) 8 rfl (by decide)]
  iintro ⟨Hb, Hf, Hd, Hs, Hc⟩
  iframe
  isplitl [Hc]; · iexact Hc
  iexists _; iexact Hs
theorem doneW_intro (A : Memref sig .tc .hbm S4096x4096 .f32) (B : Memref sig .tc .vmem S2x512x4096 .f32) (S : DmaSems sig S2) (G : Held (F := F) c A) (f : Held (F := F) c B) :
    iprop(bigSep (behindSet 1 8) (blkWP c A G) ∗ freeW (F := F) c B S (sl 2 8) ∗ blkWP c A G (bk 8 (8 - 1)) ∗ slotWP c B (sl 2 (8 + 1)) f ∗ cellP c S (sl 2 (8 + 1))) ⊢ AtBEnd (freeW (F := F) c B S) (blkWP c A G) := by
  rw [AtB21_epilogue' (freeW (F := F) c B S) (blkWP c A G) 8 rfl (by decide)]
  iintro ⟨Hb, Hf, Hd, Hs, Hc⟩
  iframe
  isplitl [Hc]; · iexact Hc
  iexists _; iexact Hs

/-- What the edge pipeline leaves. -/
theorem leave2 (gm : Held (F := F) c mkM) (gn : Held (F := F) c nfM) (v3 : Elt F .f32) (v5 : FVec F S1x4096 .f32) (v6 : F .f32) (n : ℕ) (hn : n = 8) :
    res2 c XT mkM nfM gm gn v3 v5 v6 n
    ⊢ iprop((memP c mkM gm ∗ memP c nfM gn ∗ owesP c) ∗ bigSep (homeSet 1 8) (blkWP c thM XT)
      ∗ freeW (F := F) c tB cc0_scoped13 (sl 2 8) ∗ freeW (F := F) c tB cc0_scoped13 (sl 2 (8 + 1))
      ∗ bigSep (behindSet 1 8) (blkWP c epM (edgeArr c XT mkM nfM gm gn v3 v5 v6)) ∗ freeW (F := F) c oB cc0_scoped15 (sl 2 8)
      ∗ drainW c epM oB cc0_scoped15 (edgeArr c XT mkM nfM gm gn v3 v5 v6) (sl 2 (8 + 1)) (bk 8 (8 - 1))) := by
  subst hn
  unfold res2 out2
  rw [roleAt_of_le _ _ _ (show 8 ≤ 8 by decide), AtB21_end' _ _ _ _ 8 rfl (by decide)]

set_option backward.proofsInPublic true in
/-- The body, from what it is handed to what it hands back. -/
theorem bodyRun (Q : PUnit → sProp 𝕄) :
    iprop(PRE c XA XT mkM nfM arg0 arg3 arg4 g0 g3 g4 ∗ (POST c XA XT mkM nfM arg0 arg3 arg4 g0 g3 g4 -∗ Q ⟨⟩))
      ⊢ wp frame (wpE (defs₀ (F := F)) 𝒱₀ (c : Thread nD τ) none) Set.univ (bodyG mkM hmk nfM hnf arg0 harg0 arg3 harg3 arg4 harg4) Q := by
  unfold PRE POST KEPT slotsW
  rw [homes_boot (blkWP c edM XA), homes_boot (blkWP c thM XT), slots_two (freeW (F := F) c eB cc0_scoped1), slots_two (freeW (F := F) c tB cc0_scoped13)]
  iintro ⟨⟨⟨⟨H0, H3, H4, ⟨%mk0, Hmk⟩, ⟨%nf0, Hnf⟩, ⟨%W0, HW⟩⟩, ⟨⟨Hb, Hbs⟩, ⟨Hc0, ⟨%f0, Hs0⟩⟩, Hf⟩, ⟨⟨Ht, Hts⟩, ⟨Htc0, ⟨%ft0, Hts0⟩⟩, Htf⟩⟩, HR, Hout⟩, Hk⟩
  sl_exec
  have hr2 : bodyRun.sl.r c arg0 g0 = prm c arg0 g0 2 := prm_read c arg0 g0 _ _ 2 rfl
  have hr3 : bodyRun.sl.r_1 c arg0 g0 = prm c arg0 g0 3 := prm_read c arg0 g0 _ _ 3 rfl
  have hr0 : bodyRun.sl.r_2 c arg0 g0 = prm c arg0 g0 0 := prm_read c arg0 g0 _ _ 0 rfl
  have hr1 : bodyRun.sl.r_3 c arg0 g0 = prm c arg0 g0 1 := prm_read c arg0 g0 _ _ 1 rfl
  rw [hr2, hr3, hr0, hr1]
  sl_for (fun k acc => iprop(⌜acc = words1 k⌝ ∗ res1 c XA mkM nfM arg3 arg4 g3 g4 (prm c arg0 g0 2) (prm c arg0 g0 3) k)) $$ [H3 H4 Hmk Hnf HW Hbs Hf Hc0 HR]
  · intro k acc
    exact (loopInv1 c XA mkM hmk nfM hnf arg0 harg0 arg3 harg3 arg4 harg4 g3 g4 (prm c arg0 g0 2) (prm c arg0 g0 3) 0#32 0#32 0#32 (words1 0)).step k acc
  · isplitr
    · ipureintro; rfl
    unfold res1
    irw [roleAt_of_lt _ _ _ (show 0 < 8 by decide)]
    irw [rings1_zero]
    isplitl [H3 H4 Hmk Hnf HW]
    · isplitl [Hmk]
      · iexists mk0; isplitr
        · ipureintro; intro i hi; exact absurd hi (Nat.not_lt_zero _)
        iexact Hmk
      isplitl [Hnf]
      · iexists nf0; isplitr
        · ipureintro; intro i hi; exact absurd hi (Nat.not_lt_zero _)
        iexact Hnf
      iframe
      iexists _; iexact HW
    isplitl [Hbs]; · iexact Hbs
    isplitl [Hc0]
    · iexists f0; iexact Hc0
    iframe
  iintro %acc ⟨%ha, HI⟩
  subst ha
  irw [show (Scf.trips k0_t1_loop.lb k0_t1_loop.ub k0_t1_loop.st) = 8 from trips1]
  ihave HI := (leave1 c XA mkM nfM arg3 arg4 g3 g4 (prm c arg0 g0 2) (prm c arg0 g0 3) _ trips1) $$ HI
  icases HI with ⟨⟨⟨%gm, %hm, Hmk⟩, ⟨%gn, %hn, Hnf⟩, H3, H4, ⟨%W1, HW⟩⟩, Hbs, He0, He1, ⟨Hb1, Hf1, ⟨%f1, Ho1⟩⟩, ⟨Hb2, Hf2, ⟨%f2, Ho2⟩⟩, ⟨Hb3, Hf3, ⟨%f3, Ho3⟩⟩, ⟨Hb4, Hf4, ⟨%f4, Ho4⟩⟩, ⟨Hb5, Hf5, ⟨%f5, Ho5⟩⟩⟩
  have ⟨c8, c9, c10, c11, c12, c13⟩ := chk8_13
  sl_exec
  have h5 : bodyRun.sl.v5 c arg4 g4 = k0_pay17 (psA c arg4 g4) := congrArg k0_pay17 (View.readAt_full arg4.view g4 _)
  have h6 : bodyRun.sl.v6 c arg0 g0 = k0_pay18 (prm c arg0 g0 0) := rfl
  rw [h5, h6]
  sl_for (fun k acc => iprop(⌜acc = words2 k⌝ ∗ res2 c XT mkM nfM gm gn (prm c arg0 g0 1) (k0_pay17 (psA c arg4 g4)) (k0_pay18 (prm c arg0 g0 0)) k)) $$ [Hmk Hnf HW Hts Htf Htc0 Hout]
  · intro k acc
    exact (loopInv2 c XT mkM hmk nfM hnf gm gn arg0 harg0 arg3 harg3 arg4 harg4 (prm c arg0 g0 1) (k0_pay17 (psA c arg4 g4)) (k0_pay18 (prm c arg0 g0 0)) _ _ (words2 0)).step k acc
  · isplitr
    · ipureintro; rfl
    unfold res2 out2
    irw [roleAt_of_lt _ _ _ (show 0 < 8 by decide)]
    irw [AtB_zero]
    isplitl [Hmk Hnf HW]
    · isplitl [Hmk]; · iexact Hmk
      isplitl [Hnf]; · iexact Hnf
      iexists _; iexact HW
    isplitl [Hts]; · iexact Hts
    isplitl [Htc0]
    · iexists ft0; iexact Htc0
    iframe
  iintro %acc ⟨%ha, HI⟩
  subst ha
  irw [show (Scf.trips k0_t2_loop.lb k0_t2_loop.ub k0_t2_loop.st) = 8 from trips2]
  ihave HI := (leave2 c XT mkM nfM gm gn (prm c arg0 g0 1) (k0_pay17 (psA c arg4 g4)) (k0_pay18 (prm c arg0 g0 0)) _ trips2) $$ HI
  icases HI with ⟨⟨Hmk, Hnf, ⟨%W2, HW⟩⟩, Hts, Ht0, Ht1, Hbo, Hfo, ⟨%fo, Hoo⟩⟩
  have ⟨c17, c18⟩ := chk17_18
  sl_exec
  sl_step
  iapply Hk
  have he : edgeArr c XT mkM nfM gm gn (prm c arg0 g0 1) (k0_pay17 (psA c arg4 g4)) (k0_pay18 (prm c arg0 g0 0)) = epArr c XA XT arg0 arg3 arg4 g0 g3 g4 := by
    unfold edgeArr epArr
    rw [hm, hn]
  irw [← he, ← homes_boot (blkWP c edM XA), ← homes_boot (blkWP c thM XT), ← homes_end (blkWP c edM XA), ← homes_end (blkWP c thM XT)]
  isplitl [H0 H3 H4 Hmk Hnf HW Hbs He0 He1 Hts Ht0 Ht1]
  · isplitl [H0 H3 H4 Hmk Hnf HW]
    · isplitl [H0]; · iexact H0
      isplitl [H3]; · iexact H3
      isplitl [H4]; · iexact H4
      isplitl [Hmk]; · iexists _; iexact Hmk
      isplitl [Hnf]; · iexists _; iexact Hnf
      iexists _; iexact HW
    isplitl [Hbs He0 He1]
    · isplitl [Hbs]; · iexact Hbs
      isplitl [He0]; · iexact He0
      iexact He1
    · isplitl [Hts]; · iexact Hts
      isplitl [Ht0]; · iexact Ht0
      iexact Ht1
  isplitr [Hbo Hfo Hoo_dst Hoo_src Hoo]
  · isplitl [Hb1 Hf1 Ho1_dst Ho1_src Ho1]
    · iapply (doneN_intro c apM apB cc0_scoped3 _ f1)
      isplitl [Hb1]; · iexact Hb1
      isplitl [Hf1]; · iexact Hf1
      isplitl [Ho1_dst]; · iexact Ho1_dst
      isplitl [Ho1_src]; · iexact Ho1_src
      iexact Ho1
    isplitl [Hb2 Hf2 Ho2_dst Ho2_src Ho2]
    · iapply (doneN_intro c sgM sgB cc0_scoped5 _ f2)
      isplitl [Hb2]; · iexact Hb2
      isplitl [Hf2]; · iexact Hf2
      isplitl [Ho2_dst]; · iexact Ho2_dst
      isplitl [Ho2_src]; · iexact Ho2_src
      iexact Ho2
    isplitl [Hb3 Hf3 Ho3_dst Ho3_src Ho3]
    · iapply (doneN_intro c ftM ftB cc0_scoped7 _ f3)
      isplitl [Hb3]; · iexact Hb3
      isplitl [Hf3]; · iexact Hf3
      isplitl [Ho3_dst]; · iexact Ho3_dst
      isplitl [Ho3_src]; · iexact Ho3_src
      iexact Ho3
    isplitl [Hb4 Hf4 Ho4_dst Ho4_src Ho4]
    · iapply (doneN_intro c saM saB cc0_scoped9 _ f4)
      isplitl [Hb4]; · iexact Hb4
      isplitl [Hf4]; · iexact Hf4
      isplitl [Ho4_dst]; · iexact Ho4_dst
      isplitl [Ho4_src]; · iexact Ho4_src
      iexact Ho4
    · iapply (doneN_intro c snM snB cc0_scoped11 _ f5)
      isplitl [Hb5]; · iexact Hb5
      isplitl [Hf5]; · iexact Hf5
      isplitl [Ho5_dst]; · iexact Ho5_dst
      isplitl [Ho5_src]; · iexact Ho5_src
      iexact Ho5
  iapply (doneW_intro c epM oB cc0_scoped15 _ fo)
  isplitl [Hbo]; · iexact Hbo
  isplitl [Hfo]; · iexact Hfo
  isplitl [Hoo_dst]; · iexact Hoo_dst
  isplitl [Hoo_src]; · iexact Hoo_src
  iexact Hoo

end Body
end Cert.Proof.Body

end
-- ==== Proof.Launch.lean ====
module

public import proofs.«01_k».proof.Proof.Body
public import proofs.«01_k».proof.Proof.Gen.KernelIdeal.Frame
public import Idealize.ShloMosaic.Lib.Pipeline.FrameValue

/-! # The kernel launched

The host operations before the kernel, then the kernel once. It is handed its three staged inputs, the two wide arrays
it streams in, the six arrays it streams out, its scratch and its semaphores; it hands all of them back, the six outputs
at named contents. -/

@[expose] public section

noncomputable section

namespace Cert.Proof.Launch

open Cert.KernelIdeal Cert.KernelIdeal.Gen Cert.Proof.Names Cert.Proof.Blocks Cert.Proof.Pieces Cert.Proof.Trip1 Cert.Proof.Trip2 Cert.Proof.Body
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring
open Idealize.ShloMosaic.Pipeline (Dat BodyObligation)

variable {F : FTy → Type} [FloatOps F] [Named F]

local notation "𝕄" => MT nD τ sig Unit (Elt F) ℕ (UU nD τ) ℕ

/-! ## Arrays as row blocks, two-slot buffers as slots -/

section Split
variable (c : Dev nD)

theorem blkW_set (A : Memref sig .tc .hbm S4096x4096 .f32) (b : Fin 8) :
    (blkW A b).view.set = (Rect.unit (s := S4096x4096) (blkOff b) S512x4096.size (blkW_inb b)).set.map A.view.emb := View.set_slice _ _
theorem blkN_set (A : Memref sig .tc .hbm S4096x128 .f32) (b : Fin 8) :
    (blkN A b).view.set = (Rect.unit (s := S4096x128) (blkOff b) S512x128.size (blkN_inb b)).set.map A.view.emb := View.set_slice _ _
theorem slotW_set (M : Memref sig .tc .vmem S2x512x4096 .f32) (s : Fin 2) :
    (slotW M s).view.set = (Rect.unit (s := S2x512x4096) (slotOff s) S1x512x4096.size (slotW_inb s)).set.map M.view.emb :=
  (View.set_reshape _ _).trans (View.set_slice _ _)
theorem slotN_set (M : Memref sig .tc .vmem S2x512x128 .f32) (s : Fin 2) :
    (slotN M s).view.set = (Rect.unit (s := S2x512x128) (slotOff s) S1x512x128.size (slotN_inb s)).set.map M.view.emb :=
  (View.set_reshape _ _).trans (View.set_slice _ _)

/-- Rectangles tiling a shape cut a memref's elements into as many disjoint sets. -/
theorem cut_disjoint {NB : ℕ} {sp : Space} {s : Shape} {e : EltTy} (A : Memref sig .tc sp s e) (I : Fin NB → Finset s.Idx)
    (hd : ∀ b b', b ≠ b' → Disjoint (I b) (I b')) : ∀ b ∈ (Finset.univ : Finset (Fin NB)), ∀ b' ∈ (Finset.univ : Finset (Fin NB)), b ≠ b' →
      Disjoint ((I b).map A.view.emb) ((I b').map A.view.emb) :=
  fun b _ b' _ h => (Finset.disjoint_map _).mpr (hd b b' h)
theorem cut_cover {NB : ℕ} {sp : Space} {s : Shape} {e : EltTy} (A : Memref sig .tc sp s e) (I : Fin NB → Finset s.Idx)
    (hc : Finset.univ.biUnion I = Finset.univ) : Finset.univ.biUnion (fun b => (I b).map A.view.emb) = A.view.set := by
  show _ = Finset.univ.map A.view.emb
  rw [← hc]
  ext x
  simp only [Finset.mem_biUnion, Finset.mem_map, Finset.mem_univ, true_and]
  constructor
  · rintro ⟨b, i, hi, rfl⟩; exact ⟨i, ⟨b, hi⟩, rfl⟩
  · rintro ⟨i, ⟨b, hi⟩, rfl⟩; exact ⟨b, i, hi, rfl⟩

theorem cut {NB : ℕ} {sp : Space} {s : Shape} {e : EltTy} (A : Memref sig .tc sp s e) (I : Fin NB → Finset s.Idx)
    (hd : ∀ b b', b ≠ b' → Disjoint (I b) (I b')) (hc : Finset.univ.biUnion I = Finset.univ) (X : Held (F := F) c A) :
    memP c A X = bigSep Finset.univ fun b => (A.view.loc (c : Thread nD τ) ↦[(I b).map A.view.emb]{fullShare} X : sProp 𝕄) := by
  rw [← pointsTo_biUnion Finset.univ _ (cut_disjoint A I hd), cut_cover A I hc]
theorem join {NB : ℕ} {sp : Space} {s : Shape} {e : EltTy} (A : Memref sig .tc sp s e) (I : Fin NB → Finset s.Idx)
    (hd : ∀ b b', b ≠ b' → Disjoint (I b) (I b')) (hc : Finset.univ.biUnion I = Finset.univ) (X : Held (F := F) c A) :
    (bigSep Finset.univ fun b => iprop(∃ f, A.view.loc (c : Thread nD τ) ↦[(I b).map A.view.emb]{fullShare} f)) ⊢ (iprop(∃ g, memP c A g) : sProp 𝕄) := by
  have : Nonempty (Held (F := F) c A) := ⟨X⟩
  refine (Idealize.SL.BI.bigSep_exists_pi Finset.univ (fun b (f : Held (F := F) c A) => (A.view.loc (c : Thread nD τ) ↦[(I b).map A.view.emb]{fullShare} f : sProp 𝕄))).trans ?_
  iintro ⟨%fs, H⟩
  ihave H' := (pointsTo_biUnion_join Finset.univ _ fs X (cut_disjoint A I hd)) $$ H
  icases H' with ⟨%g, -, H⟩
  iexists g
  iapply (show (A.view.loc (c : Thread nD τ) ↦[Finset.univ.biUnion fun b => (I b).map A.view.emb]{fullShare} g : sProp 𝕄) ⊢ memP c A g from by rw [cut_cover A I hc])
  iexact H

abbrev IW (b : Fin 8) : Finset S4096x4096.Idx := (Rect.unit (s := S4096x4096) (blkOff b) S512x4096.size (blkW_inb b)).set
abbrev IN (b : Fin 8) : Finset S4096x128.Idx := (Rect.unit (s := S4096x128) (blkOff b) S512x128.size (blkN_inb b)).set
abbrev JW (s : Fin 2) : Finset S2x512x4096.Idx := (Rect.unit (s := S2x512x4096) (slotOff s) S1x512x4096.size (slotW_inb s)).set
abbrev JN (s : Fin 2) : Finset S2x512x128.Idx := (Rect.unit (s := S2x512x128) (slotOff s) S1x512x128.size (slotN_inb s)).set

theorem IW_disjoint : ∀ b b', b ≠ b' → Disjoint (IW b) (IW b') := by
  intro b b' h; rw [Finset.disjoint_left]; intro i hi hi'
  have h1 := (Rect.mem_set_unit.mp hi) 0; have h2 := (Rect.mem_set_unit.mp hi') 0
  have h1 : 512 * b.val ≤ (i 0).val ∧ (i 0).val < 512 * b.val + 512 := h1
  have h2 : 512 * b'.val ≤ (i 0).val ∧ (i 0).val < 512 * b'.val + 512 := h2
  exact h (Fin.ext (by omega))
theorem IN_disjoint : ∀ b b', b ≠ b' → Disjoint (IN b) (IN b') := by
  intro b b' h; rw [Finset.disjoint_left]; intro i hi hi'
  have h1 := (Rect.mem_set_unit.mp hi) 0; have h2 := (Rect.mem_set_unit.mp hi') 0
  have h1 : 512 * b.val ≤ (i 0).val ∧ (i 0).val < 512 * b.val + 512 := h1
  have h2 : 512 * b'.val ≤ (i 0).val ∧ (i 0).val < 512 * b'.val + 512 := h2
  exact h (Fin.ext (by omega))
theorem JW_disjoint : ∀ s s', s ≠ s' → Disjoint (JW s) (JW s') := by
  intro s s' h; rw [Finset.disjoint_left]; intro i hi hi'
  have h1 := (Rect.mem_set_unit.mp hi) 0; have h2 := (Rect.mem_set_unit.mp hi') 0
  have h1 : s.val ≤ (i 0).val ∧ (i 0).val < s.val + 1 := h1
  have h2 : s'.val ≤ (i 0).val ∧ (i 0).val < s'.val + 1 := h2
  exact h (Fin.ext (by omega))
theorem JN_disjoint : ∀ s s', s ≠ s' → Disjoint (JN s) (JN s') := by
  intro s s' h; rw [Finset.disjoint_left]; intro i hi hi'
  have h1 := (Rect.mem_set_unit.mp hi) 0; have h2 := (Rect.mem_set_unit.mp hi') 0
  have h1 : s.val ≤ (i 0).val ∧ (i 0).val < s.val + 1 := h1
  have h2 : s'.val ≤ (i 0).val ∧ (i 0).val < s'.val + 1 := h2
  exact h (Fin.ext (by omega))
theorem IW_cover : Finset.univ.biUnion IW = Finset.univ := by
  ext i; simp only [Finset.mem_biUnion, Finset.mem_univ, true_and, iff_true]
  have h0 : (i 0).val < 4096 := (i 0).isLt
  have h1 : (i 1).val < 4096 := (i 1).isLt
  refine ⟨⟨(i 0).val / 512, by omega⟩, Rect.mem_set_unit.mpr fun a => ?_⟩
  match a with
  | ⟨0, _⟩ => show 512 * ((i 0).val / 512) ≤ (i 0).val ∧ (i 0).val < 512 * ((i 0).val / 512) + 512; omega
  | ⟨1, _⟩ => show 0 ≤ (i 1).val ∧ (i 1).val < 0 + 4096; omega
theorem IN_cover : Finset.univ.biUnion IN = Finset.univ := by
  ext i; simp only [Finset.mem_biUnion, Finset.mem_univ, true_and, iff_true]
  have h0 : (i 0).val < 4096 := (i 0).isLt
  have h1 : (i 1).val < 128 := (i 1).isLt
  refine ⟨⟨(i 0).val / 512, by omega⟩, Rect.mem_set_unit.mpr fun a => ?_⟩
  match a with
  | ⟨0, _⟩ => show 512 * ((i 0).val / 512) ≤ (i 0).val ∧ (i 0).val < 512 * ((i 0).val / 512) + 512; omega
  | ⟨1, _⟩ => show 0 ≤ (i 1).val ∧ (i 1).val < 0 + 128; omega
theorem JW_cover : Finset.univ.biUnion JW = Finset.univ := by
  ext i; simp only [Finset.mem_biUnion, Finset.mem_univ, true_and, iff_true]
  have h1 : (i 1).val < 512 := (i 1).isLt
  have h2 : (i 2).val < 4096 := (i 2).isLt
  refine ⟨⟨(i 0).val, (i 0).isLt⟩, Rect.mem_set_unit.mpr fun a => ?_⟩
  match a with
  | ⟨0, _⟩ => show (i 0).val ≤ (i 0).val ∧ (i 0).val < (i 0).val + 1; omega
  | ⟨1, _⟩ => show 0 ≤ (i 1).val ∧ (i 1).val < 0 + 512; omega
  | ⟨2, _⟩ => show 0 ≤ (i 2).val ∧ (i 2).val < 0 + 4096; omega
theorem JN_cover : Finset.univ.biUnion JN = Finset.univ := by
  ext i; simp only [Finset.mem_biUnion, Finset.mem_univ, true_and, iff_true]
  have h1 : (i 1).val < 512 := (i 1).isLt
  have h2 : (i 2).val < 128 := (i 2).isLt
  refine ⟨⟨(i 0).val, (i 0).isLt⟩, Rect.mem_set_unit.mpr fun a => ?_⟩
  match a with
  | ⟨0, _⟩ => show (i 0).val ≤ (i 0).val ∧ (i 0).val < (i 0).val + 1; omega
  | ⟨1, _⟩ => show 0 ≤ (i 1).val ∧ (i 1).val < 0 + 512; omega
  | ⟨2, _⟩ => show 0 ≤ (i 2).val ∧ (i 2).val < 0 + 128; omega

/-- A wide array is its eight row blocks, -/
theorem blocksW (A : Memref sig .tc .hbm S4096x4096 .f32) (X : Held (F := F) c A) : memP c A X = bigSep Finset.univ (blkWP c A X) := by
  rw [cut c A IW IW_disjoint IW_cover X]
  exact bigSep_congr fun b _ => by rw [← blkW_set]; rfl
/-- a narrow one the same, -/
theorem blocksN (A : Memref sig .tc .hbm S4096x128 .f32) (X : Held (F := F) c A) : memP c A X = bigSep Finset.univ (blkNP c A X) := by
  rw [cut c A IN IN_disjoint IN_cover X]
  exact bigSep_congr fun b _ => by rw [← blkN_set]; rfl
/-- a two-slot buffer at anything is its two slots at anything, -/
theorem slotsW_in (M : Memref sig .tc .vmem S2x512x4096 .f32) :
    iprop(∃ f, memP c M f) ⊢ (bigSep Finset.univ fun s => iprop(∃ f, slotWP (F := F) c M s f) : sProp 𝕄) := by
  iintro ⟨%f, H⟩
  iapply (show (bigSep Finset.univ fun s => slotWP c M s f) ⊢ (bigSep Finset.univ fun s => iprop(∃ f, slotWP (F := F) c M s f) : sProp 𝕄) from
    Idealize.SL.BI.bigSep_mono fun s _ => (show slotWP c M s f ⊢ (iprop(∃ f, slotWP (F := F) c M s f) : sProp 𝕄) from by iintro H; iexists f; iexact H))
  iapply (show memP c M f ⊢ (bigSep Finset.univ fun s => slotWP c M s f : sProp 𝕄) from by
    rw [cut c M JW JW_disjoint JW_cover f]
    exact Entails.of_eq (bigSep_congr fun s _ => by rw [← slotW_set]; rfl))
  iexact H
theorem slotsN_in (M : Memref sig .tc .vmem S2x512x128 .f32) :
    iprop(∃ f, memP c M f) ⊢ (bigSep Finset.univ fun s => iprop(∃ f, slotNP (F := F) c M s f) : sProp 𝕄) := by
  iintro ⟨%f, H⟩
  iapply (show (bigSep Finset.univ fun s => slotNP c M s f) ⊢ (bigSep Finset.univ fun s => iprop(∃ f, slotNP (F := F) c M s f) : sProp 𝕄) from
    Idealize.SL.BI.bigSep_mono fun s _ => (show slotNP c M s f ⊢ (iprop(∃ f, slotNP (F := F) c M s f) : sProp 𝕄) from by iintro H; iexists f; iexact H))
  iapply (show memP c M f ⊢ (bigSep Finset.univ fun s => slotNP c M s f : sProp 𝕄) from by
    rw [cut c M JN JN_disjoint JN_cover f]
    exact Entails.of_eq (bigSep_congr fun s _ => by rw [← slotN_set]; rfl))
  iexact H
/-- and back. -/
theorem slotsW_out (M : Memref sig .tc .vmem S2x512x4096 .f32) (X : Held (F := F) c M) :
    (bigSep Finset.univ fun s => iprop(∃ f, slotWP (F := F) c M s f) : sProp 𝕄) ⊢ iprop(∃ f, memP c M f) := by
  refine (Entails.of_eq (bigSep_congr fun s _ => ?_)).trans (join c M JW JW_disjoint JW_cover X)
  rw [← slotW_set]; rfl
theorem slotsN_out (M : Memref sig .tc .vmem S2x512x128 .f32) (X : Held (F := F) c M) :
    (bigSep Finset.univ fun s => iprop(∃ f, slotNP (F := F) c M s f) : sProp 𝕄) ⊢ iprop(∃ f, memP c M f) := by
  refine (Entails.of_eq (bigSep_congr fun s _ => ?_)).trans (join c M JN JN_disjoint JN_cover X)
  rw [← slotN_set]; rfl

/-- The two cells of a semaphore array at zero. -/
abbrev cells (S : DmaSems sig S2) : sProp 𝕄 := bigSep Finset.univ (cellP (F := F) c S)

/-- A buffer's two slots with their cells, and back. -/
theorem freeW_in (M : Memref sig .tc .vmem S2x512x4096 .f32) (S : DmaSems sig S2) :
    iprop((∃ f, memP c M f) ∗ cells (F := F) c S) ⊢ slotsW (F := F) c M S := by
  unfold slotsW
  rw [show (bigSep Finset.univ (freeW (F := F) c M S)) = iprop(bigSep Finset.univ (cellP (F := F) c S) ∗ bigSep Finset.univ fun s => iprop(∃ f, slotWP (F := F) c M s f)) from bigSep_sep _ _ _]
  iintro ⟨HM, HS⟩
  isplitl [HS]; · iexact HS
  iapply (slotsW_in c M); iexact HM
theorem freeN_in (M : Memref sig .tc .vmem S2x512x128 .f32) (S : DmaSems sig S2) :
    iprop((∃ f, memP c M f) ∗ cells (F := F) c S) ⊢ bigSep Finset.univ (freeN (F := F) c M S) := by
  rw [show (bigSep Finset.univ (freeN (F := F) c M S)) = iprop(bigSep Finset.univ (cellP (F := F) c S) ∗ bigSep Finset.univ fun s => iprop(∃ f, slotNP (F := F) c M s f)) from bigSep_sep _ _ _]
  iintro ⟨HM, HS⟩
  isplitl [HS]; · iexact HS
  iapply (slotsN_in c M); iexact HM
theorem freeW_out (M : Memref sig .tc .vmem S2x512x4096 .f32) (S : DmaSems sig S2) (X : Held (F := F) c M) :
    slotsW (F := F) c M S ⊢ iprop((∃ f, memP c M f) ∗ cells (F := F) c S) := by
  unfold slotsW
  rw [show (bigSep Finset.univ (freeW (F := F) c M S)) = iprop(bigSep Finset.univ (cellP (F := F) c S) ∗ bigSep Finset.univ fun s => iprop(∃ f, slotWP (F := F) c M s f)) from bigSep_sep _ _ _]
  iintro ⟨HS, HM⟩
  isplitl [HM]; · iapply (slotsW_out c M X); iexact HM
  iexact HS
theorem freeN_out (M : Memref sig .tc .vmem S2x512x128 .f32) (S : DmaSems sig S2) (X : Held (F := F) c M) :
    bigSep Finset.univ (freeN (F := F) c M S) ⊢ iprop((∃ f, memP c M f) ∗ cells (F := F) c S) := by
  rw [show (bigSep Finset.univ (freeN (F := F) c M S)) = iprop(bigSep Finset.univ (cellP (F := F) c S) ∗ bigSep Finset.univ fun s => iprop(∃ f, slotNP (F := F) c M s f)) from bigSep_sep _ _ _]
  iintro ⟨HS, HM⟩
  isplitl [HM]; · iapply (slotsN_out c M X); iexact HM
  iexact HS

/-- An output ring before its first write: the array at anything, the buffer at anything, the cells at zero. -/
theorem bootN_in (A : Memref sig .tc .hbm S4096x128 .f32) (M : Memref sig .tc .vmem S2x512x128 .f32) (S : DmaSems sig S2) (X : Held (F := F) c A) :
    iprop(memP c A X ∗ (∃ f, memP c M f) ∗ cells (F := F) c S) ⊢ bootN (F := F) c A M S := by
  unfold bootN AtB₀
  rw [blocksN c A X]
  iintro ⟨HA, H⟩
  isplitl [HA]
  · iapply (show (bigSep Finset.univ (blkNP c A X)) ⊢ (bigSep Finset.univ (aheadN (F := F) c A) : sProp 𝕄) from
      Idealize.SL.BI.bigSep_mono fun s _ => (show blkNP c A X s ⊢ (aheadN (F := F) c A s : sProp 𝕄) from by iintro H; iexists X; iexact H))
    iexact HA
  iapply (freeN_in c M S); iexact H
theorem bootW_in (A : Memref sig .tc .hbm S4096x4096 .f32) (M : Memref sig .tc .vmem S2x512x4096 .f32) (S : DmaSems sig S2) (X : Held (F := F) c A) :
    iprop(memP c A X ∗ (∃ f, memP c M f) ∗ cells (F := F) c S) ⊢ AtB₀ (freeW (F := F) c M S) (aheadW (F := F) c A) := by
  unfold AtB₀
  rw [blocksW c A X]
  iintro ⟨HA, H⟩
  isplitl [HA]
  · iapply (show (bigSep Finset.univ (blkWP c A X)) ⊢ (bigSep Finset.univ (aheadW (F := F) c A) : sProp 𝕄) from
      Idealize.SL.BI.bigSep_mono fun s _ => (show blkWP c A X s ⊢ (aheadW (F := F) c A s : sProp 𝕄) from by iintro H; iexists X; iexact H))
    iexact HA
  iapply (freeW_in c M S); iexact H
/-- An output ring done: the array at its final contents, the buffer at anything, the cells at zero. -/
theorem doneN_out (A : Memref sig .tc .hbm S4096x128 .f32) (M : Memref sig .tc .vmem S2x512x128 .f32) (S : DmaSems sig S2) (G : Held (F := F) c A)
    (X : Held (F := F) c M) : doneN c A M S G ⊢ iprop(memP c A G ∗ (∃ f, memP c M f) ∗ cells (F := F) c S) := by
  unfold doneN AtBEnd
  rw [blocksN c A G]
  iintro ⟨HA, H⟩
  isplitl [HA]; · iexact HA
  iapply (freeN_out c M S X); iexact H
theorem doneW_out (A : Memref sig .tc .hbm S4096x4096 .f32) (M : Memref sig .tc .vmem S2x512x4096 .f32) (S : DmaSems sig S2) (G : Held (F := F) c A)
    (X : Held (F := F) c M) : AtBEnd (freeW (F := F) c M S) (blkWP c A G) ⊢ iprop(memP c A G ∗ (∃ f, memP c M f) ∗ cells (F := F) c S) := by
  unfold AtBEnd
  rw [blocksW c A G]
  iintro ⟨HA, H⟩
  isplitl [HA]; · iexact HA
  iapply (freeW_out c M S X); iexact H

/-- A buffer of the kernel's held whole, either way it is written. -/
theorem whole_eq (b : Ref sig .tc) (X : Buf (Elt F) ((c : Thread nD τ).loc b)) :
    (((c : Thread nD τ).loc b) ↦{fullShare} X : sProp 𝕄) = (View.whole b).loc (c : Thread nD τ) ↦[(View.whole b).set]{fullShare} X :=
  congrArg (fun S => (((c : Thread nD τ).loc b) ↦[S]{fullShare} X : sProp 𝕄)) (View.set_whole b).symm

end Split

/-! ## What the kernel owns -/

section Run
variable (m : (ℓ : Loc nD τ sig) → Buf (Elt F) ℓ) (ρ : Dev nD → PrngReg)

/-- The eight pairs of semaphores. -/
abbrev semArr : Fin 8 → DmaSems sig S2 :=
  ![cc0_scoped1, cc0_scoped3, cc0_scoped5, cc0_scoped7, cc0_scoped9, cc0_scoped11, cc0_scoped13, cc0_scoped15]
abbrev osem : Fin 8 × Fin 2 → SemLoc sig := fun p => .dma (csm (semArr p.1) p.2).sem
theorem ownSemFacts : Pipeline.OwnSemFacts spec0 osem := by decide

theorem ownSems0_eq (c : Dev nD) : (Pipeline.ownSems0 (Ix := Unit) (Name := ℕ) (U := UU nD τ) (Lvl := ℕ) (Val := Elt F) (τ := τ) osem c : sProp 𝕄)
    = iprop(cells (F := F) c cc0_scoped1 ∗ cells (F := F) c cc0_scoped3 ∗ cells (F := F) c cc0_scoped5 ∗ cells (F := F) c cc0_scoped7
      ∗ cells (F := F) c cc0_scoped9 ∗ cells (F := F) c cc0_scoped11 ∗ cells (F := F) c cc0_scoped13 ∗ cells (F := F) c cc0_scoped15) := by
  unfold Pipeline.ownSems0
  rw [bigSep_univ_prod]
  exact bigSep_univ_eq_bigSepL [(0 : Fin 8), 1, 2, 3, 4, 5, 6, 7] (by decide) (by decide) _

/-- The arrays it reads, and those it writes. -/
def HR : Finset (Ref sig .tc) := {main_arg6, main_arg7}
def OUT : Finset (Ref sig .tc) := {main_v8_0, main_v8_1, main_v8_2, main_v8_3, main_v8_4, main_v8_5}

theorem HR_sub : HR ⊆ Pipeline.restRefs sig spec0 := by decide
theorem OUT_sub : OUT ⊆ Pipeline.restRefs sig spec0 \ HR := by decide

/-! ## What it leaves -/

/-- The staged inputs. -/
abbrev s0 (c : Dev nD) : Held (F := F) c (st0_0 t0_0) := (st0_0 t0_0).view.rep (iblk m c 0 t0_0)
abbrev s1 (c : Dev nD) : Held (F := F) c (st0_1 t0_0) := (st0_1 t0_0).view.rep (iblk m c 1 t0_0)
abbrev s2 (c : Dev nD) : Held (F := F) c (st0_2 t0_0) := (st0_2 t0_0).view.rep (iblk m c 2 t0_0)
/-- The two mixing parameters. -/
abbrev p2 (c : Dev nD) : Elt F .f32 := prm c (st0_0 t0_0) (s0 m c) 2
abbrev p3 (c : Dev nD) : Elt F .f32 := prm c (st0_0 t0_0) (s0 m c) 3

/-- The arrays after the kernel ran. -/
def G (c : Dev nD) : (b : Ref sig .tc) → Buf (Elt F) ((c : Thread nD τ).loc b) :=
  Function.update (Function.update (Function.update (Function.update (Function.update (Function.update (V m c)
    main_v8_0 (epArr c (V m c main_arg6) (V m c main_arg7) (st0_0 t0_0) (st0_1 t0_0) (st0_2 t0_0) (s0 m c) (s1 m c) (s2 m c)))
    main_v8_1 (apArr c (V m c main_arg6) (st0_1 t0_0) (st0_2 t0_0) (s1 m c) (s2 m c) (p2 m c) (p3 m c)))
    main_v8_2 (sgArr c (V m c main_arg6) (st0_1 t0_0) (s1 m c) (p2 m c) (p3 m c)))
    main_v8_3 (ftArr c (V m c main_arg6) (st0_1 t0_0) (s1 m c) (p2 m c) (p3 m c)))
    main_v8_4 (saArr c (st0_1 t0_0) (s1 m c) (p2 m c)))
    main_v8_5 (snArr c (V m c main_arg6) (st0_1 t0_0) (s1 m c) (p2 m c) (p3 m c))

theorem routed_eq (c : Dev nD) (W : (b : Ref sig .tc) → Buf (Elt F) ((c : Thread nD τ).loc b)) :
    (Pipeline.routed OUT c W : sProp 𝕄)
      = iprop(memP c epM (W main_v8_0) ∗ memP c apM (W main_v8_1) ∗ memP c sgM (W main_v8_2) ∗ memP c ftM (W main_v8_3)
        ∗ memP c saM (W main_v8_4) ∗ memP c snM (W main_v8_5)) := by
  unfold Pipeline.routed
  rw [BI.bigSep_eq_bigSepL_of_eq [main_v8_0, main_v8_1, main_v8_2, main_v8_3, main_v8_4, main_v8_5] (by decide) (by decide)]
  simp only [BI.bigSepL_cons_cons, BI.bigSepL_singleton]
  rw [whole_eq, whole_eq, whole_eq, whole_eq, whole_eq, whole_eq]
  rfl
theorem read_eq (c : Dev nD) : (bigSep HR fun b => (((c : Thread nD τ).loc b) ↦{fullShare} V m c b : sProp 𝕄))
    = iprop(memP c edM (V m c main_arg6) ∗ memP c thM (V m c main_arg7)) := by
  rw [BI.bigSep_eq_bigSepL_of_eq [main_arg6, main_arg7] (by decide) (by decide)]
  simp only [BI.bigSepL_cons_cons, BI.bigSepL_singleton]
  rw [whole_eq, whole_eq]
  rfl

/-- The scratch, at anything. -/
theorem scoped_eq (c : Dev nD) : (Pipeline.scopedRest (Ix := Unit) (Name := ℕ) (U := UU nD τ) (Lvl := ℕ) (Val := Elt F) spec0 c : sProp 𝕄)
    = iprop((∃ g, memP (F := F) c (Memref.whole cc0_scratch0) g) ∗ (∃ g, memP (F := F) c (Memref.whole cc0_scratch1) g)
      ∗ (∃ f, memP (F := F) c eB f) ∗ (∃ f, memP (F := F) c apB f) ∗ (∃ f, memP (F := F) c sgB f) ∗ (∃ f, memP (F := F) c ftB f)
      ∗ (∃ f, memP (F := F) c saB f) ∗ (∃ f, memP (F := F) c snB f) ∗ (∃ f, memP (F := F) c tB f) ∗ (∃ f, memP (F := F) c oB f)) := by
  rw [scopedRest0_eq]
  simp only [whole_eq]

/-- The invariant: everything but the outputs as launched, the outputs as launched before the kernel runs and at
    their final contents after. -/
def Φ (c : Dev nD) (n : ℕ) : sProp 𝕄 := Pipeline.ΦDRG osem spec0 HR OUT (V m) (if n = 0 then V m else G m) c

theorem Φ_eq (c : Dev nD) (W : (c : Dev nD) → (b : Ref sig .tc) → Buf (Elt F) ((c : Thread nD τ).loc b)) :
    (Pipeline.ΦDRG osem spec0 HR OUT (V m) W c : sProp 𝕄)
      = iprop(((∃ g, memP (F := F) c (Memref.whole cc0_scratch0) g) ∗ (∃ g, memP (F := F) c (Memref.whole cc0_scratch1) g)
      ∗ (∃ f, memP (F := F) c eB f) ∗ (∃ f, memP (F := F) c apB f) ∗ (∃ f, memP (F := F) c sgB f) ∗ (∃ f, memP (F := F) c ftB f)
      ∗ (∃ f, memP (F := F) c saB f) ∗ (∃ f, memP (F := F) c snB f) ∗ (∃ f, memP (F := F) c tB f) ∗ (∃ f, memP (F := F) c oB f))
      ∗ (∃ r, prngReg c r)
      ∗ (cells (F := F) c cc0_scoped1 ∗ cells (F := F) c cc0_scoped3 ∗ cells (F := F) c cc0_scoped5 ∗ cells (F := F) c cc0_scoped7
      ∗ cells (F := F) c cc0_scoped9 ∗ cells (F := F) c cc0_scoped11 ∗ cells (F := F) c cc0_scoped13 ∗ cells (F := F) c cc0_scoped15)
      ∗ (memP c edM (V m c main_arg6) ∗ memP c thM (V m c main_arg7))
      ∗ (memP c epM (W c main_v8_0) ∗ memP c apM (W c main_v8_1) ∗ memP c sgM (W c main_v8_2) ∗ memP c ftM (W c main_v8_3)
        ∗ memP c saM (W c main_v8_4) ∗ memP c snM (W c main_v8_5))) := by
  rw [Pipeline.ΦDRG_eq]
  rw [← routed_eq c (W c), ← read_eq m c, ← scoped_eq c, ← ownSems0_eq c]

/-! ## The kernel's one run -/

theorem defs_tc : (defs₀ (F := F)) .tc cfg0.body
    = fun a => bodyG (Memref.whole cc0_scratch0) (Memref.isWhole_whole _) (Memref.whole cc0_scratch1) (Memref.isWhole_whole _)
        (win0_0.stage (a.2 0)) (hstage0_0 0) (win0_1.stage (a.2 1)) (hstage0_1 0) (win0_2.stage (a.2 2)) (hstage0_2 0) := rfl
theorem prog_eq (t : Fin cfg0.N) : (defs₀ (F := F)) .tc cfg0.body (cfg0.bodyArgs t (cfg0.slots t))
    = bodyG (Memref.whole cc0_scratch0) (Memref.isWhole_whole _) (Memref.whole cc0_scratch1) (Memref.isWhole_whole _)
        (st0_0 t) (hstage0_0 0) (st0_1 t) (hstage0_1 0) (st0_2 t) (hstage0_2 0) :=
  (congrFun defs_tc _).trans rfl

/-- The launch's data: the three staged inputs are left as fetched. -/
def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
  Φ t := Φ m c t.val
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem Φ_zero (c : Dev nD) : Φ m c 0 = Pipeline.ΦDRG osem spec0 HR OUT (V m) (V m) c := by unfold Φ; rw [if_pos rfl]
theorem Φ_one (c : Dev nD) : Φ m c 1 = Pipeline.ΦDRG osem spec0 HR OUT (V m) (G m) c := by unfold Φ; rw [if_neg (by decide)]
theorem Φ_before (c : Dev nD) : (dats m 0 c).Φ (Fin.castSucc t0_0) = Pipeline.ΦDRG osem spec0 HR OUT (V m) (V m) c := by
  rw [← Φ_zero]; rfl
theorem Φ_after (c : Dev nD) : (dats m 0 c).Φ (Fin.succ t0_0) = Pipeline.ΦDRG osem spec0 HR OUT (V m) (G m) c := by
  rw [← Φ_one]; rfl
theorem Φ_first (c : Dev nD) : (dats m 0 c).Φ 0 = Pipeline.ΦDRG osem spec0 HR OUT (V m) (V m) c := by
  rw [← Φ_zero]; rfl
theorem Φ_last (c : Dev nD) : (dats m 0 c).Φ (Fin.last cfg0.N) = Pipeline.ΦDRG osem spec0 HR OUT (V m) (G m) c := by
  rw [← Φ_one]
  exact congrArg (Φ m c) N_0

theorem G_0 (c : Dev nD) : G m c main_v8_0
    = epArr c (V m c main_arg6) (V m c main_arg7) (st0_0 t0_0) (st0_1 t0_0) (st0_2 t0_0) (s0 m c) (s1 m c) (s2 m c) := by
  unfold G
  rw [Function.update_of_ne (by decide), Function.update_of_ne (by decide), Function.update_of_ne (by decide), Function.update_of_ne (by decide), Function.update_of_ne (by decide), Function.update_self]
theorem G_1 (c : Dev nD) : G m c main_v8_1
    = apArr c (V m c main_arg6) (st0_1 t0_0) (st0_2 t0_0) (s1 m c) (s2 m c) (p2 m c) (p3 m c) := by
  unfold G
  rw [Function.update_of_ne (by decide), Function.update_of_ne (by decide), Function.update_of_ne (by decide), Function.update_of_ne (by decide), Function.update_self]
theorem G_2 (c : Dev nD) : G m c main_v8_2 = sgArr c (V m c main_arg6) (st0_1 t0_0) (s1 m c) (p2 m c) (p3 m c) := by
  unfold G
  rw [Function.update_of_ne (by decide), Function.update_of_ne (by decide), Function.update_of_ne (by decide), Function.update_self]
theorem G_3 (c : Dev nD) : G m c main_v8_3 = ftArr c (V m c main_arg6) (st0_1 t0_0) (s1 m c) (p2 m c) (p3 m c) := by
  unfold G
  rw [Function.update_of_ne (by decide), Function.update_of_ne (by decide), Function.update_self]
theorem G_4 (c : Dev nD) : G m c main_v8_4 = saArr c (st0_1 t0_0) (s1 m c) (p2 m c) := by
  unfold G
  rw [Function.update_of_ne (by decide), Function.update_self]
theorem G_5 (c : Dev nD) : G m c main_v8_5 = snArr c (V m c main_arg6) (st0_1 t0_0) (s1 m c) (p2 m c) (p3 m c) := by
  unfold G
  rw [Function.update_self]

set_option maxHeartbeats 1600000 in
set_option backward.isDefEq.respectTransparency.types false in
theorem body_obligation (c : Dev nD) : BodyObligation (dats (F := F) m 0 c) (defs₀ (F := F)) 𝒱₀ () Set.univ := fun t => by
  obtain rfl : t = t0_0 := fin_N0 t
  rw [bigSep_W0, bigSep_W0]
  dsimp only
  simp only [before_w0, before_w1, before_w2, after_w0, after_w1, after_w2]
  rw [Φ_before, Φ_after, Φ_eq, Φ_eq, G_0, G_1, G_2, G_3, G_4, G_5]
  unfold Dat.owesAt Pipeline.owesWithin
  rw [show (dats m 0 c).owed (Fin.castSucc t0_0) = 0 from rfl, show (dats m 0 c).owed (Fin.succ t0_0) = 0 from rfl]
  unfold owns
  iintro ⟨⟨⟨Hmk, Hnf, HeB, HapB, HsgB, HftB, HsaB, HsnB, HtB, HoB⟩, Hreg, ⟨C1, C3, C5, C7, C9, C11, C13, C15⟩, ⟨He, Ht⟩, ⟨Hep, Hap, Hsg, Hft, Hsa, Hsn⟩⟩, ⟨%W, -, HW⟩, ⟨%d0, %g0, %hg0, H0⟩, ⟨%d1, %g1, %hg1, H1⟩, ⟨%d2, %g2, %hg2, H2⟩⟩
  ihave H0' := (pointsTo_rep_entails (c : Thread nD τ) (st0_0 t0_0) g0 fullShare) $$ H0
  ihave H1' := (pointsTo_rep_entails (c : Thread nD τ) (st0_1 t0_0) g1 fullShare) $$ H1
  ihave H2' := (pointsTo_rep_entails (c : Thread nD τ) (st0_2 t0_0) g2 fullShare) $$ H2
  rw [hg0, hg1, hg2]
  sl_rw [prog_eq t0_0]
  iapply (bodyRun c (V m c main_arg6) (V m c main_arg7) (Memref.whole cc0_scratch0) (Memref.isWhole_whole _) (Memref.whole cc0_scratch1) (Memref.isWhole_whole _)
    (st0_0 t0_0) (hstage0_0 0) (st0_1 t0_0) (hstage0_1 0) (st0_2 t0_0) (hstage0_2 0) (s0 m c) (s1 m c) (s2 m c))
  isplitr [Hreg]
  · isplitl [H0' H1' H2' Hmk Hnf HW He HeB C1 Ht HtB C13]
    · isplitl [H0' H1' H2' Hmk Hnf HW]
      · isplitl [H0']; · iexact H0'
        isplitl [H1']; · iexact H1'
        isplitl [H2']; · iexact H2'
        isplitl [Hmk]; · iexact Hmk
        isplitl [Hnf]; · iexact Hnf
        iexists W; iexact HW
      isplitl [He HeB C1]
      · isplitl [He]
        · irw [← blocksW c edM (V m c main_arg6)]; iexact He
        iapply (freeW_in c eB cc0_scoped1)
        isplitl [HeB]; · iexact HeB
        iexact C1
      isplitl [Ht]
      · irw [← blocksW c thM (V m c main_arg7)]; iexact Ht
      iapply (freeW_in c tB cc0_scoped13)
      isplitl [HtB]; · iexact HtB
      iexact C13
    isplitl [Hap HapB C3 Hsg HsgB C5 Hft HftB C7 Hsa HsaB C9 Hsn HsnB C11]
    · isplitl [Hap HapB C3]
      · iapply (bootN_in c apM apB cc0_scoped3 (V m c main_v8_1))
        isplitl [Hap]; · iexact Hap
        isplitl [HapB]; · iexact HapB
        iexact C3
      isplitl [Hsg HsgB C5]
      · iapply (bootN_in c sgM sgB cc0_scoped5 (V m c main_v8_2))
        isplitl [Hsg]; · iexact Hsg
        isplitl [HsgB]; · iexact HsgB
        iexact C5
      isplitl [Hft HftB C7]
      · iapply (bootN_in c ftM ftB cc0_scoped7 (V m c main_v8_3))
        isplitl [Hft]; · iexact Hft
        isplitl [HftB]; · iexact HftB
        iexact C7
      isplitl [Hsa HsaB C9]
      · iapply (bootN_in c saM saB cc0_scoped9 (V m c main_v8_4))
        isplitl [Hsa]; · iexact Hsa
        isplitl [HsaB]; · iexact HsaB
        iexact C9
      iapply (bootN_in c snM snB cc0_scoped11 (V m c main_v8_5))
      isplitl [Hsn]; · iexact Hsn
      isplitl [HsnB]; · iexact HsnB
      iexact C11
    iapply (bootW_in c epM oB cc0_scoped15 (V m c main_v8_0))
    isplitl [Hep]; · iexact Hep
    isplitl [HoB]; · iexact HoB
    iexact C15
  iintro ⟨⟨⟨H0, H1, H2, Hmk, Hnf, ⟨%W', HW⟩⟩, ⟨He, HeF⟩, ⟨Ht, HtF⟩⟩, ⟨Rap, Rsg, Rft, Rsa, Rsn⟩, Rep⟩
  ihave Xe := (freeW_out c eB cc0_scoped1 Classical.ofNonempty) $$ HeF
  ihave Xt := (freeW_out c tB cc0_scoped13 Classical.ofNonempty) $$ HtF
  ihave Xap := (doneN_out c apM apB cc0_scoped3 _ Classical.ofNonempty) $$ Rap
  ihave Xsg := (doneN_out c sgM sgB cc0_scoped5 _ Classical.ofNonempty) $$ Rsg
  ihave Xft := (doneN_out c ftM ftB cc0_scoped7 _ Classical.ofNonempty) $$ Rft
  ihave Xsa := (doneN_out c saM saB cc0_scoped9 _ Classical.ofNonempty) $$ Rsa
  ihave Xsn := (doneN_out c snM snB cc0_scoped11 _ Classical.ofNonempty) $$ Rsn
  ihave Xep := (doneW_out c epM oB cc0_scoped15 _ Classical.ofNonempty) $$ Rep
  icases Xe with ⟨HeB, C1⟩
  icases Xt with ⟨HtB, C13⟩
  icases Xap with ⟨Hap, HapB, C3⟩
  icases Xsg with ⟨Hsg, HsgB, C5⟩
  icases Xft with ⟨Hft, HftB, C7⟩
  icases Xsa with ⟨Hsa, HsaB, C9⟩
  icases Xsn with ⟨Hsn, HsnB, C11⟩
  icases Xep with ⟨Hep, HoB, C15⟩
  isplitr [HW H0 H1 H2]
  · isplitl [Hmk Hnf HeB HapB HsgB HftB HsaB HsnB HtB HoB]
    · isplitl [Hmk]; · iexact Hmk
      isplitl [Hnf]; · iexact Hnf
      isplitl [HeB]; · iexact HeB
      isplitl [HapB]; · iexact HapB
      isplitl [HsgB]; · iexact HsgB
      isplitl [HftB]; · iexact HftB
      isplitl [HsaB]; · iexact HsaB
      isplitl [HsnB]; · iexact HsnB
      isplitl [HtB]; · iexact HtB
      iexact HoB
    isplitl [Hreg]; · iexact Hreg
    isplitl [C1 C3 C5 C7 C9 C11 C13 C15]
    · isplitl [C1]; · iexact C1
      isplitl [C3]; · iexact C3
      isplitl [C5]; · iexact C5
      isplitl [C7]; · iexact C7
      isplitl [C9]; · iexact C9
      isplitl [C11]; · iexact C11
      isplitl [C13]; · iexact C13
      iexact C15
    isplitl [He Ht]
    · isplitl [He]
      · irw [blocksW c edM (V m c main_arg6)]; iexact He
      irw [blocksW c thM (V m c main_arg7)]; iexact Ht
    isplitl [Hep]; · iexact Hep
    isplitl [Hap]; · iexact Hap
    isplitl [Hsg]; · iexact Hsg
    isplitl [Hft]; · iexact Hft
    isplitl [Hsa]; · iexact Hsa
    iexact Hsn
  isplitl [HW]
  · iexists W'; isplitr; · ipureintro; exact fun _ _ => Or.inl trivial
    iexact HW
  isplitl [H0]
  · iexists _; isplitr; · ipureintro; exact View.read_rep _ _
    iexact H0
  isplitl [H1]
  · iexists _; isplitr; · ipureintro; exact View.read_rep _ _
    iexact H1
  iexists _; isplitr; · ipureintro; exact View.read_rep _ _
  iexact H2

set_option maxHeartbeats 800000 in
/-- @main up to the kernel. -/
theorem main_up : Pipeline.HMain (Ix := Unit) (Name := ℕ) (U := UU nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

set_option backward.isDefEq.respectTransparency.types false in
/-- Every fair execution of @main ends, every semaphore at zero, the arguments as launched and the six results at the
    contents `G` names. -/
theorem run : θ_run defs (onTc (τ := τ) (main (F := F))) ⟨m, fun _ => 0, ρ⟩ (fun r => r.2.sem = (fun _ => 0)
    ∧ Pipeline.FramePostRG cfgs (dats m) 0 OUT (V m) (G m) r) :=
  Pipeline.θ_run_frame_dmaRG cfgs (dats m) (0 : Fin 1) launch0 osem defs₀ 𝒱₀ ownSemFacts HR OUT HR_sub OUT_sub m ρ main
    (fun c => (body_obligation m c).loose) (fun c => (dats m 0 c).share_full fun _ => rfl) (fun _ _ => rfl)
    (V m) (main_up m) (fun _ _ => rfl) (G m) (fun c => Entails.of_eq (Φ_first m c).symm) (fun c => Entails.of_eq (Φ_last m c))
    (Q' := _) (hQ' := fun r h => ⟨h.2, h.1⟩)

end Run

end Cert.Proof.Launch
-- ==== Proof.Same.lean ====
module

public import proofs.«01_k».proof.Defs
public import proofs.«01_k».proof.Proof.Gen.Kernel
public import proofs.«01_k».proof.Proof.Gen.KernelIdeal

/-! # The program as printed and the program with its mask named

The two programs differ in one constant: where the first writes the mask's word, the second writes its name. Reading
the name as its word makes them one program, so what is proved of the second at every reading holds of the first. -/

@[expose] public section

set_option maxHeartbeats 0

noncomputable section

namespace Cert.Proof.Same

open Idealize.ShloMosaic Idealize.SL.Sem

/-- The words' reading of a named constant: its word. -/
@[reducible] def namedWord : Named Bits := ⟨fun _ _ {φ} b => FloatOps.ofBits φ b⟩

theorem body_eq (hK : Cert.Kernel.Facts) (hI : Cert.KernelIdeal.Facts) :
    (@Cert.KernelIdeal.cc0__fused_kernel Bits _ namedWord hI) = (@Cert.Kernel.cc0__fused_kernel Bits _ hK) := rfl

theorem main_eq (hK : Cert.Kernel.Facts) (hI : Cert.KernelIdeal.Facts) :
    (@Cert.KernelIdeal.main Bits _ hI) = (@Cert.Kernel.main Bits _ hK) := rfl

theorem defs₀_eq (hK : Cert.Kernel.Facts) (hI : Cert.KernelIdeal.Facts) :
    (@Cert.KernelIdeal.defs₀ Bits _ namedWord hI) = (@Cert.Kernel.defs₀ Bits _ hK) := by
  unfold Cert.KernelIdeal.defs₀ Cert.Kernel.defs₀
  refine congrArg Defs.onTc (funext fun l => funext fun a => ?_)
  match l, a with
  | 0, (t, s) =>
    dsimp only
    rw [body_eq hK hI]

theorem pcfgs_eq :
    (@Cert.KernelIdeal.pcfgs Bits _) = (@Cert.Kernel.pcfgs Bits _) := rfl

theorem defs_eq (hK : Cert.Kernel.Facts) (hI : Cert.KernelIdeal.Facts) :
    (@Cert.KernelIdeal.defs Bits _ namedWord hI) = (@Cert.Kernel.defs Bits _ hK) := by
  unfold Cert.KernelIdeal.defs Cert.Kernel.defs
  exact congrArg (Pipeline.defs Cert.Kernel.pcfgs) (defs₀_eq hK hI)

end Cert.Proof.Same
-- ==== Proof.Spec.lean ====
module

public import proofs.«01_k».proof.Proof.Names
public import Idealize.ShloMosaic.Lib.ValueIdx
public import Idealize.ShloMosaic.PureOps.Ideal.Laws

/-! # The mathematics the kernel and the reference share

One node's next features, their normalisation and similarity, and the law by which the kernel's single masked
exponential is the sum of the reference's two probabilities. Numbers are extended reals. -/

@[expose] public section

noncomputable section

namespace Cert.Proof.Spec

open Idealize.ShloMosaic Idealize.ShloMosaic.ValueIdx

/-- A matrix. -/
abbrev Mat (n k : ℕ) : Type := (⟨2, ![n, k]⟩ : Shape).Idx → EReal

/-- What the norms are kept off zero by. -/
def eps : EReal := Ideal.ofBits .f32 0x2EDBE6FF#32

/-- The features handed on: a share `r` of the node's own and a share `1 - r` of its neighbours', weighed by `w`. -/
def own (r : EReal) (x : Mat 4096 128) (i : Fin 4096) (j : Fin 128) : EReal := x (ix2 i j) * r
def neigh (r w : EReal) (x : Mat 4096 128) (ed : Mat 4096 4096) (i : Fin 4096) (j : Fin 128) : EReal :=
  (∑ k : Fin 4096, ed (ix2 i k) * x (ix2 k j)) * (w * (1 - r))
def feat (r w : EReal) (x : Mat 4096 128) (ed : Mat 4096 4096) (i : Fin 4096) (j : Fin 128) : EReal :=
  own r x i j + neigh r w x ed i j

/-- The sigmoid, 0 at 0. -/
def sgm (x : EReal) : EReal := if x ≠ 0 then Ideal.logistic x else 0

/-- A row divided by its norm, and the inner product of two such rows. -/
def unit (y : Fin 4096 → Fin 128 → EReal) (i : Fin 4096) (j : Fin 128) : EReal :=
  Ideal.div (y i j) (Ideal.sqrt ((∑ k : Fin 128, y i k * y i k) + eps))
def sim (y : Fin 4096 → Fin 128 → EReal) (a b : Fin 4096) : EReal := ∑ k : Fin 128, unit y a k * unit y b k

/-- The reference's probability of a similarity. -/
def prob (e t x : EReal) : EReal := Ideal.tanh (if x ≠ 0 then Ideal.exp (Ideal.div x t) * e else 0)
/-- The reference's two probabilities of a pair of nodes together. -/
def exits (e t s adj th : EReal) : EReal :=
  prob e t ((if th ≠ 0 ∧ adj = 0 then 1 else 0) * s) + prob e t ((if adj * s ≠ 0 then 1 - adj * s else 0) * s)

/-- The kernel's: `mf` is 1 on an edge and 0 off it. -/
def single (e t s mf th : EReal) : EReal :=
  Ideal.tanh (e * Ideal.exp (if (s - mf * (s * s)) * (th + mf) ≠ 0 then (s - mf * (s * s)) * Ideal.div 1 t else ⊥))

theorem mul_div_one {s : EReal} (t : EReal) (h : s ≠ 0) : s * Ideal.div 1 t = Ideal.div s t := by
  unfold Ideal.div
  by_cases ht : t = 0
  · rw [if_pos ht, if_pos ht, if_pos one_pos]
    by_cases hs : 0 < s
    · rw [if_pos hs, EReal.mul_top_of_pos hs]
    · rw [if_neg hs, EReal.mul_top_of_neg (lt_of_le_of_ne (not_lt.mp hs) h)]
  · rw [if_neg ht, if_neg ht, one_mul]

theorem tanh_zero : Ideal.tanh 0 = 0 := by
  show ((Real.tanh 0 : ℝ) : EReal) = 0
  rw [Real.tanh_zero]; rfl

theorem prob_zero (e t : EReal) : prob e t 0 = 0 := by
  unfold prob
  rw [if_neg (not_not.mpr rfl), tanh_zero]

/-- A masked entry's exponential is 0. -/
theorem masked (e : EReal) : Ideal.tanh (e * Ideal.exp ⊥) = 0 := by
  rw [show Ideal.exp ⊥ = 0 from rfl, mul_zero, tanh_zero]

theorem live (e t : EReal) {x : EReal} (h : x ≠ 0) : Ideal.tanh (e * Ideal.exp (x * Ideal.div 1 t)) = prob e t x := by
  unfold prob
  rw [if_pos h, mul_div_one t h, mul_comm]

/-- The dissimilarity times the similarity. -/
theorem dissim (s : EReal) : (1 - s) * s = s - s * s := by
  induction s with
  | bot => rfl
  | top => rfl
  | coe x =>
    rw [← EReal.coe_one, ← EReal.coe_sub, ← EReal.coe_mul, ← EReal.coe_mul, ← EReal.coe_sub]
    congr 1; ring

theorem add_one_ne {th : EReal} (h : th ≠ -1) : th + 1 ≠ 0 := by
  induction th with
  | bot => decide
  | top => decide
  | coe x =>
    intro h0
    apply h
    rw [← EReal.coe_one, ← EReal.coe_add, ← EReal.coe_zero, EReal.coe_eq_coe_iff] at h0
    rw [← EReal.coe_one, ← EReal.coe_neg, EReal.coe_eq_coe_iff]
    linarith

/-- Off an edge and on an edge, the kernel's probability is the reference's two together. -/
theorem single_off (e t s th : EReal) : single e t s 0 th = exits e t s 0 th := by
  unfold single exits
  rw [zero_mul, sub_zero, add_zero, zero_mul, if_neg (not_not.mpr rfl), zero_mul, prob_zero, add_zero]
  by_cases hth : th = 0
  · subst hth
    rw [mul_zero, if_neg (not_not.mpr rfl), if_neg (show ¬((0 : EReal) ≠ 0 ∧ (0 : EReal) = 0) from fun h => h.1 rfl), zero_mul, prob_zero, masked]
  · rw [if_pos (show th ≠ 0 ∧ (0 : EReal) = 0 from ⟨hth, rfl⟩), one_mul]
    by_cases hs : s = 0
    · subst hs
      rw [zero_mul, if_neg (not_not.mpr rfl), prob_zero, masked]
    · rw [if_pos (mul_ne_zero hs hth), live e t hs]

theorem single_on (e t s th : EReal) (h : th ≠ -1) : single e t s 1 th = exits e t s 1 th := by
  unfold single exits
  rw [one_mul, one_mul, if_neg (show ¬(th ≠ 0 ∧ (1 : EReal) = 0) from fun h => one_ne_zero h.2), zero_mul, prob_zero, zero_add]
  by_cases hs : s = 0
  · subst hs
    rw [mul_zero, sub_zero, zero_mul, if_neg (not_not.mpr rfl), mul_zero, prob_zero, masked]
  · rw [if_pos hs, dissim]
    by_cases hx : s - s * s = 0
    · rw [hx, zero_mul, if_neg (not_not.mpr rfl), prob_zero, masked]
    · rw [if_pos (mul_ne_zero hx (add_one_ne h)), live e t hx]

/-- A hyperbolic tangent is a number, and a number distributes over a sum of numbers. -/
theorem tanh_real (x : EReal) : ∃ a : ℝ, Ideal.tanh x = a := by
  induction x with
  | bot => exact ⟨-1, by show (-1 : EReal) = _; rw [EReal.coe_neg, EReal.coe_one]⟩
  | top => exact ⟨1, by show (1 : EReal) = _; rw [EReal.coe_one]⟩
  | coe x => exact ⟨_, rfl⟩
theorem logistic_real (x : EReal) : ∃ a : ℝ, Ideal.logistic x = a := by
  unfold Ideal.logistic
  induction x with
  | bot =>
    refine ⟨0, ?_⟩
    show Ideal.div 1 (1 + ⊤) = _
    rw [show (1 : EReal) + ⊤ = ⊤ from rfl]
    unfold Ideal.div
    rw [if_neg EReal.top_ne_zero, EReal.inv_top, mul_zero]; rfl
  | top =>
    refine ⟨1, ?_⟩
    show Ideal.div 1 (1 + 0) = _
    unfold Ideal.div
    rw [add_zero, if_neg one_ne_zero, one_mul, ← EReal.coe_one, ← EReal.coe_inv, inv_one]
  | coe x =>
    refine ⟨(1 + Real.exp (-x))⁻¹, ?_⟩
    show Ideal.div 1 (1 + ((Real.exp (-x) : ℝ) : EReal)) = _
    unfold Ideal.div
    rw [← EReal.coe_one, ← EReal.coe_add, if_neg, EReal.coe_one, one_mul, EReal.coe_inv]
    rw [← EReal.coe_zero, EReal.coe_eq_coe_iff]
    positivity
theorem sgm_real (x : EReal) : ∃ a : ℝ, sgm x = a := by
  unfold sgm
  split
  · exact logistic_real x
  · exact ⟨0, rfl⟩

/-- A number times the personas' total is the sum of its shares. -/
theorem shares {x p q : EReal} (hx : ∃ a : ℝ, x = a) (hp : ∃ a : ℝ, p = a) (hq : ∃ a : ℝ, q = a) :
    x * (0 + (p + q)) = p * x + q * x := by
  obtain ⟨x, rfl⟩ := hx
  obtain ⟨p, rfl⟩ := hp
  obtain ⟨q, rfl⟩ := hq
  rw [zero_add, ← EReal.coe_add, ← EReal.coe_mul, ← EReal.coe_mul, ← EReal.coe_mul, ← EReal.coe_add]
  congr 1; ring

theorem exits_single (e t s adj mf th : EReal) (h : (adj = 0 ∧ mf = 0) ∨ (adj = 1 ∧ mf = 1 ∧ th ≠ -1)) :
    single e t s mf th = exits e t s adj th := by
  rcases h with ⟨rfl, rfl⟩ | ⟨rfl, rfl, h⟩
  · exact single_off e t s th
  · exact single_on e t s th h

/-! ## Words and choices -/

theorem one_f32 : Ideal.ofBits .f32 0x3F800000#32 = 1 := by
  simp [Ideal.ofBits, Ideal.ieee]
  rw [← EReal.coe_mul, ← EReal.coe_one, EReal.coe_eq_coe_iff]
  norm_num

theorem pick_ne (a b x y : EReal) : Scalar.select (Ideal.cmp .one a b) x y = if a ≠ b then x else y := by
  by_cases h : a = b
  · rw [if_neg (not_not.mpr h), show Ideal.cmp .one a b = 0#1 from congrArg BitVec.ofBool (decide_eq_false (not_not.mpr h))]; rfl
  · rw [if_pos h, show Ideal.cmp .one a b = 1#1 from congrArg BitVec.ofBool (decide_eq_true h)]; rfl

theorem pick_une (a b x y : EReal) : Scalar.select (Ideal.cmp .une a b) x y = if a ≠ b then x else y := pick_ne a b x y

theorem of_oeq {a b : EReal} (h : Ideal.cmp .oeq a b = 1#1) : a = b := by
  by_contra n
  rw [show Ideal.cmp .oeq a b = 0#1 from congrArg BitVec.ofBool (decide_eq_false n)] at h
  exact absurd h (by decide)
theorem of_une {a b : EReal} (h : Ideal.cmp .une a b = 1#1) : a ≠ b := by
  intro e
  rw [show Ideal.cmp .une a b = 0#1 from congrArg BitVec.ofBool (decide_eq_false (not_not.mpr e))] at h
  exact absurd h (by decide)
theorem of_olt {a b : EReal} (h : Ideal.cmp .olt a b = 1#1) : a < b := by
  by_contra n
  rw [show Ideal.cmp .olt a b = 0#1 from congrArg BitVec.ofBool (decide_eq_false n)] at h
  exact absurd h (by decide)
theorem to_oeq (a b : EReal) : Ideal.cmp .oeq a b = if a = b then 1#1 else 0#1 := by
  show BitVec.ofBool (decide (a = b)) = _
  by_cases h : a = b
  · rw [if_pos h, decide_eq_true h]; rfl
  · rw [if_neg h, decide_eq_false h]; rfl

end Cert.Proof.Spec

end
-- ==== Proof.Ref.lean ====
module

public import proofs.«01_k».proof.Defs
public import proofs.«01_k».proof.Proof.Spec
public import proofs.«01_k».proof.Proof.Gen.ReferenceIdeal.Run
public import proofs.«01_k».proof.Proof.Gen.ReferenceIdeal.Read

/-! # The reference, entry by entry

The reference's steps as functions of arrays, each read at an entry, and its six results as those functions. Both
personas run the same steps; only the parameters and the column of shares differ. -/

@[expose] public section

noncomputable section

namespace Cert.Proof.Ref

open Cert.ReferenceIdeal Cert.ReferenceIdeal.Gen Cert.ReferenceIdeal.Read Cert.Proof.Spec
open Idealize.ShloMosaic Idealize.ShloMosaic.ValueIdx

/-! ## Scalars and rows spread over arrays -/

section Spread
variable (s : S_.Idx → EReal)

abbrev overN : FVec Ideal S4096x128 .f32 := broadcastInDim S4096x128 ![] bcast_S_S4096x128 s
abbrev overW : FVec Ideal S4096x4096 .f32 := broadcastInDim S4096x4096 ![] bcast_S_S4096x4096 s
theorem overN_at (i : S4096x128.Idx) : overN s i = s ix0 := broadcastInDim_apply _ _ s i ix0 fun a => a.elim0
theorem overW_at (i : S4096x4096.Idx) : overW s i = s ix0 := broadcastInDim_apply _ _ s i ix0 fun a => a.elim0

abbrev zero : FVec Ideal S_ .f32 := constant S_ .f32 0x00000000#32
abbrev one : FVec Ideal S_ .f32 := constant S_ .f32 0x3F800000#32
theorem zeroN (i : S4096x128.Idx) : overN zero i = 0 := (overN_at _ i).trans Ideal.ofBits_zero_f32
theorem zeroW (i : S4096x4096.Idx) : overW zero i = 0 := (overW_at _ i).trans Ideal.ofBits_zero_f32
theorem oneN (i : S4096x128.Idx) : overN one i = 1 := (overN_at _ i).trans one_f32
theorem oneW (i : S4096x4096.Idx) : overW one i = 1 := (overW_at _ i).trans one_f32

/-- A pair's two entries. -/
abbrev fst (x : FVec Ideal S2 .f32) : FVec Ideal S_ .f32 := shapeCast S_ (extractStridedSlice S1 ![0] x slices_S2_S1_0) shapeCasts_S1_S_
abbrev snd (x : FVec Ideal S2 .f32) : FVec Ideal S_ .f32 := shapeCast S_ (extractStridedSlice S1 ![1] x slices_S2_S1_1) shapeCasts_S1_S_
theorem fst_at (x : S2.Idx → EReal) : fst x ix0 = x (ix1 0) :=
  (shapeCast_apply _ _ ix0 (ix1 0) (by decide)).trans (extractStridedSlice_apply _ x _ (ix1 0) (ix1 0) fun a => match a with | ⟨0, _⟩ => rfl)
theorem snd_at (x : S2.Idx → EReal) : snd x ix0 = x (ix1 1) :=
  (shapeCast_apply _ _ ix0 (ix1 0) (by decide)).trans (extractStridedSlice_apply _ x _ (ix1 0) (ix1 1) fun a => match a with | ⟨0, _⟩ => rfl)

variable (v : FVec Ideal S4096 .f32)

/-- A vector over the rows, and over the columns. -/
abbrev down : FVec Ideal S4096x128 .f32 :=
  broadcastInDim S4096x128 ![0, 1] bcast_S4096x1_S4096x128_0_1 (broadcastInDim S4096x1 ![0] bcast_S4096_S4096x1_0 v)
abbrev along : FVec Ideal S4096x4096 .f32 :=
  broadcastInDim S4096x4096 ![0, 1] bcast_S1x4096_S4096x4096_0_1 (broadcastInDim S1x4096 ![1] bcast_S4096_S1x4096_1 v)
theorem down_at (i : Fin 4096) (j : Fin 128) : down v (ix2 i j) = v (ix1 i) :=
  (broadcastInDim_apply _ bcast_S4096x1_S4096x128_0_1 _ (ix2 i j) (ix2 i 0) fun a => match a with
    | ⟨0, _⟩ => by show i.val = if (4096 : ℕ) = 1 then 0 else i.val; rw [if_neg (by decide)]
    | ⟨1, _⟩ => by show 0 = if (1 : ℕ) = 1 then 0 else j.val; rw [if_pos rfl]).trans
  (broadcastInDim_apply _ bcast_S4096_S4096x1_0 v (ix2 i 0) (ix1 i) fun a => match a with
    | ⟨0, _⟩ => by show i.val = if (4096 : ℕ) = 1 then 0 else i.val; rw [if_neg (by decide)])
theorem along_at (i j : Fin 4096) : along v (ix2 i j) = v (ix1 j) :=
  (broadcastInDim_apply _ bcast_S1x4096_S4096x4096_0_1 _ (ix2 i j) (ix2 0 j) fun a => match a with
    | ⟨0, _⟩ => by show 0 = if (1 : ℕ) = 1 then 0 else i.val; rw [if_pos rfl]
    | ⟨1, _⟩ => by show j.val = if (4096 : ℕ) = 1 then 0 else j.val; rw [if_neg (by decide)]).trans
  (broadcastInDim_apply _ bcast_S4096_S1x4096_1 v (ix2 0 j) (ix1 j) fun a => match a with
    | ⟨0, _⟩ => by show j.val = if (4096 : ℕ) = 1 then 0 else j.val; rw [if_neg (by decide)])

variable (u : FVec Ideal S4096x2 .f32)
/-- The two personas' columns of shares. -/
abbrev colA : FVec Ideal S4096 .f32 := shapeCast S4096 (extractStridedSlice S4096x1 ![0, 0] u slices_S4096x2_S4096x1_0_0) shapeCasts_S4096x1_S4096
abbrev colB : FVec Ideal S4096 .f32 := shapeCast S4096 (extractStridedSlice S4096x1 ![0, 1] u slices_S4096x2_S4096x1_0_1) shapeCasts_S4096x1_S4096
theorem col_word (i : Fin 4096) : (S4096x1.rowMajor (ix2 i 0)).val = (S4096.rowMajor (ix1 i)).val := by
  rw [Shape.rowMajor_val_two, Shape.rowMajor_val_one]; show i.val * 1 + 0 = i.val; omega
theorem colA_at (i : Fin 4096) : colA u (ix1 i) = u (ix2 i 0) :=
  (shapeCast_apply _ _ (ix1 i) (ix2 i 0) (col_word i)).trans (extractStridedSlice_apply _ u _ (ix2 i 0) (ix2 i 0) fun a => match a with
    | ⟨0, _⟩ => by show i.val = 0 + i.val; omega
    | ⟨1, _⟩ => rfl)
theorem colB_at (i : Fin 4096) : colB u (ix1 i) = u (ix2 i 1) :=
  (shapeCast_apply _ _ (ix1 i) (ix2 i 0) (col_word i)).trans (extractStridedSlice_apply _ u _ (ix2 i 0) (ix2 i 1) fun a => match a with
    | ⟨0, _⟩ => by show i.val = 0 + i.val; omega
    | ⟨1, _⟩ => rfl)
end Spread

/-! ## One persona's features -/

section Features
variable (r w : FVec Ideal S_ .f32) (x : FVec Ideal S4096x128 .f32) (ed : FVec Ideal S4096x4096 .f32)

def ownR : FVec Ideal S4096x128 .f32 := mulf x (overN r)
def neighR : FVec Ideal S4096x128 .f32 :=
  mulf (mulf (Host.dotGeneral dot_S4096x4096_S4096x128_S4096x128_1_0_0_1_n_n none ed x) (overN w)) (overN (subf one r))
def featR : FVec Ideal S4096x128 .f32 := addf (ownR r x) (neighR r w x ed)

theorem ownR_at (i : Fin 4096) (j : Fin 128) : ownR r x (ix2 i j) = own (r ix0) x i j :=
  congrArg (x (ix2 i j) * ·) (overN_at r _)
theorem dot_at (i : Fin 4096) (j : Fin 128) :
    Host.dotGeneral dot_S4096x4096_S4096x128_S4096x128_1_0_0_1_n_n none ed x (ix2 i j) = ∑ k : Fin 4096, ed (ix2 i k) * x (ix2 k j) := by
  refine (val_main_v0_apply x ed (ix2 i j)).trans (Finset.sum_congr rfl fun k _ => ?_)
  exact congrArg₂ (fun a b : EReal => a * b)
    (congrArg ed (funext fun a => match a with | ⟨0, _⟩ => rfl | ⟨1, _⟩ => rfl)) (congrArg x (funext fun a => match a with | ⟨0, _⟩ => rfl | ⟨1, _⟩ => rfl))
theorem neighR_at (i : Fin 4096) (j : Fin 128) : neighR r w x ed (ix2 i j) = neigh (r ix0) (w ix0) x ed i j := by
  have h1 : overN (subf one r) (ix2 i j) = 1 - r ix0 := (overN_at _ _).trans (congrArg (· - r ix0) one_f32)
  have h : neighR r w x ed (ix2 i j)
      = (Host.dotGeneral dot_S4096x4096_S4096x128_S4096x128_1_0_0_1_n_n none ed x (ix2 i j) * overN w (ix2 i j)) * overN (subf one r) (ix2 i j) := rfl
  rw [h, h1, overN_at, dot_at]
  exact mul_assoc _ _ _
theorem featR_at (i : Fin 4096) (j : Fin 128) : featR r w x ed (ix2 i j) = feat (r ix0) (w ix0) x ed i j :=
  congrArg₂ (fun a b : EReal => a + b) (ownR_at r x i j) (neighR_at r w x ed i j)

variable (y : FVec Ideal S4096x128 .f32)

def sgR : FVec Ideal S4096x128 .f32 :=
  select (cmpf .une y (overN zero)) (Host.divf (overN one) (addf (overN one) (Host.exp (Host.negf y)))) (overN (id zero))
def unitR : FVec Ideal S4096x128 .f32 :=
  Host.divf y (down (Host.sqrt (addf (Host.reduceAdd (mulf y y) zero reducesTo_S4096x128_S4096_d1 h_S_) (broadcastInDim S4096 ![] bcast_S_S4096 (constant S_ .f32 0x2EDBE6FF#32)))))
def simR : FVec Ideal S4096x4096 .f32 :=
  Host.dotGeneral dot_S4096x128_S128x4096_S4096x4096_1_0_0_1_n_n none (unitR y) (transpose S128x4096 [1, 0] (unitR y) transposes_S4096x128_S128x4096_1_0)

theorem sgR_at (i : S4096x128.Idx) : sgR y i = sgm (y i) := by
  show Scalar.select (Ideal.cmp .une (y i) (overN zero i)) (Ideal.div (overN one i) (overN one i + Ideal.exp (-(y i)))) (overN zero i) = _
  rw [pick_une, zeroN, oneN]; rfl

variable (f : Fin 4096 → Fin 128 → EReal) (hf : ∀ i j, y (ix2 i j) = f i j)
include hf

theorem norm_at (i : Fin 4096) : Host.reduceAdd (mulf y y) zero reducesTo_S4096x128_S4096_d1 h_S_ (ix1 i) = ∑ k : Fin 128, f i k * f i k := by
  simp only [Host.reduceAdd, Ideal.hostReduceAdd_def]
  rw [Ideal.hostReduceAdd_single reducesTo_S4096x128_S4096_d1 (by decide)]
  refine (congrArg₂ (fun a b : EReal => a + b) Ideal.ofBits_zero_f32 (Finset.sum_congr rfl fun k _ => ?_)).trans (zero_add _)
  refine (?_ : mulf y y _ = mulf y y (ix2 i k)).trans (congrArg₂ (fun a b : EReal => a * b) (hf i k) (hf i k))
  exact congrArg (mulf y y) (funext fun a => Fin.ext (match a with
    | ⟨0, _⟩ => rfl
    | ⟨1, _⟩ => rfl))

theorem unitR_at (i : Fin 4096) (j : Fin 128) : unitR y (ix2 i j) = unit f i j := by
  have h : unitR y (ix2 i j) = Ideal.div (y (ix2 i j)) (down (Host.sqrt (addf (Host.reduceAdd (mulf y y) zero reducesTo_S4096x128_S4096_d1 h_S_) (broadcastInDim S4096 ![] bcast_S_S4096 (constant S_ .f32 0x2EDBE6FF#32)))) (ix2 i j)) := rfl
  rw [h, down_at, hf]
  have he : broadcastInDim S4096 ![] bcast_S_S4096 (constant (F := Ideal) S_ .f32 0x2EDBE6FF#32) (ix1 i) = eps := broadcastInDim_apply _ _ _ (ix1 i) ix0 fun a => a.elim0
  exact congrArg (Ideal.div (f i j)) (congrArg Ideal.sqrt (congrArg₂ (fun a b : EReal => a + b) (norm_at y f hf i) he))

theorem simR_at (i j : Fin 4096) : simR y (ix2 i j) = sim f i j := by
  have ht (k : Fin 128) : transpose S128x4096 [1, 0] (unitR y) transposes_S4096x128_S128x4096_1_0 (ix2 k j) = unit f j k :=
    (transpose_apply [1, 0] (unitR y) _ (ix2 k j) (ix2 j k) fun b => match b with | ⟨0, _⟩ => rfl | ⟨1, _⟩ => rfl).trans (unitR_at y f hf j k)
  unfold simR
  simp only [Host.dotGeneral]
  rw [Ideal.dotGeneral_apply, ← Equiv.sum_comp (contrEquiv1 dot_S4096x128_S128x4096_S4096x4096_1_0_0_1_n_n 128 rfl rfl).symm]
  refine Finset.sum_congr rfl fun k _ => ?_
  have hk := contrEquiv1_symm_val dot_S4096x128_S128x4096_S4096x4096_1_0_0_1_n_n 128 rfl rfl k
  refine congrArg₂ (fun a b : EReal => a * b) ((congrArg (unitR y) (funext fun a => Fin.ext ?_)).trans (unitR_at y f hf i k))
    ((congrArg (transpose S128x4096 [1, 0] (unitR y) transposes_S4096x128_S128x4096_1_0) (funext fun a => Fin.ext ?_)).trans (ht k))
  · match a with
    | ⟨0, _⟩ => exact lhs_main_v43_0 _ _
    | ⟨1, _⟩ => exact (lhs_main_v43_1 _ _).trans hk
  · match a with
    | ⟨0, _⟩ => exact (rhs_main_v43_0 _ _).trans hk
    | ⟨1, _⟩ => exact rhs_main_v43_1 _ _
end Features

/-! ## One persona's probabilities -/

section Probabilities
variable (e t : FVec Ideal S_ .f32) (a ed th s : FVec Ideal S4096x4096 .f32)

def probR : FVec Ideal S4096x4096 .f32 :=
  Host.tanh (select (cmpf .une a (overW zero)) (mulf (Host.exp (Host.divf a (overW t))) (overW e)) (overW (id zero)))
def hopR : FVec Ideal S4096x4096 .f32 :=
  id (select (andi (cmpf .une th (overW zero)) (cmpf .oeq ed (overW zero))) (overW one) (overW zero))
def farR : FVec Ideal S4096x4096 .f32 := select (cmpf .une (mulf ed s) (overW zero)) (subf (overW one) (mulf ed s)) (overW (id zero))
def exitsR : FVec Ideal S4096x4096 .f32 := addf (probR e t (mulf (hopR ed th) s)) (probR e t (mulf (farR ed s) s))

theorem probR_at (i : S4096x4096.Idx) : probR e t a i = prob (e ix0) (t ix0) (a i) := by
  show Ideal.tanh (Scalar.select (Ideal.cmp .une (a i) (overW zero i)) (Ideal.exp (Ideal.div (a i) (overW t i)) * overW e i) (overW zero i)) = _
  rw [pick_une, zeroW, overW_at, overW_at]; rfl

theorem hopR_at (i : S4096x4096.Idx) : hopR ed th i = if th i ≠ 0 ∧ ed i = 0 then 1 else 0 := by
  show Scalar.select (IntOp.andi (Ideal.cmp .une (th i) (overW zero i)) (Ideal.cmp .oeq (ed i) (overW zero i))) (overW one i) (overW zero i) = _
  rw [zeroW, oneW, to_oeq]
  by_cases h : ed i = 0
  · rw [if_pos h, show IntOp.andi (Ideal.cmp .une (th i) 0) 1#1 = Ideal.cmp .une (th i) 0 from by
      generalize Ideal.cmp .une (th i) 0 = b; revert b; decide, pick_une]
    by_cases h' : th i = 0
    · rw [if_neg (not_not.mpr h'), if_neg fun q => q.1 h']
    · rw [if_pos h', if_pos ⟨h', h⟩]
  · rw [if_neg h, if_neg fun q => h q.2, show IntOp.andi (Ideal.cmp .une (th i) 0) 0#1 = 0#1 from by
      generalize Ideal.cmp .une (th i) 0 = b; revert b; decide]
    rfl

theorem farR_at (i : S4096x4096.Idx) : farR ed s i = if ed i * s i ≠ 0 then 1 - ed i * s i else 0 := by
  show Scalar.select (Ideal.cmp .une (ed i * s i) (overW zero i)) (overW one i - ed i * s i) (overW zero i) = _
  rw [pick_une, zeroW, oneW]

theorem exitsR_at (i : S4096x4096.Idx) : exitsR e t ed th s i = exits (e ix0) (t ix0) (s i) (ed i) (th i) := by
  show probR e t (mulf (hopR ed th) s) i + probR e t (mulf (farR ed s) s) i = _
  rw [probR_at, probR_at]
  exact congrArg₂ (fun p q : EReal => prob (e ix0) (t ix0) p + prob (e ix0) (t ix0) q)
    (congrArg (· * s i) (hopR_at ed th i)) (congrArg (· * s i) (farR_at ed s i))
end Probabilities

/-! ## The six results -/

section Results
variable (x0 x1 x2 x3 : FVec Ideal S2 .f32) (x4 : FVec Ideal S2x4096x2 .f32) (x5 : FVec Ideal S4096x128 .f32)
  (x6 x7 : FVec Ideal S4096x4096 .f32) (x8 : IVec S_ 32)

/-- The time's row of shares. -/
abbrev rowsR : FVec Ideal S4096x2 .f32 := val_main_v106 (F := Ideal) x4 x8

theorem v123_eq : val_main_v123 (F := Ideal) x2 x5 = ownR (snd x2) x5 := rfl
theorem v128_eq : val_main_v128 (F := Ideal) x2 x3 x5 x6 = neighR (snd x2) (snd x3) x5 x6 := rfl
theorem v14_eq : val_main_v14 (F := Ideal) x2 x3 x5 x6 = featR (fst x2) (fst x3) x5 x6 := rfl
theorem v129_eq : val_main_v129 (F := Ideal) x2 x3 x5 x6 = featR (snd x2) (snd x3) x5 x6 := rfl
theorem v23_eq : val_main_v23 (F := Ideal) x2 x3 x5 x6 = sgR (val_main_v14 (F := Ideal) x2 x3 x5 x6) := rfl
theorem v138_eq : val_main_v138 (F := Ideal) x2 x3 x5 x6 = sgR (val_main_v129 (F := Ideal) x2 x3 x5 x6) := rfl
theorem v231_eq : val_main_v231 (F := Ideal) x2 x3 x4 x5 x6 x8
    = addf (mulf (val_main_v23 (F := Ideal) x2 x3 x5 x6) (down (colA (rowsR x4 x8)))) (mulf (val_main_v138 (F := Ideal) x2 x3 x5 x6) (down (colB (rowsR x4 x8)))) := rfl
theorem v95_eq : val_main_v95 (F := Ideal) x0 x1 x2 x3 x5 x6 x7
    = exitsR (fst x1) (fst x0) x6 x7 (simR (val_main_v14 (F := Ideal) x2 x3 x5 x6)) := rfl
theorem v210_eq : val_main_v210 (F := Ideal) x0 x1 x2 x3 x5 x6 x7
    = exitsR (snd x1) (snd x0) x6 x7 (simR (val_main_v129 (F := Ideal) x2 x3 x5 x6)) := rfl
theorem v227_eq : val_main_v227 (F := Ideal) x0 x1 x2 x3 x4 x5 x6 x7 x8
    = addf (mulf (along (colA (rowsR x4 x8))) (val_main_v95 (F := Ideal) x0 x1 x2 x3 x5 x6 x7))
      (mulf (along (colB (rowsR x4 x8))) (val_main_v210 (F := Ideal) x0 x1 x2 x3 x5 x6 x7)) := rfl

theorem feat_second (i : Fin 4096) (j : Fin 128) : val_main_v129 (F := Ideal) x2 x3 x5 x6 (ix2 i j) = feat (x2 (ix1 1)) (x3 (ix1 1)) x5 x6 i j := by
  rw [v129_eq, featR_at, snd_at, snd_at]
theorem feat_first (i : Fin 4096) (j : Fin 128) : val_main_v14 (F := Ideal) x2 x3 x5 x6 (ix2 i j) = feat (x2 (ix1 0)) (x3 (ix1 0)) x5 x6 i j := by
  rw [v14_eq, featR_at, fst_at, fst_at]

theorem own_result (i : Fin 4096) (j : Fin 128) : val_main_v123 (F := Ideal) x2 x5 (ix2 i j) = own (x2 (ix1 1)) x5 i j := by
  rw [v123_eq, ownR_at, snd_at]
theorem neigh_result (i : Fin 4096) (j : Fin 128) : val_main_v128 (F := Ideal) x2 x3 x5 x6 (ix2 i j) = neigh (x2 (ix1 1)) (x3 (ix1 1)) x5 x6 i j := by
  rw [v128_eq, neighR_at, snd_at, snd_at]
theorem sg_result (i : Fin 4096) (j : Fin 128) : val_main_v138 (F := Ideal) x2 x3 x5 x6 (ix2 i j) = sgm (feat (x2 (ix1 1)) (x3 (ix1 1)) x5 x6 i j) := by
  rw [v138_eq, sgR_at, feat_second]

theorem attr_result (i : Fin 4096) (j : Fin 128) : val_main_v231 (F := Ideal) x2 x3 x4 x5 x6 x8 (ix2 i j)
    = sgm (feat (x2 (ix1 0)) (x3 (ix1 0)) x5 x6 i j) * rowsR x4 x8 (ix2 i 0) + sgm (feat (x2 (ix1 1)) (x3 (ix1 1)) x5 x6 i j) * rowsR x4 x8 (ix2 i 1) := by
  rw [v231_eq, addf_apply, mulf_apply, mulf_apply, sg_result, v23_eq, sgR_at, feat_first, down_at, down_at, colA_at, colB_at]

theorem edges_result (i j : Fin 4096) : val_main_v227 (F := Ideal) x0 x1 x2 x3 x4 x5 x6 x7 x8 (ix2 i j)
    = rowsR x4 x8 (ix2 j 0) * exits (x1 (ix1 0)) (x0 (ix1 0)) (sim (feat (x2 (ix1 0)) (x3 (ix1 0)) x5 x6) i j) (x6 (ix2 i j)) (x7 (ix2 i j))
      + rowsR x4 x8 (ix2 j 1) * exits (x1 (ix1 1)) (x0 (ix1 1)) (sim (feat (x2 (ix1 1)) (x3 (ix1 1)) x5 x6) i j) (x6 (ix2 i j)) (x7 (ix2 i j)) := by
  rw [v227_eq, addf_apply, mulf_apply, mulf_apply, along_at, along_at, colA_at, colB_at, v95_eq, v210_eq, exitsR_at, exitsR_at,
    simR_at _ _ (feat_first x2 x3 x5 x6), simR_at _ _ (feat_second x2 x3 x5 x6), fst_at, fst_at, snd_at, snd_at]
end Results

end Cert.Proof.Ref

end
-- ==== Proof.Frames.lean ====
module

public import proofs.«01_k».proof.Proof.Launch
public import proofs.«01_k».proof.Proof.Same
public import proofs.«01_k».proof.Proof.Ref
public import Idealize.ShloMosaic.Lib.Quiescent

/-! # Every program runs, and leaves its arguments alone

The kernel's run names what each result array holds; here only its arguments are read off it. -/

@[expose] public section

noncomputable section

namespace Cert.Proof.Frames

open Idealize.ShloMosaic Idealize.ShloMosaic.TcCoe Idealize.SL.Sem
open Cert.KernelIdeal Cert.KernelIdeal.Gen Cert.Proof.Launch

section Kernel

variable {F : FTy → Type} [FloatOps F] [Named F]
variable (m : (ℓ : Loc nD τ sig) → Buf (Elt F) ℓ) (ρ : Dev nD → PrngReg)

set_option backward.isDefEq.respectTransparency.types false in
/-- An argument no window stages ends as it was launched. -/
theorem kept {r : PUnit × MemSt nD τ sig (Elt F)} (h : Pipeline.FramePostRG cfgs (dats m) 0 OUT (V m) (G m) r) (c : Dev nD)
    (b : Ref sig .tc) (hb : b ∈ Pipeline.restRefs sig (cfgs 0).spec) (ho : b ∉ OUT) :
    r.2.mem ((c.tc : Thread nD τ).loc b) = V m c b :=
  (h.1 c).2 b (Finset.mem_sdiff.mpr ⟨hb, ho⟩)

set_option backward.isDefEq.respectTransparency.types false in
/-- Every argument ends as it was launched. -/
theorem argsKept {r : PUnit × MemSt nD τ sig (Elt F)} (h : Pipeline.FramePostRG cfgs (dats m) 0 OUT (V m) (G m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
    ⟨(kept m h c main_arg0 (Pipeline.mem_restRefs_of main_arg0 (by decide) (by decide)) (by decide)).trans (V_main_arg0 m c),
      (kept m h c main_arg1 (Pipeline.mem_restRefs_of main_arg1 (by decide) (by decide)) (by decide)).trans (V_main_arg1 m c),
      (kept m h c main_arg2 (Pipeline.mem_restRefs_of main_arg2 (by decide) (by decide)) (by decide)).trans (V_main_arg2 m c),
      (kept m h c main_arg3 (Pipeline.mem_restRefs_of main_arg3 (by decide) (by decide)) (by decide)).trans (V_main_arg3 m c),
      (kept m h c main_arg4 (Pipeline.mem_restRefs_of main_arg4 (by decide) (by decide)) (by decide)).trans (V_main_arg4 m c),
      ((h.1 c).1 1).trans (((dats m 0 c).arrAt_in 1 rfl _).trans (V_main_arg5 m c)),
      (kept m h c main_arg6 (Pipeline.mem_restRefs_of main_arg6 (by decide) (by decide)) (by decide)).trans (V_main_arg6 m c),
      (kept m h c main_arg7 (Pipeline.mem_restRefs_of main_arg7 (by decide) (by decide)) (by decide)).trans (V_main_arg7 m c),
      (kept m h c main_arg8 (Pipeline.mem_restRefs_of main_arg8 (by decide) (by decide)) (by decide)).trans (V_main_arg8 m c),
      (kept m h c main_arg9 (Pipeline.mem_restRefs_of main_arg9 (by decide) (by decide)) (by decide)).trans (V_main_arg9 m c),
      (kept m h c main_arg10 (Pipeline.mem_restRefs_of main_arg10 (by decide) (by decide)) (by decide)).trans (V_main_arg10 m c)⟩

/-- What the kernel's run leaves: its arguments as launched, and every semaphore at zero. -/
theorem kernel : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
    ∧ r.2.sem = fun _ => 0) :=
  (θ_run defs _ _).mono (fun r h => ⟨argsKept m h.2, h.1⟩) (run m ρ)

end Kernel

theorem frame_PI : @Cert.quiescent_KernelIdeal Cert.KernelIdeal.Gen.facts := fun m ρ _ => kernel m ρ

theorem frame_P : @Cert.quiescent_Kernel Cert.Kernel.Gen.facts := by
  intro m ρ _
  have h := @kernel Bits _ Same.namedWord m ρ
  rw [Same.defs_eq Cert.Kernel.Gen.facts Cert.KernelIdeal.Gen.facts, Same.main_eq Cert.Kernel.Gen.facts Cert.KernelIdeal.Gen.facts] at h
  exact h

theorem frame_RI : @Cert.quiescent_ReferenceIdeal Cert.ReferenceIdeal.Gen.facts := fun m ρ _ =>
  (θ_run Cert.ReferenceIdeal.defs _ _).mono (fun r h => ⟨fun c => (h c).2.2.2.2.2.2, sem_eq_zero_of_no_sems (by decide) r.2⟩)
    (Cert.ReferenceIdeal.Value.run (F := Ideal) m ρ)

theorem preserves : Cert.preserves_Kernel_KernelIdeal :=
  IdealRules.named_const.statement _ _ _ _ _ rfl

end Cert.Proof.Frames
-- ==== Proof.KRead.lean ====
module

public import proofs.«01_k».proof.Proof.Spec
public import proofs.«01_k».proof.Proof.Trip1
public import Idealize.ShloMosaic.Lib.Pipeline.Value

/-! # The blocks the kernel computes, entry by entry

Each block read at an entry, over the extended reals, and the six arrays made of the blocks. -/

@[expose] public section

noncomputable section

namespace Cert.Proof.KRead

open Cert.KernelIdeal Cert.KernelIdeal.Gen Cert.Proof.Names Cert.Proof.Blocks Cert.Proof.Spec Cert.Proof.Trip1 Cert.Proof.Trip2
open Idealize.ShloMosaic Idealize.ShloMosaic.Ring Idealize.ShloMosaic.ValueIdx

/-- Row `r` of block `b`. -/
abbrev row (b : Fin 8) (r : Fin 512) : Fin 4096 := ⟨512 * b.val + r.val, by have := b.isLt; have := r.isLt; omega⟩

theorem row_of (r : Fin 4096) : row (blkOf r) (inBlk r) = r :=
  Fin.ext (by show 512 * (r.val / 512) + r.val % 512 = r.val; omega)

section Windows
variable {α : Type}

theorem winW_at (x : S4096x4096.Idx → α) (b : Fin 8) (i : Fin 512) (j : Fin 4096) : winW x b (ix2 i j) = x (ix2 (row b i) j) := by
  refine congrArg x (funext fun a => Fin.ext ?_)
  match a with
  | ⟨0, _⟩ => show 512 * b.val + 1 * i.val = 512 * b.val + i.val; omega
  | ⟨1, _⟩ => show 0 + 1 * j.val = j.val; omega
theorem winN_at (x : S4096x128.Idx → α) (b : Fin 8) (i : Fin 512) (j : Fin 128) : winN x b (ix2 i j) = x (ix2 (row b i) j) := by
  refine congrArg x (funext fun a => Fin.ext ?_)
  match a with
  | ⟨0, _⟩ => show 512 * b.val + 1 * i.val = 512 * b.val + i.val; omega
  | ⟨1, _⟩ => show 0 + 1 * j.val = j.val; omega
theorem winC_at (x : S1x4096.Idx → α) (b : Fin 8) (j : Fin 512) : winC x b (ix2 0 j) = x (ix2 0 (row b j)) := by
  refine congrArg x (funext fun a => Fin.ext ?_)
  match a with
  | ⟨0, _⟩ => rfl
  | ⟨1, _⟩ => show 512 * b.val + 1 * j.val = 512 * b.val + j.val; omega

/-- An array all of whose blocks read one function is that function. -/
theorem wide_eq (P : Fin 8 → S512x4096.Idx → α) (f : Fin 4096 → Fin 4096 → α) (h : ∀ b i j, P b (ix2 i j) = f (row b i) j)
    (i : S4096x4096.Idx) : wide P i = f (i 0) (i 1) :=
  (h (blkOf (i 0)) (inBlk (i 0)) (i 1)).trans (congrArg (f · (i 1)) (row_of (i 0)))
theorem narrow_eq (P : Fin 8 → S512x128.Idx → α) (f : Fin 4096 → Fin 128 → α) (h : ∀ b i j, P b (ix2 i j) = f (row b i) j)
    (i : S4096x128.Idx) : narrow P i = f (i 0) (i 1) :=
  (h (blkOf (i 0)) (inBlk (i 0)) (i 1)).trans (congrArg (f · (i 1)) (row_of (i 0)))
end Windows

/-! ## The two products -/

theorem l1_0 (i : S512x128.Idx) (q : dot_S512x4096_S4096x128_S512x128_1_0_0_1_n_n.contr.Idx) :
    (dot_S512x4096_S4096x128_S512x128_1_0_0_1_n_n.lhsIdx i q 0).val = (i 0).val := by
  unfold DotDims.lhsIdx
  rw [dif_neg (show ¬(0 : Fin S512x4096.rank) ∈ dot_S512x4096_S4096x128_S512x128_1_0_0_1_n_n.lhsBatch by decide), dif_pos (show (0 : Fin S512x4096.rank) ∈ dot_S512x4096_S4096x128_S512x128_1_0_0_1_n_n.lhsNonContracting by decide)]
  rfl
theorem r1_1 (i : S512x128.Idx) (q : dot_S512x4096_S4096x128_S512x128_1_0_0_1_n_n.contr.Idx) :
    (dot_S512x4096_S4096x128_S512x128_1_0_0_1_n_n.rhsIdx i q 1).val = (i 1).val := by
  unfold DotDims.rhsIdx
  rw [dif_neg (show ¬(1 : Fin S4096x128.rank) ∈ dot_S512x4096_S4096x128_S512x128_1_0_0_1_n_n.rhsBatch by decide), dif_pos (show (1 : Fin S4096x128.rank) ∈ dot_S512x4096_S4096x128_S512x128_1_0_0_1_n_n.rhsNonContracting by decide)]
  rfl
theorem l2_0 (i : S512x4096.Idx) (q : dot_S512x128_S4096x128_S512x4096_1_1_0_0_n_n.contr.Idx) :
    (dot_S512x128_S4096x128_S512x4096_1_1_0_0_n_n.lhsIdx i q 0).val = (i 0).val := by
  unfold DotDims.lhsIdx
  rw [dif_neg (show ¬(0 : Fin S512x128.rank) ∈ dot_S512x128_S4096x128_S512x4096_1_1_0_0_n_n.lhsBatch by decide), dif_pos (show (0 : Fin S512x128.rank) ∈ dot_S512x128_S4096x128_S512x4096_1_1_0_0_n_n.lhsNonContracting by decide)]
  rfl
theorem r2_0 (i : S512x4096.Idx) (q : dot_S512x128_S4096x128_S512x4096_1_1_0_0_n_n.contr.Idx) :
    (dot_S512x128_S4096x128_S512x4096_1_1_0_0_n_n.rhsIdx i q 0).val = (i 1).val := by
  unfold DotDims.rhsIdx
  rw [dif_neg (show ¬(0 : Fin S4096x128.rank) ∈ dot_S512x128_S4096x128_S512x4096_1_1_0_0_n_n.rhsBatch by decide), dif_pos (show (0 : Fin S4096x128.rank) ∈ dot_S512x128_S4096x128_S512x4096_1_1_0_0_n_n.rhsNonContracting by decide)]
  rfl

/-- The neighbours' product, and the similarities'. -/
theorem matmul1 (x : FVec Ideal S512x4096 .f32) (y : FVec Ideal S4096x128 .f32) (i : Fin 512) (j : Fin 128) :
    matmul dot_S512x4096_S4096x128_S512x128_1_0_0_1_n_n none x y (constant S512x128 .f32 0x00000000#32) (ix2 i j) = ∑ k : Fin 4096, x (ix2 i k) * y (ix2 k j) := by
  simp only [matmul]
  rw [Ideal.matmul_constant_zero_apply, ← Equiv.sum_comp (contrEquiv1 dot_S512x4096_S4096x128_S512x128_1_0_0_1_n_n 4096 rfl rfl).symm]
  refine Finset.sum_congr rfl fun k _ => ?_
  have hk := contrEquiv1_symm_val dot_S512x4096_S4096x128_S512x128_1_0_0_1_n_n 4096 rfl rfl k
  refine congrArg₂ (· * ·) (congrArg x (funext fun a => Fin.ext ?_)) (congrArg y (funext fun a => Fin.ext ?_))
  · match a with
    | ⟨0, _⟩ => exact l1_0 _ _
    | ⟨1, _⟩ => exact (dot_S512x4096_S4096x128_S512x128_1_0_0_1_n_n.lhsIdx_val_of_single rfl _ _).trans hk
  · match a with
    | ⟨0, _⟩ => exact (dot_S512x4096_S4096x128_S512x128_1_0_0_1_n_n.rhsIdx_val_of_single rfl _ _).trans hk
    | ⟨1, _⟩ => exact r1_1 _ _
theorem matmul2 (x : FVec Ideal S512x128 .f32) (y : FVec Ideal S4096x128 .f32) (i : Fin 512) (j : Fin 4096) :
    matmul dot_S512x128_S4096x128_S512x4096_1_1_0_0_n_n none x y (constant S512x4096 .f32 0x00000000#32) (ix2 i j) = ∑ k : Fin 128, x (ix2 i k) * y (ix2 j k) := by
  simp only [matmul]
  rw [Ideal.matmul_constant_zero_apply, ← Equiv.sum_comp (contrEquiv1 dot_S512x128_S4096x128_S512x4096_1_1_0_0_n_n 128 rfl rfl).symm]
  refine Finset.sum_congr rfl fun k _ => ?_
  have hk := contrEquiv1_symm_val dot_S512x128_S4096x128_S512x4096_1_1_0_0_n_n 128 rfl rfl k
  refine congrArg₂ (· * ·) (congrArg x (funext fun a => Fin.ext ?_)) (congrArg y (funext fun a => Fin.ext ?_))
  · match a with
    | ⟨0, _⟩ => exact l2_0 _ _
    | ⟨1, _⟩ => exact (dot_S512x128_S4096x128_S512x4096_1_1_0_0_n_n.lhsIdx_val_of_single rfl _ _).trans hk
  · match a with
    | ⟨0, _⟩ => exact r2_0 _ _
    | ⟨1, _⟩ => exact (dot_S512x128_S4096x128_S512x4096_1_1_0_0_n_n.rhsIdx_val_of_single rfl _ _).trans hk

/-! ## Constants and choices -/

theorem one_sub (v : EReal) : (Scalar.subf (Scalar.ofBits (F := Ideal) .f32 0x3F800000#32) v : Ideal .f32) = 1 - v :=
  congrArg (· - v) one_f32

/-- The mask's word as a number: 1 where the entry is not 0. -/
def bit (a : EReal) : EReal := if a ≠ 0 then 1 else 0
theorem bit_of (a : EReal) : ((((Ideal.cmp .one a 0).setWidth 8).toInt : ℝ) : EReal) = bit a := by
  unfold bit
  by_cases h : a = 0
  · rw [if_neg (not_not.mpr h), show Ideal.cmp .one a 0 = 0#1 from congrArg BitVec.ofBool (decide_eq_false (not_not.mpr h))]
    rw [show ((0#1 : BitVec 1).setWidth 8).toInt = 0 by decide]; norm_num
  · rw [if_pos h, show Ideal.cmp .one a 0 = 1#1 from congrArg BitVec.ofBool (decide_eq_true h)]
    rw [show ((1#1 : BitVec 1).setWidth 8).toInt = 1 by decide]; norm_num

/-! ## The feature blocks -/

section Features
variable (v0 v1 : Elt Ideal .f32) (ed : Mat 4096 4096) (x : Mat 4096 128) (ps : S1x4096.Idx → EReal)

theorem pay1_eq (b : Fin 8) : k0_pay1 (F := Ideal) (edSlot ed b) = winW ed b := by
  unfold k0_pay1
  exact shapeCast_shapeCast (winW ed b) shapeCasts_S512x4096_S1x512x4096 shapeCasts_S1x512x4096_S512x4096

theorem neigh_at (b : Fin 8) (i : Fin 512) (j : Fin 128) :
    neighBlk (F := Ideal) ed x b (ix2 i j) = ∑ k : Fin 4096, ed (ix2 (row b i) k) * x (ix2 k j) := by
  show matmul dot_S512x4096_S4096x128_S512x128_1_0_0_1_n_n none (k0_pay1 (F := Ideal) (edSlot ed b)) x (constant S512x128 .f32 0x00000000#32) (ix2 i j) = _
  rw [pay1_eq, matmul1]
  exact Finset.sum_congr rfl fun k _ => congrArg (· * _) (winW_at ed b i k)

theorem sa_at (b : Fin 8) (i : Fin 512) (j : Fin 128) : saBlk (F := Ideal) v0 x b (ix2 i j) = own v0 x (row b i) j :=
  congrArg (· * v0) (winN_at x b i j)

theorem sn_at (b : Fin 8) (i : Fin 512) (j : Fin 128) : snBlk (F := Ideal) v0 v1 ed x b (ix2 i j) = neigh v0 v1 x ed (row b i) j := by
  show neighBlk (F := Ideal) ed x b (ix2 i j) * (v1 * Scalar.subf (Scalar.ofBits (F := Ideal) .f32 0x3F800000#32) v0) = _
  rw [neigh_at, one_sub]; rfl

theorem ft_at (b : Fin 8) (i : Fin 512) (j : Fin 128) : ftBlk (F := Ideal) v0 v1 ed x b (ix2 i j) = feat v0 v1 x ed (row b i) j :=
  congrArg₂ (· + ·) (sa_at v0 x b i j) (sn_at v0 v1 ed x b i j)

theorem sg_at (b : Fin 8) (i : Fin 512) (j : Fin 128) : sgBlk (F := Ideal) v0 v1 ed x b (ix2 i j) = sgm (feat v0 v1 x ed (row b i) j) := by
  show Scalar.select (Ideal.cmp .one (ftBlk (F := Ideal) v0 v1 ed x b (ix2 i j)) (Ideal.ofBits .f32 0x00000000#32))
    (Ideal.logistic (ftBlk (F := Ideal) v0 v1 ed x b (ix2 i j))) (Ideal.ofBits .f32 0x00000000#32) = _
  rw [ft_at, Ideal.ofBits_zero_f32, pick_ne]; rfl

/-- A column of 512 spread over the block's columns. -/
theorem column_at (y : S512x1.Idx → EReal) (i : Fin 512) (j : Fin 128) :
    broadcastTo S512x128 y broadcasts_S512x1_S512x128 (ix2 i j) = y (ix2 i 0) :=
  broadcastTo_apply y _ _ _ fun a => match a with
    | ⟨0, _⟩ => rfl
    | ⟨1, _⟩ => rfl

theorem ap_at (b : Fin 8) (i : Fin 512) (j : Fin 128) :
    apBlk (F := Ideal) v0 v1 ed x ps b (ix2 i j) = sgm (feat v0 v1 x ed (row b i) j) * ps (ix2 0 (row b i)) := by
  unfold apBlk scaleRows
  rw [mulf_apply, sg_at, column_at]
  refine congrArg (fun t : EReal => sgm (feat v0 v1 x ed (row b i) j) * t) ?_
  rw [shapeCast_apply _ shapeCasts_S1x512_S512x1 (ix2 i 0) (ix2 0 i) (by
    rw [Shape.rowMajor_val_two, Shape.rowMajor_val_two]; show 0 * 512 + i.val = i.val * 1 + 0; omega), shapeCast_self]
  exact winC_at ps b i

theorem nf_at (b : Fin 8) (i : Fin 512) (j : Fin 128) :
    nfBlk (F := Ideal) v0 v1 ed x b (ix2 i j) = unit (feat v0 v1 x ed) (row b i) j := by
  show Ideal.div (ftBlk (F := Ideal) v0 v1 ed x b (ix2 i j)) (broadcastTo S512x128 (sqrt (addf (shapeCast S512x1
    (multiReduction .add [1] S512 (mulf (ftBlk (F := Ideal) v0 v1 ed x b) (ftBlk (F := Ideal) v0 v1 ed x b)) 0x00000000#32 reduces_S512x128_S512 (.inl rfl) rfl)
    shapeCasts_S512_S512x1) (broadcast S512x1 (Scalar.ofBits (F := Ideal) .f32 0x2EDBE6FF#32)))) broadcasts_S512x1_S512x128 (ix2 i j)) = _
  rw [ft_at, column_at]
  unfold unit
  refine congrArg (Ideal.div _) (congrArg Ideal.sqrt (congrArg (· + eps) ?_))
  rw [shapeCast_apply _ shapeCasts_S512_S512x1 (ix2 i 0) (ix1 i) (by
    rw [Shape.rowMajor_val_one, Shape.rowMajor_val_two]; show i.val = i.val * 1 + 0; omega)]
  refine (Ideal.multiReduction_add_single (φ := .f32) _ _ reduces_S512x128_S512 _ _ (ix1 i)).trans ?_
  refine Finset.sum_congr rfl fun k _ => ?_
  have e : reduces_S512x128_S512.lift (ix1 i) k = ix2 i k := funext fun a => Fin.ext (match a with
    | ⟨0, _⟩ => rfl
    | ⟨1, _⟩ => rfl)
  have f := ft_at v0 v1 ed x b i k
  rw [e]
  exact congrArg₂ (· * ·) f f

end Features

/-! ## The edge blocks -/

section Edges
variable (e : Elt Ideal .f32) (v5 : S1x4096.Idx → EReal) (t : EReal) (ed th : Mat 4096 4096) (y : Fin 4096 → Fin 128 → EReal) (nf : Mat 4096 128)

theorem mask_at (b : Fin 8) (i : Fin 512) (j : Fin 4096) :
    maskBlk (F := Ideal) ed b (ix2 i j) = (Ideal.cmp .one (ed (ix2 (row b i) j)) 0).setWidth 8 := by
  have h : maskBlk (F := Ideal) ed b = extui 8 (cmpf .one (k0_pay1 (F := Ideal) (edSlot ed b)) (broadcast S512x4096 (Scalar.ofBits (F := Ideal) .f32 0x00000000#32))) natLt_1_8 := by
    unfold maskBlk k0_pay2
    exact shapeCast_self _ _
  rw [h, pay1_eq]
  show (Ideal.cmp .one (winW ed b (ix2 i j)) (Ideal.ofBits .f32 0x00000000#32)).setWidth 8 = _
  rw [winW_at, Ideal.ofBits_zero_f32]

/-- The mask's word, named: minus infinity. -/
theorem mask_word : (Named.named (F := Ideal) κ "mask" (0xF149F2CA#32 : BitVec (FTy.bits .f32)) : Ideal .f32) = ⊥ :=
  IdealRules.named_const.ideal_named_scalar κ "mask" _ _ rfl

theorem pay15_at (mk : S512x4096.Idx → BitVec 8) (x : FVec Ideal S512x128 .f32) (nf : FVec Ideal S4096x128 .f32) (u : S1x512x4096.Idx → EReal)
    (i : Fin 512) (j : Fin 4096) :
    k0_pay15 (F := Ideal) e (k0_pay18 (F := Ideal) t) mk x nf u (ix2 i j)
      = e * Ideal.exp (if ((∑ k : Fin 128, x (ix2 i k) * nf (ix2 j k))
            - (((mk (ix2 i j)).toInt : ℝ) : EReal) * ((∑ k : Fin 128, x (ix2 i k) * nf (ix2 j k)) * (∑ k : Fin 128, x (ix2 i k) * nf (ix2 j k))))
          * (shapeCast S512x4096 u shapeCasts_S1x512x4096_S512x4096 (ix2 i j) + (((mk (ix2 i j)).toInt : ℝ) : EReal)) ≠ 0 then
        ((∑ k : Fin 128, x (ix2 i k) * nf (ix2 j k))
            - (((mk (ix2 i j)).toInt : ℝ) : EReal) * ((∑ k : Fin 128, x (ix2 i k) * nf (ix2 j k)) * (∑ k : Fin 128, x (ix2 i k) * nf (ix2 j k))))
          * Ideal.div 1 t else ⊥) := by
  have h6 : k0_pay18 (F := Ideal) t = Ideal.div 1 t := congrArg (Ideal.div · t) one_f32
  rw [h6, ← matmul2 x nf i j, ← pick_ne, ← mask_word, ← Ideal.ofBits_zero_f32]
  rfl

theorem edge_at (hnf : ∀ i j, nf (ix2 i j) = unit y i j) (b : Fin 8) (i : Fin 512) (j : Fin 4096) :
    edgeBlk (F := Ideal) e v5 (k0_pay18 (F := Ideal) t) (wide (maskBlk (F := Ideal) ed)) nf th b (ix2 i j)
      = single e t (sim y (row b i) j) (bit (ed (ix2 (row b i) j))) (th (ix2 (row b i) j)) * v5 (ix2 0 j) := by
  have hv : broadcastTo S512x4096 v5 broadcasts_S1x4096_S512x4096 (ix2 i j) = v5 (ix2 0 j) :=
    broadcastTo_apply v5 _ _ _ fun a => match a with
      | ⟨0, _⟩ => rfl
      | ⟨1, _⟩ => rfl
  have hm : (((winW (wide (maskBlk (F := Ideal) ed)) b (ix2 i j)).toInt : ℝ) : EReal) = bit (ed (ix2 (row b i) j)) := by
    rw [winW_wide, mask_at]; exact bit_of _
  have ht : shapeCast S512x4096 (shapeCast S1x512x4096 (winW th b) shapeCasts_S512x4096_S1x512x4096) shapeCasts_S1x512x4096_S512x4096 (ix2 i j) = th (ix2 (row b i) j) := by
    rw [shapeCast_shapeCast]; exact winW_at th b i j
  have hs : ∑ k : Fin 128, winN nf b (ix2 i k) * nf (ix2 j k) = sim y (row b i) j :=
    Finset.sum_congr rfl fun k _ => congrArg₂ (fun p q : EReal => p * q) ((winN_at nf b i k).trans (hnf _ _)) (hnf _ _)
  exact congrArg₂ (fun p q : EReal => Ideal.tanh p * q)
    ((pay15_at e t (winW (wide (maskBlk (F := Ideal) ed)) b) (winN nf b) nf _ i j).trans
      (congrArg (e * ·) (congrArg Ideal.exp (by rw [hm, ht, hs])))) hv

end Edges

end Cert.Proof.KRead

end
-- ==== Proof.KVal.lean ====
module

public import proofs.«01_k».proof.Proof.KRead
public import proofs.«01_k».proof.Proof.Launch
public import proofs.«01_k».proof.Proof.Ref
public import Idealize.ShloMosaic.Lib.Claim
public import Idealize.ShloMosaic.Lib.StableHlo.RunClose
public import Idealize.ShloMosaic.Lib.Pipeline.ValueKit.Geometry

/-! # The kernel's six results, entry by entry

What is staged for the body, read off the arguments, and the arrays it leaves. -/

@[expose] public section

noncomputable section

namespace Cert.Proof.KVal

open Cert.KernelIdeal Cert.KernelIdeal.Gen Cert.Proof.Names Cert.Proof.Blocks Cert.Proof.Spec Cert.Proof.Trip1 Cert.Proof.Trip2 Cert.Proof.KRead Cert.Proof.Body Cert.Proof.Launch
open Idealize.ShloMosaic Idealize.ShloMosaic.TcCoe Idealize.ShloMosaic.Ring Idealize.ShloMosaic.ValueIdx

variable (m : (ℓ : Loc nD τ sig) → Buf (Elt Ideal) ℓ) (c : Dev nD)

/-- An argument as launched. -/
abbrev arg (b : Ref sig .tc) : Buf (Elt Ideal) ((c : Thread nD τ).loc b) := m ((c : Thread nD τ).loc b)

theorem v4_eq : V m c main_v4 = concatenate S4x2 0 [⟨S1x2, broadcastInDim S1x2 ![1] bcast_S2_S1x2_1 (arg m c main_arg0)⟩,
    ⟨S1x2, broadcastInDim S1x2 ![1] bcast_S2_S1x2_1 (arg m c main_arg1)⟩, ⟨S1x2, broadcastInDim S1x2 ![1] bcast_S2_S1x2_1 (arg m c main_arg2)⟩,
    ⟨S1x2, broadcastInDim S1x2 ![1] bcast_S2_S1x2_1 (arg m c main_arg3)⟩] concatenates_S1x2_S1x2_S1x2_S1x2_S4x2_d0 := by
  simp only [V, hostOps0, hostOps0_1, hostOps0_2, List.flatten_cons, List.flatten_nil, List.append_nil, List.cons_append, List.nil_append]
  after_results_entrywise [cast_eq]

theorem v7_eq : V m c main_v7 = broadcastInDim S1x4096 ![1] bcast_S4096_S1x4096_1
    (Host.reduceAdd (Ref.rowsR (arg m c main_arg4) (arg m c main_arg8)) (constant S_ .f32 0x00000000#32) reducesTo_S4096x2_S4096_d1 h_S_) := by
  simp only [V, hostOps0, hostOps0_1, hostOps0_2, List.flatten_cons, List.flatten_nil, List.append_nil, List.cons_append, List.nil_append]
  after_results_entrywise [cast_eq]

theorem stage0 (i : S4x2.Idx) : iblk m c 0 t0_0 i = V m c main_v4 i := by
  refine congrArg (V m c main_v4) (funext fun a => Fin.ext ?_)
  match a with
  | ⟨0, _⟩ => blk_simp; show 0 * 4 + (i 0).val = (i 0).val; omega
  | ⟨1, _⟩ => blk_simp; show 0 * 2 + (i 1).val = (i 1).val; omega

theorem stage1 : iblk m c 1 t0_0 = arg m c main_arg5 := by
  refine Eq.trans (funext fun i => congrArg (V m c main_arg5) (funext fun a => Fin.ext ?_)) (V_main_arg5 m c)
  match a with
  | ⟨0, _⟩ => blk_simp; show 0 * 4096 + (i 0).val = (i 0).val; omega
  | ⟨1, _⟩ => blk_simp; show 0 * 128 + (i 1).val = (i 1).val; omega

theorem stage2 (i : S1x4096.Idx) : iblk m c 2 t0_0 i = V m c main_v7 i := by
  refine congrArg (V m c main_v7) (funext fun a => Fin.ext ?_)
  match a with
  | ⟨0, _⟩ => blk_simp; rfl
  | ⟨1, _⟩ => blk_simp; show 0 * 4096 + (i 1).val = (i 1).val; omega

/-! ## The parameters -/

/-- A vector of two numbers as a row of the table. -/
theorem line_at (x : S2.Idx → EReal) : broadcastInDim S1x2 ![1] bcast_S2_S1x2_1 x (ix2 0 0) = x (ix1 0) :=
  broadcastInDim_apply _ _ x _ _ fun a => match a with
    | ⟨0, _⟩ => rfl

section Table
variable (x y z w : S1x2.Idx → EReal)

/-- Four rows, one under the other, read at the first column. -/
abbrev table : S4x2.Idx → EReal :=
  concatenate S4x2 0 [⟨S1x2, x⟩, ⟨S1x2, y⟩, ⟨S1x2, z⟩, ⟨S1x2, w⟩] concatenates_S1x2_S1x2_S1x2_S1x2_S4x2_d0

theorem table_at (k : Fin 4) (u : S1x2.Idx → EReal) (h : [(⟨S1x2, x⟩ : (s : Shape) × (s.Idx → EReal)), ⟨S1x2, y⟩, ⟨S1x2, z⟩, ⟨S1x2, w⟩][k.val] = ⟨S1x2, u⟩)
    (hp : ((([(⟨S1x2, x⟩ : (s : Shape) × (s.Idx → EReal)), ⟨S1x2, y⟩, ⟨S1x2, z⟩, ⟨S1x2, w⟩].take k.val).map (·.1)).map
      fun s => if h : s.rank = S4x2.rank then s.size ((0 : Fin S4x2.rank).cast h.symm) else 0).sum = k.val) :
    table x y z w (ix2 k 0) = u (ix2 0 0) :=
  concatenate_apply_piece (t := S4x2) 0 [⟨S1x2, x⟩, ⟨S1x2, y⟩, ⟨S1x2, z⟩, ⟨S1x2, w⟩] concatenates_S1x2_S1x2_S1x2_S1x2_S4x2_d0 (ix2 k 0) k.val k.isLt S1x2 u h rfl k.val hp (ix2 0 0)
    (fun b hb => match b with
      | ⟨0, _⟩ => absurd rfl hb
      | ⟨1, _⟩ => rfl) rfl

theorem table_0 : table x y z w (ix2 0 0) = x (ix2 0 0) := table_at x y z w 0 x rfl rfl
theorem table_1 : table x y z w (ix2 1 0) = y (ix2 0 0) := table_at x y z w 1 y rfl rfl
theorem table_2 : table x y z w (ix2 2 0) = z (ix2 0 0) := table_at x y z w 2 z rfl rfl
theorem table_3 : table x y z w (ix2 3 0) = w (ix2 0 0) := table_at x y z w 3 w rfl rfl
end Table

theorem prm_at (k : Fin 4) : prm c (st0_0 t0_0) (s0 m c) k = V m c main_v4 (ix2 k 0) := by
  refine (congrFun (View.read_rep (st0_0 t0_0).view (iblk m c 0 t0_0)) (ix k)).trans ((stage0 m c _).trans (congrArg (V m c main_v4) (funext fun a => ?_)))
  match a with
  | ⟨0, _⟩ => rfl
  | ⟨1, _⟩ => rfl

theorem prm_0 : prm c (st0_0 t0_0) (s0 m c) 0 = arg m c main_arg0 (ix1 0) := by
  rw [prm_at, v4_eq]; exact (table_0 _ _ _ _).trans (line_at _)
theorem prm_1 : prm c (st0_0 t0_0) (s0 m c) 1 = arg m c main_arg1 (ix1 0) := by
  rw [prm_at, v4_eq]; exact (table_1 _ _ _ _).trans (line_at _)
theorem prm_2 : p2 m c = arg m c main_arg2 (ix1 0) := by
  rw [p2, prm_at, v4_eq]; exact (table_2 _ _ _ _).trans (line_at _)
theorem prm_3 : p3 m c = arg m c main_arg3 (ix1 0) := by
  rw [p3, prm_at, v4_eq]; exact (table_3 _ _ _ _).trans (line_at _)

/-! ## The arrays the body reads -/

theorem ps_at (j : Fin 4096) : psA c (st0_2 t0_0) (s2 m c) (ix2 0 j)
    = 0 + (Ref.rowsR (arg m c main_arg4) (arg m c main_arg8) (ix2 j 0) + Ref.rowsR (arg m c main_arg4) (arg m c main_arg8) (ix2 j 1)) := by
  refine (congrFun (View.read_rep (st0_2 t0_0).view (iblk m c 2 t0_0)) (ix2 0 j)).trans ((stage2 m c _).trans ?_)
  rw [v7_eq]
  generalize Ref.rowsR (arg m c main_arg4) (arg m c main_arg8) = y
  refine (broadcastInDim_apply _ _ _ _ (ix1 j) fun a => match a with
    | ⟨0, _⟩ => rfl).trans ?_
  simp only [Host.reduceAdd, Ideal.hostReduceAdd_def]
  rw [Ideal.hostReduceAdd_single reducesTo_S4096x2_S4096_d1 (by decide)]
  refine congrArg₂ (fun a b : EReal => a + b) Ideal.ofBits_zero_f32 ((Fin.sum_univ_two _).trans (congrArg₂ (fun a b : EReal => a + b) (congrArg y (funext fun a => ?_)) (congrArg y (funext fun a => ?_))))
  · match a with
    | ⟨0, _⟩ => rfl
    | ⟨1, _⟩ => rfl
  · match a with
    | ⟨0, _⟩ => rfl
    | ⟨1, _⟩ => rfl

theorem at_eq : atA c (st0_1 t0_0) (s1 m c) = arg m c main_arg5 :=
  (View.read_rep (st0_1 t0_0).view (iblk m c 1 t0_0)).trans (stage1 m c)
theorem ed_eq : edA c (V m c main_arg6) = arg m c main_arg6 := V_main_arg6 m c
theorem th_eq : thM.view.read (Elt Ideal) (V m c main_arg7) = arg m c main_arg7 := V_main_arg7 m c

/-- The row of sums, as the second pass takes it. -/
theorem row_at (x : S1x4096.Idx → EReal) : k0_pay17 (F := Ideal) x = x := shapeCast_self _ _

end Cert.Proof.KVal

end
-- ==== Proof.Pre.lean ====
module

public import proofs.«01_k».proof.Defs
public import proofs.«01_k».proof.Proof.Spec
public import Idealize.ShloMosaic.Lib.ReduceAll
public import Idealize.ShloMosaic.Lib.Affine
public import Idealize.ShloMosaic.Lib.Pipeline.Value

/-! # What the precondition says

Both personas share their four parameters, an edge is 0 or 1, an edge's two-hop entry is not -1, and the personas'
shares are numbers. -/

@[expose] public section

noncomputable section

namespace Cert.Proof.Pre

open Cert.Pre_inputs_ok Cert.Proof.Spec
open Idealize.ShloMosaic Idealize.ShloMosaic.ValueIdx

instance facts : Cert.Pre_inputs_ok.Facts where
  slices_S2_S1_0 := by decide
  shapeCasts_S1_S_ := by decide
  slices_S2_S1_1 := by decide
  bcast_S_S4096x4096 := by decide
  reducesTo_S4096x4096_S_d0_1 := by decide
  h_S_ := by decide
  bcast_S_S2x4096x2 := by decide
  reducesTo_S2x4096x2_S_d0_1_2 := by decide

theorem minus_one : Ideal.ofBits .f32 0xBF800000#32 = -1 := by
  simp [Ideal.ofBits, Ideal.ieee]
  rw [← EReal.coe_mul, ← EReal.coe_one, EReal.coe_eq_coe_iff]
  norm_num
theorem infinity : Ideal.ofBits .f32 0x7F800000#32 = ⊤ := by
  simp [Ideal.ofBits, Ideal.ieee]

/-- The entry of a pair. -/
theorem first_of (x : S2.Idx → EReal) : shapeCast S_ (extractStridedSlice S1 ![0] x Facts.slices_S2_S1_0) Facts.shapeCasts_S1_S_ ix0 = x (ix1 0) :=
  (shapeCast_apply _ _ ix0 (ix1 0) (by decide)).trans (extractStridedSlice_apply _ x _ (ix1 0) (ix1 0) fun a => match a with | ⟨0, _⟩ => rfl)
theorem second_of (x : S2.Idx → EReal) : shapeCast S_ (extractStridedSlice S1 ![1] x Facts.slices_S2_S1_1) Facts.shapeCasts_S1_S_ ix0 = x (ix1 1) :=
  (shapeCast_apply _ _ ix0 (ix1 0) (by decide)).trans (extractStridedSlice_apply _ x _ (ix1 0) (ix1 1) fun a => match a with | ⟨0, _⟩ => rfl)

theorem alike (x : S2.Idx → EReal)
    (h : Ideal.cmp .oeq (shapeCast S_ (extractStridedSlice S1 ![0] x Facts.slices_S2_S1_0) Facts.shapeCasts_S1_S_ ix0)
      (shapeCast S_ (extractStridedSlice S1 ![1] x Facts.slices_S2_S1_1) Facts.shapeCasts_S1_S_ ix0) = 1#1) : x (ix1 1) = x (ix1 0) :=
  ((second_of x).symm.trans (of_oeq h).symm).trans (first_of x)

/-- A size below infinity is a number's. -/
theorem number_of {x : EReal} (h : max x (-x) < ⊤) : ∃ a : ℝ, x = a := by
  induction x with
  | bot => exact absurd h (by simp)
  | top => exact absurd h (by simp)
  | coe x => exact ⟨x, rfl⟩

instance : Subsingleton S_.Idx := ⟨fun i j => funext fun a => a.elim0⟩

structure Says (x0 x1 x2 x3 : S2.Idx → EReal) (x4 : S2x4096x2.Idx → EReal) (x6 x7 : S4096x4096.Idx → EReal) : Prop where
  t : x0 (ix1 1) = x0 (ix1 0)
  e : x1 (ix1 1) = x1 (ix1 0)
  r : x2 (ix1 1) = x2 (ix1 0)
  w : x3 (ix1 1) = x3 (ix1 0)
  edge : ∀ i, x6 i = 0 ∨ (x6 i = 1 ∧ x7 i ≠ -1)
  share : ∀ i, ∃ a : ℝ, x4 i = a

theorem reads (x0 x1 x2 x3 : S2.Idx → EReal) (x4 : S2x4096x2.Idx → EReal) (x5 : S4096x128.Idx → EReal) (x6 x7 : S4096x4096.Idx → EReal)
    (x8 x9 x10) (h : Cert.Pre_inputs_ok.fn (F := Ideal) x0 x1 x2 x3 x4 x5 x6 x7 x8 x9 x10 = fun _ => 1#1) : Says x0 x1 x2 x3 x4 x6 x7 := by
  have h0 := congrFun h ix0
  dsimp only [fn, fn_part1] at h0
  obtain ⟨h1, hs⟩ := IntOp.andi_eq_one.mp h0
  obtain ⟨h2, hd⟩ := IntOp.andi_eq_one.mp h1
  obtain ⟨h3, hw⟩ := IntOp.andi_eq_one.mp h2
  obtain ⟨h4, hr⟩ := IntOp.andi_eq_one.mp h3
  obtain ⟨ht, he⟩ := IntOp.andi_eq_one.mp h4
  refine ⟨alike x0 ht, alike x1 he, alike x2 hr, alike x3 hw, fun i => ?_, fun i => ?_⟩
  · have hi := Host.reduce_andi_all _ _ _ _ ix0 hd i
    rcases IntOp.ori_eq_one.mp hi with hz | ho
    · exact .inl ((of_oeq hz).trans Ideal.ofBits_zero_f32)
    · obtain ⟨ha, hb⟩ := IntOp.andi_eq_one.mp ho
      exact .inr ⟨(of_oeq ha).trans one_f32, fun e => of_une hb (e.trans minus_one.symm)⟩
  · have hi := of_olt (Host.reduce_andi_all _ _ _ _ ix0 hs i)
    exact number_of (lt_of_lt_of_eq hi infinity)

end Cert.Proof.Pre

end
-- ==== Proof.Results.lean ====
module

public import proofs.«01_k».proof.Proof.KVal
public import proofs.«01_k».proof.Proof.Pre

/-! # The kernel's six results are the reference's

Each array the kernel leaves is read at an entry, and set against the reference's entry of the same number. The
precondition makes the two halves of every parameter agree, so the reference's second group of numbers may be read at
the first parameter, where the kernel reads it. -/

@[expose] public section

noncomputable section

namespace Cert.Proof.Results

open Cert.KernelIdeal Cert.KernelIdeal.Gen Cert.Proof.Names Cert.Proof.Blocks Cert.Proof.Spec Cert.Proof.Trip1 Cert.Proof.Trip2 Cert.Proof.KRead Cert.Proof.Body Cert.Proof.Launch Cert.Proof.KVal
open Idealize.ShloMosaic Idealize.ShloMosaic.TcCoe Idealize.ShloMosaic.Ring Idealize.ShloMosaic.ValueIdx
open Cert.ReferenceIdeal.Read

variable (m : (ℓ : Loc nD τ sig) → Buf (Elt Ideal) ℓ) (c : Dev nD)

/-! ## The kernel's entries -/

/-- The features the kernel computes, from the arguments. -/
abbrev kfeat : Fin 4096 → Fin 128 → EReal :=
  feat (arg m c main_arg2 (ix1 0)) (arg m c main_arg3 (ix1 0)) (arg m c main_arg5) (arg m c main_arg6)

/-- The two columns of shares of a node, summed as the kernel sums them. -/
abbrev both (j : Fin 4096) : EReal :=
  0 + (Ref.rowsR (arg m c main_arg4) (arg m c main_arg8) (ix2 j 0) + Ref.rowsR (arg m c main_arg4) (arg m c main_arg8) (ix2 j 1))

theorem own_entry (i : S4096x128.Idx) : G m c main_v8_4 i = own (arg m c main_arg2 (ix1 0)) (arg m c main_arg5) (i 0) (i 1) := by
  rw [G_4, saArr, at_eq, prm_2]
  exact narrow_eq _ _ (sa_at _ _) i
theorem neigh_entry (i : S4096x128.Idx) :
    G m c main_v8_5 i = neigh (arg m c main_arg2 (ix1 0)) (arg m c main_arg3 (ix1 0)) (arg m c main_arg5) (arg m c main_arg6) (i 0) (i 1) := by
  rw [G_5, snArr, at_eq, ed_eq, prm_2, prm_3]
  exact narrow_eq _ _ (sn_at _ _ _ _) i
theorem feat_entry (i : S4096x128.Idx) : G m c main_v8_3 i = kfeat m c (i 0) (i 1) := by
  rw [G_3, ftArr, at_eq, ed_eq, prm_2, prm_3]
  exact narrow_eq _ _ (ft_at _ _ _ _) i
theorem sg_entry (i : S4096x128.Idx) : G m c main_v8_2 i = sgm (kfeat m c (i 0) (i 1)) := by
  rw [G_2, sgArr, at_eq, ed_eq, prm_2, prm_3]
  exact narrow_eq _ (fun i j => sgm (kfeat m c i j)) (sg_at _ _ _ _) i
theorem attr_entry (i : S4096x128.Idx) : G m c main_v8_1 i = sgm (kfeat m c (i 0) (i 1)) * both m c (i 0) := by
  rw [G_1, apArr, at_eq, ed_eq, prm_2, prm_3]
  exact narrow_eq _ (fun i j => sgm (kfeat m c i j) * both m c i) (fun b i j => (ap_at _ _ _ _ _ b i j).trans
    (congrArg (fun t : EReal => sgm (kfeat m c (row b i) j) * t) (ps_at m c (row b i)))) i
theorem edges_entry (i : S4096x4096.Idx) : G m c main_v8_0 i
    = single (arg m c main_arg1 (ix1 0)) (arg m c main_arg0 (ix1 0)) (sim (kfeat m c) (i 0) (i 1)) (bit (arg m c main_arg6 (ix2 (i 0) (i 1))))
      (arg m c main_arg7 (ix2 (i 0) (i 1))) * both m c (i 1) := by
  have hnf : ∀ a b, nfFn c (V m c main_arg6) (st0_1 t0_0) (s1 m c) (p2 m c) (p3 m c) (ix2 a b) = unit (kfeat m c) a b := fun a b => by
    rw [nfFn, at_eq, ed_eq, prm_2, prm_3]
    exact narrow_eq _ (unit (kfeat m c)) (nf_at _ _ _ _) (ix2 a b)
  rw [G_0, epArr, mkFn, ed_eq, th_eq, prm_0, prm_1, row_at]
  have hps := ps_at m c
  revert hnf hps
  generalize nfFn c _ (st0_1 t0_0) (s1 m c) (p2 m c) (p3 m c) = nf
  generalize psA c (st0_2 t0_0) (s2 m c) = ps
  intro hnf hps
  exact wide_eq _ (fun i j => single (arg m c main_arg1 (ix1 0)) (arg m c main_arg0 (ix1 0)) (sim (kfeat m c) i j) (bit (arg m c main_arg6 (ix2 i j)))
      (arg m c main_arg7 (ix2 i j)) * both m c j)
    (fun b i j => (edge_at (arg m c main_arg1 (ix1 0)) ps (arg m c main_arg0 (ix1 0)) (arg m c main_arg6) (arg m c main_arg7) (kfeat m c) nf hnf b i j).trans
      (by rw [hps])) i

/-! ## Against the reference -/

variable (h : Pre.Says (arg m c main_arg0) (arg m c main_arg1) (arg m c main_arg2) (arg m c main_arg3) (arg m c main_arg4) (arg m c main_arg6) (arg m c main_arg7))

/-- Every share the reference cuts out is one of those given, so a real number. -/
theorem share_real (x4 : S2x4096x2.Idx → EReal) (x8 : S_.Idx → BitVec 32) (hx : ∀ i, ∃ a : ℝ, x4 i = a) (i : S4096x2.Idx) :
    ∃ a : ℝ, Ref.rowsR x4 x8 i = a := hx _

include h

theorem own_same : val_main_v123 (F := Ideal) (arg m c main_arg2) (arg m c main_arg5) = G m c main_v8_4 := funext fun i => by
  rw [own_entry, eq_ix2 i]
  refine (Ref.own_result _ _ (i 0) (i 1)).trans ?_
  rw [h.r]
theorem neigh_same : val_main_v128 (F := Ideal) (arg m c main_arg2) (arg m c main_arg3) (arg m c main_arg5) (arg m c main_arg6) = G m c main_v8_5 := funext fun i => by
  rw [neigh_entry, eq_ix2 i]
  refine (Ref.neigh_result _ _ _ _ (i 0) (i 1)).trans ?_
  rw [h.r, h.w]
theorem feat_same : val_main_v129 (F := Ideal) (arg m c main_arg2) (arg m c main_arg3) (arg m c main_arg5) (arg m c main_arg6) = G m c main_v8_3 := funext fun i => by
  rw [feat_entry, eq_ix2 i]
  refine (Ref.feat_second _ _ _ _ (i 0) (i 1)).trans ?_
  rw [h.r, h.w]
theorem sg_same : val_main_v138 (F := Ideal) (arg m c main_arg2) (arg m c main_arg3) (arg m c main_arg5) (arg m c main_arg6) = G m c main_v8_2 := funext fun i => by
  rw [sg_entry, eq_ix2 i]
  refine (Ref.sg_result _ _ _ _ (i 0) (i 1)).trans ?_
  rw [h.r, h.w]
theorem attr_same : val_main_v231 (F := Ideal) (arg m c main_arg2) (arg m c main_arg3) (arg m c main_arg4) (arg m c main_arg5) (arg m c main_arg6) (arg m c main_arg8)
    = G m c main_v8_1 := funext fun i => by
  rw [attr_entry, eq_ix2 i]
  refine (Ref.attr_result _ _ _ _ _ _ (i 0) (i 1)).trans ?_
  rw [h.r, h.w, shares (sgm_real _) (share_real _ _ h.share _) (share_real _ _ h.share _)]
  exact congrArg₂ (fun a b : EReal => a + b) (mul_comm _ _) (mul_comm _ _)
/-- An entry is an edge or no edge, and its threshold is not -1 where it is one. -/
theorem edge_or (i : S4096x4096.Idx) : (arg m c main_arg6 i = (0 : EReal) ∧ bit (arg m c main_arg6 i) = 0)
    ∨ (arg m c main_arg6 i = (1 : EReal) ∧ bit (arg m c main_arg6 i) = 1 ∧ arg m c main_arg7 i ≠ (-1 : EReal)) := by
  rcases h.edge i with h0 | ⟨h1, hn⟩
  · exact .inl ⟨h0, if_neg (not_not.mpr h0)⟩
  · exact .inr ⟨h1, if_pos (fun h0 => one_ne_zero (h1.symm.trans h0)), hn⟩
theorem edges_same : val_main_v227 (F := Ideal) (arg m c main_arg0) (arg m c main_arg1) (arg m c main_arg2) (arg m c main_arg3) (arg m c main_arg4)
    (arg m c main_arg5) (arg m c main_arg6) (arg m c main_arg7) (arg m c main_arg8) = G m c main_v8_0 := funext fun i => by
  rw [edges_entry, eq_ix2 i]
  refine (Ref.edges_result _ _ _ _ _ _ _ _ _ (i 0) (i 1)).trans ?_
  rw [h.t, h.e, h.r, h.w, ← exits_single _ _ _ _ _ _ (edge_or m c h (ix2 (i 0) (i 1)))]
  exact (shares (tanh_real _) (share_real _ _ h.share _) (share_real _ _ h.share _)).symm

end Cert.Proof.Results

end
-- ==== Proof.Algebraic.lean ====
module

public import proofs.«01_k».proof.Proof.Results
public import proofs.«01_k».proof.Proof.Frames

/-! # The kernel computes what the reference computes

Both runs name what their result arrays hold; under the precondition the six pairs are the same arrays. -/

@[expose] public section

noncomputable section

namespace Cert.Proof.Algebraic

open Cert.KernelIdeal Cert.KernelIdeal.Gen Cert.Proof.Launch Cert.Proof.KVal
open Idealize.ShloMosaic Idealize.ShloMosaic.TcCoe Idealize.ShloMosaic.StableHlo Idealize.SL.Sem
open Cert.ReferenceIdeal.Read

section Same
variable (m : (ℓ : Loc nD τ sig) → Buf (Elt Ideal) ℓ) (c : Dev nD)

/-- The six results, on arguments equal to the kernel's. -/
theorem all_same (h : Pre.Says (arg m c main_arg0) (arg m c main_arg1) (arg m c main_arg2) (arg m c main_arg3) (arg m c main_arg4) (arg m c main_arg6) (arg m c main_arg7))
    {x0 x1 x2 x3 : S2.Idx → EReal} {x4 : S2x4096x2.Idx → EReal} {x5 : S4096x128.Idx → EReal} {x6 x7 : S4096x4096.Idx → EReal} {x8 : S_.Idx → BitVec 32}
    (h0 : x0 = arg m c main_arg0) (h1 : x1 = arg m c main_arg1) (h2 : x2 = arg m c main_arg2) (h3 : x3 = arg m c main_arg3) (h4 : x4 = arg m c main_arg4)
    (h5 : x5 = arg m c main_arg5) (h6 : x6 = arg m c main_arg6) (h7 : x7 = arg m c main_arg7) (h8 : x8 = arg m c main_arg8) :
    val_main_v227 (F := Ideal) x0 x1 x2 x3 x4 x5 x6 x7 x8 = G m c main_v8_0
    ∧ val_main_v231 (F := Ideal) x2 x3 x4 x5 x6 x8 = G m c main_v8_1
    ∧ val_main_v138 (F := Ideal) x2 x3 x5 x6 = G m c main_v8_2
    ∧ val_main_v129 (F := Ideal) x2 x3 x5 x6 = G m c main_v8_3
    ∧ val_main_v123 (F := Ideal) x2 x5 = G m c main_v8_4
    ∧ val_main_v128 (F := Ideal) x2 x3 x5 x6 = G m c main_v8_5 := by
  subst h0 h1 h2 h3 h4 h5 h6 h7 h8
  exact ⟨Results.edges_same m c h, Results.attr_same m c h, Results.sg_same m c h, Results.feat_same m c h, Results.own_same m c h, Results.neigh_same m c h⟩
end Same

theorem algebraic : @Cert.algebraic_KernelIdeal_ReferenceIdeal_pre_inputs_ok Cert.KernelIdeal.Gen.facts Cert.ReferenceIdeal.Gen.facts Pre.facts := by
  intro m ρ m' ρ' hpre hargs
  refine ⟨fun c => G m c main_v8_0, fun c => G m c main_v8_1, fun c => G m c main_v8_2, fun c => G m c main_v8_3, fun c => G m c main_v8_4,
    fun c => G m c main_v8_5, ?_, ?_⟩
  · exact (θ_run defs _ _).mono (fun r h c => ⟨h.2.2 c main_v8_0 (by decide), h.2.2 c main_v8_1 (by decide), h.2.2 c main_v8_2 (by decide),
      h.2.2 c main_v8_3 (by decide), h.2.2 c main_v8_4 (by decide), h.2.2 c main_v8_5 (by decide), Frames.argsKept m h.2 c⟩) (run m ρ)
  · refine (θ_run Cert.ReferenceIdeal.defs _ _).mono (fun r h c => ?_) (Cert.ReferenceIdeal.Value.run (F := Ideal) m' ρ')
    obtain ⟨h0, h1, h2, h3, h4, h5, h6, h7, h8, -⟩ := hargs c
    obtain ⟨s0, s1, s2, s3, s4, s5⟩ := all_same m c (Pre.reads _ _ _ _ _ _ _ _ _ _ _ (hpre c)) h0 h1 h2 h3 h4 h5 h6 h7 h8
    obtain ⟨r0, r1, r2, r3, r4, r5, rest⟩ := h c
    exact ⟨(r0.trans (val_main_v227_eq (launchContents m' c))).trans s0, (r1.trans (val_main_v231_eq (launchContents m' c))).trans s1,
      (r2.trans (val_main_v138_eq (launchContents m' c))).trans s2, (r3.trans (val_main_v129_eq (launchContents m' c))).trans s3,
      (r4.trans (val_main_v123_eq (launchContents m' c))).trans s4, (r5.trans (val_main_v128_eq (launchContents m' c))).trans s5, rest⟩

end Cert.Proof.Algebraic

end
-- ==== Proof.lean ====
module

public import proofs.«01_k».proof.Defs
public import proofs.«01_k».proof.Proof.Frames
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, Pre.facts,
    Frames.frame_P, Frames.frame_PI, fun m ρ _ => Frames.frame_PI m ρ trivial, Frames.frame_RI, fun m ρ _ => Frames.frame_RI m ρ trivial,
    Frames.preserves, Algebraic.algebraic⟩

end Cert.Proof

end
